-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_qk [hPre_finite_qk : Cert.Pre_finite_qk.Facts] (m : (ℓ : Loc Cert.AttnIdeal.nD Cert.AttnIdeal.τ Cert.AttnIdeal.sig) → Buf (Elt Ideal) ℓ) : Prop :=
  ∀ c : Dev Cert.AttnIdeal.nD,
    (Cert.Pre_finite_qk.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_qk [hPre_finite_qk : Cert.Pre_finite_qk.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_qk.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_MergeCtx (m : (ℓ : Loc Cert.MergeCtx.nD Cert.MergeCtx.τ Cert.MergeCtx.sig) → Buf (Elt Bits) ℓ) : Prop :=
  True

def Pre_MergeCtxIdeal (m : (ℓ : Loc Cert.MergeCtxIdeal.nD Cert.MergeCtxIdeal.τ Cert.MergeCtxIdeal.sig) → Buf (Elt Ideal) ℓ) : Prop :=
  True

def Pre_MergeCtxRefIdeal (m : (ℓ : Loc Cert.MergeCtxRefIdeal.nD Cert.MergeCtxRefIdeal.τ Cert.MergeCtxRefIdeal.sig) → Buf (Elt Ideal) ℓ) : Prop :=
  True

def Pre_Adaln (m : (ℓ : Loc Cert.Adaln.nD Cert.Adaln.τ Cert.Adaln.sig) → Buf (Elt Bits) ℓ) : Prop :=
  True

def Pre_AdalnIdeal (m : (ℓ : Loc Cert.AdalnIdeal.nD Cert.AdalnIdeal.τ Cert.AdalnIdeal.sig) → Buf (Elt Ideal) ℓ) : Prop :=
  True

def Pre_AdalnRefIdeal (m : (ℓ : Loc Cert.AdalnRefIdeal.nD Cert.AdalnRefIdeal.τ Cert.AdalnRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepIdeal_finite_prep [hPre_finite_prep : Cert.Pre_finite_prep.Facts] (m : (ℓ : Loc Cert.PrepIdeal.nD Cert.PrepIdeal.τ Cert.PrepIdeal.sig) → Buf (Elt Ideal) ℓ) : Prop :=
  ∀ c : Dev Cert.PrepIdeal.nD,
    (Cert.Pre_finite_prep.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6))) = (fun _ => 1#1)

def Pre_PrepRefIdeal (m : (ℓ : Loc Cert.PrepRefIdeal.nD Cert.PrepRefIdeal.τ Cert.PrepRefIdeal.sig) → Buf (Elt Ideal) ℓ) : Prop :=
  True

def Pre_PrepRefIdeal_finite_prep [hPre_finite_prep : Cert.Pre_finite_prep.Facts] (m : (ℓ : Loc Cert.PrepRefIdeal.nD Cert.PrepRefIdeal.τ Cert.PrepRefIdeal.sig) → Buf (Elt Ideal) ℓ) : Prop :=
  ∀ c : Dev Cert.PrepRefIdeal.nD,
    (Cert.Pre_finite_prep.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6))) = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_finite_qk [hAttnIdeal : Cert.AttnIdeal.Facts] [hPre_finite_qk : Cert.Pre_finite_qk.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_qk m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_finite_qk [hAttnRefIdeal : Cert.AttnRefIdeal.Facts] [hPre_finite_qk : Cert.Pre_finite_qk.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_qk m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_MergeCtx [hMergeCtx : Cert.MergeCtx.Facts] : Prop :=
  ∀ (m : (ℓ : Loc Cert.MergeCtx.nD Cert.MergeCtx.τ Cert.MergeCtx.sig) → Buf (Elt Bits) ℓ) (g : Dev Cert.MergeCtx.nD → PrngReg), Pre_MergeCtx m →
    θ_run (Cert.MergeCtx.defs (F := Bits)) (onTc (τ := Cert.MergeCtx.τ) (Cert.MergeCtx.main (F := Bits))) ⟨m, fun _ => 0, g⟩ (fun r => (∀ c : Dev Cert.MergeCtx.nD,
      r.2.mem ((c.tc : Thread Cert.MergeCtx.nD Cert.MergeCtx.τ).loc Cert.MergeCtx.main_arg0) = m ((c.tc : Thread Cert.MergeCtx.nD Cert.MergeCtx.τ).loc Cert.MergeCtx.main_arg0)
      ∧ r.2.mem ((c.tc : Thread Cert.MergeCtx.nD Cert.MergeCtx.τ).loc Cert.MergeCtx.main_arg1) = m ((c.tc : Thread Cert.MergeCtx.nD Cert.MergeCtx.τ).loc Cert.MergeCtx.main_arg1)
      ∧ r.2.mem ((c.tc : Thread Cert.MergeCtx.nD Cert.MergeCtx.τ).loc Cert.MergeCtx.main_arg2) = m ((c.tc : Thread Cert.MergeCtx.nD Cert.MergeCtx.τ).loc Cert.MergeCtx.main_arg2)
      ∧ r.2.mem ((c.tc : Thread Cert.MergeCtx.nD Cert.MergeCtx.τ).loc Cert.MergeCtx.main_arg3) = m ((c.tc : Thread Cert.MergeCtx.nD Cert.MergeCtx.τ).loc Cert.MergeCtx.main_arg3)
      ∧ r.2.mem ((c.tc : Thread Cert.MergeCtx.nD Cert.MergeCtx.τ).loc Cert.MergeCtx.main_arg4) = m ((c.tc : Thread Cert.MergeCtx.nD Cert.MergeCtx.τ).loc Cert.MergeCtx.main_arg4)
      ∧ r.2.mem ((c.tc : Thread Cert.MergeCtx.nD Cert.MergeCtx.τ).loc Cert.MergeCtx.main_arg5) = m ((c.tc : Thread Cert.MergeCtx.nD Cert.MergeCtx.τ).loc Cert.MergeCtx.main_arg5)
      ∧ r.2.mem ((c.tc : Thread Cert.MergeCtx.nD Cert.MergeCtx.τ).loc Cert.MergeCtx.main_arg6) = m ((c.tc : Thread Cert.MergeCtx.nD Cert.MergeCtx.τ).loc Cert.MergeCtx.main_arg6)
      ∧ r.2.mem ((c.tc : Thread Cert.MergeCtx.nD Cert.MergeCtx.τ).loc Cert.MergeCtx.main_arg7) = m ((c.tc : Thread Cert.MergeCtx.nD Cert.MergeCtx.τ).loc Cert.MergeCtx.main_arg7)
      ∧ r.2.mem ((c.tc : Thread Cert.MergeCtx.nD Cert.MergeCtx.τ).loc Cert.MergeCtx.main_arg8) = m ((c.tc : Thread Cert.MergeCtx.nD Cert.MergeCtx.τ).loc Cert.MergeCtx.main_arg8)
      ∧ r.2.mem ((c.tc : Thread Cert.MergeCtx.nD Cert.MergeCtx.τ).loc Cert.MergeCtx.main_arg9) = m ((c.tc : Thread Cert.MergeCtx.nD Cert.MergeCtx.τ).loc Cert.MergeCtx.main_arg9))
      ∧ r.2.sem = fun _ => 0)

def quiescent_MergeCtxIdeal [hMergeCtxIdeal : Cert.MergeCtxIdeal.Facts] : Prop :=
  ∀ (m : (ℓ : Loc Cert.MergeCtxIdeal.nD Cert.MergeCtxIdeal.τ Cert.MergeCtxIdeal.sig) → Buf (Elt Ideal) ℓ) (g : Dev Cert.MergeCtxIdeal.nD → PrngReg), Pre_MergeCtxIdeal m →
    θ_run (Cert.MergeCtxIdeal.defs (F := Ideal)) (onTc (τ := Cert.MergeCtxIdeal.τ) (Cert.MergeCtxIdeal.main (F := Ideal))) ⟨m, fun _ => 0, g⟩ (fun r => (∀ c : Dev Cert.MergeCtxIdeal.nD,
      r.2.mem ((c.tc : Thread Cert.MergeCtxIdeal.nD Cert.MergeCtxIdeal.τ).loc Cert.MergeCtxIdeal.main_arg0) = m ((c.tc : Thread Cert.MergeCtxIdeal.nD Cert.MergeCtxIdeal.τ).loc Cert.MergeCtxIdeal.main_arg0)
      ∧ r.2.mem ((c.tc : Thread Cert.MergeCtxIdeal.nD Cert.MergeCtxIdeal.τ).loc Cert.MergeCtxIdeal.main_arg1) = m ((c.tc : Thread Cert.MergeCtxIdeal.nD Cert.MergeCtxIdeal.τ).loc Cert.MergeCtxIdeal.main_arg1)
      ∧ r.2.mem ((c.tc : Thread Cert.MergeCtxIdeal.nD Cert.MergeCtxIdeal.τ).loc Cert.MergeCtxIdeal.main_arg2) = m ((c.tc : Thread Cert.MergeCtxIdeal.nD Cert.MergeCtxIdeal.τ).loc Cert.MergeCtxIdeal.main_arg2)
      ∧ r.2.mem ((c.tc : Thread Cert.MergeCtxIdeal.nD Cert.MergeCtxIdeal.τ).loc Cert.MergeCtxIdeal.main_arg3) = m ((c.tc : Thread Cert.MergeCtxIdeal.nD Cert.MergeCtxIdeal.τ).loc Cert.MergeCtxIdeal.main_arg3)
      ∧ r.2.mem ((c.tc : Thread Cert.MergeCtxIdeal.nD Cert.MergeCtxIdeal.τ).loc Cert.MergeCtxIdeal.main_arg4) = m ((c.tc : Thread Cert.MergeCtxIdeal.nD Cert.MergeCtxIdeal.τ).loc Cert.MergeCtxIdeal.main_arg4)
      ∧ r.2.mem ((c.tc : Thread Cert.MergeCtxIdeal.nD Cert.MergeCtxIdeal.τ).loc Cert.MergeCtxIdeal.main_arg5) = m ((c.tc : Thread Cert.MergeCtxIdeal.nD Cert.MergeCtxIdeal.τ).loc Cert.MergeCtxIdeal.main_arg5)
      ∧ r.2.mem ((c.tc : Thread Cert.MergeCtxIdeal.nD Cert.MergeCtxIdeal.τ).loc Cert.MergeCtxIdeal.main_arg6) = m ((c.tc : Thread Cert.MergeCtxIdeal.nD Cert.MergeCtxIdeal.τ).loc Cert.MergeCtxIdeal.main_arg6)
      ∧ r.2.mem ((c.tc : Thread Cert.MergeCtxIdeal.nD Cert.MergeCtxIdeal.τ).loc Cert.MergeCtxIdeal.main_arg7) = m ((c.tc : Thread Cert.MergeCtxIdeal.nD Cert.MergeCtxIdeal.τ).loc Cert.MergeCtxIdeal.main_arg7)
      ∧ r.2.mem ((c.tc : Thread Cert.MergeCtxIdeal.nD Cert.MergeCtxIdeal.τ).loc Cert.MergeCtxIdeal.main_arg8) = m ((c.tc : Thread Cert.MergeCtxIdeal.nD Cert.MergeCtxIdeal.τ).loc Cert.MergeCtxIdeal.main_arg8)
      ∧ r.2.mem ((c.tc : Thread Cert.MergeCtxIdeal.nD Cert.MergeCtxIdeal.τ).loc Cert.MergeCtxIdeal.main_arg9) = m ((c.tc : Thread Cert.MergeCtxIdeal.nD Cert.MergeCtxIdeal.τ).loc Cert.MergeCtxIdeal.main_arg9))
      ∧ r.2.sem = fun _ => 0)

def quiescent_MergeCtxRefIdeal [hMergeCtxRefIdeal : Cert.MergeCtxRefIdeal.Facts] : Prop :=
  ∀ (m : (ℓ : Loc Cert.MergeCtxRefIdeal.nD Cert.MergeCtxRefIdeal.τ Cert.MergeCtxRefIdeal.sig) → Buf (Elt Ideal) ℓ) (g : Dev Cert.MergeCtxRefIdeal.nD → PrngReg), Pre_MergeCtxRefIdeal m →
    θ_run (Cert.MergeCtxRefIdeal.defs (F := Ideal)) (onTc (τ := Cert.MergeCtxRefIdeal.τ) (Cert.MergeCtxRefIdeal.main (F := Ideal))) ⟨m, fun _ => 0, g⟩ (fun r => (∀ c : Dev Cert.MergeCtxRefIdeal.nD,
      r.2.mem ((c.tc : Thread Cert.MergeCtxRefIdeal.nD Cert.MergeCtxRefIdeal.τ).loc Cert.MergeCtxRefIdeal.main_arg0) = m ((c.tc : Thread Cert.MergeCtxRefIdeal.nD Cert.MergeCtxRefIdeal.τ).loc Cert.MergeCtxRefIdeal.main_arg0)
      ∧ r.2.mem ((c.tc : Thread Cert.MergeCtxRefIdeal.nD Cert.MergeCtxRefIdeal.τ).loc Cert.MergeCtxRefIdeal.main_arg1) = m ((c.tc : Thread Cert.MergeCtxRefIdeal.nD Cert.MergeCtxRefIdeal.τ).loc Cert.MergeCtxRefIdeal.main_arg1)
      ∧ r.2.mem ((c.tc : Thread Cert.MergeCtxRefIdeal.nD Cert.MergeCtxRefIdeal.τ).loc Cert.MergeCtxRefIdeal.main_arg2) = m ((c.tc : Thread Cert.MergeCtxRefIdeal.nD Cert.MergeCtxRefIdeal.τ).loc Cert.MergeCtxRefIdeal.main_arg2)
      ∧ r.2.mem ((c.tc : Thread Cert.MergeCtxRefIdeal.nD Cert.MergeCtxRefIdeal.τ).loc Cert.MergeCtxRefIdeal.main_arg3) = m ((c.tc : Thread Cert.MergeCtxRefIdeal.nD Cert.MergeCtxRefIdeal.τ).loc Cert.MergeCtxRefIdeal.main_arg3)
      ∧ r.2.mem ((c.tc : Thread Cert.MergeCtxRefIdeal.nD Cert.MergeCtxRefIdeal.τ).loc Cert.MergeCtxRefIdeal.main_arg4) = m ((c.tc : Thread Cert.MergeCtxRefIdeal.nD Cert.MergeCtxRefIdeal.τ).loc Cert.MergeCtxRefIdeal.main_arg4)
      ∧ r.2.mem ((c.tc : Thread Cert.MergeCtxRefIdeal.nD Cert.MergeCtxRefIdeal.τ).loc Cert.MergeCtxRefIdeal.main_arg5) = m ((c.tc : Thread Cert.MergeCtxRefIdeal.nD Cert.MergeCtxRefIdeal.τ).loc Cert.MergeCtxRefIdeal.main_arg5)
      ∧ r.2.mem ((c.tc : Thread Cert.MergeCtxRefIdeal.nD Cert.MergeCtxRefIdeal.τ).loc Cert.MergeCtxRefIdeal.main_arg6) = m ((c.tc : Thread Cert.MergeCtxRefIdeal.nD Cert.MergeCtxRefIdeal.τ).loc Cert.MergeCtxRefIdeal.main_arg6)
      ∧ r.2.mem ((c.tc : Thread Cert.MergeCtxRefIdeal.nD Cert.MergeCtxRefIdeal.τ).loc Cert.MergeCtxRefIdeal.main_arg7) = m ((c.tc : Thread Cert.MergeCtxRefIdeal.nD Cert.MergeCtxRefIdeal.τ).loc Cert.MergeCtxRefIdeal.main_arg7)
      ∧ r.2.mem ((c.tc : Thread Cert.MergeCtxRefIdeal.nD Cert.MergeCtxRefIdeal.τ).loc Cert.MergeCtxRefIdeal.main_arg8) = m ((c.tc : Thread Cert.MergeCtxRefIdeal.nD Cert.MergeCtxRefIdeal.τ).loc Cert.MergeCtxRefIdeal.main_arg8)
      ∧ r.2.mem ((c.tc : Thread Cert.MergeCtxRefIdeal.nD Cert.MergeCtxRefIdeal.τ).loc Cert.MergeCtxRefIdeal.main_arg9) = m ((c.tc : Thread Cert.MergeCtxRefIdeal.nD Cert.MergeCtxRefIdeal.τ).loc Cert.MergeCtxRefIdeal.main_arg9))
      ∧ r.2.sem = fun _ => 0)

def quiescent_Adaln [hAdaln : Cert.Adaln.Facts] : Prop :=
  ∀ (m : (ℓ : Loc Cert.Adaln.nD Cert.Adaln.τ Cert.Adaln.sig) → Buf (Elt Bits) ℓ) (g : Dev Cert.Adaln.nD → PrngReg), Pre_Adaln m →
    θ_run (Cert.Adaln.defs (F := Bits)) (onTc (τ := Cert.Adaln.τ) (Cert.Adaln.main (F := Bits))) ⟨m, fun _ => 0, g⟩ (fun r => (∀ c : Dev Cert.Adaln.nD,
      r.2.mem ((c.tc : Thread Cert.Adaln.nD Cert.Adaln.τ).loc Cert.Adaln.main_arg0) = m ((c.tc : Thread Cert.Adaln.nD Cert.Adaln.τ).loc Cert.Adaln.main_arg0)
      ∧ r.2.mem ((c.tc : Thread Cert.Adaln.nD Cert.Adaln.τ).loc Cert.Adaln.main_arg1) = m ((c.tc : Thread Cert.Adaln.nD Cert.Adaln.τ).loc Cert.Adaln.main_arg1)
      ∧ r.2.mem ((c.tc : Thread Cert.Adaln.nD Cert.Adaln.τ).loc Cert.Adaln.main_arg2) = m ((c.tc : Thread Cert.Adaln.nD Cert.Adaln.τ).loc Cert.Adaln.main_arg2))
      ∧ r.2.sem = fun _ => 0)

def quiescent_AdalnIdeal [hAdalnIdeal : Cert.AdalnIdeal.Facts] : Prop :=
  ∀ (m : (ℓ : Loc Cert.AdalnIdeal.nD Cert.AdalnIdeal.τ Cert.AdalnIdeal.sig) → Buf (Elt Ideal) ℓ) (g : Dev Cert.AdalnIdeal.nD → PrngReg), Pre_AdalnIdeal m →
    θ_run (Cert.AdalnIdeal.defs (F := Ideal)) (onTc (τ := Cert.AdalnIdeal.τ) (Cert.AdalnIdeal.main (F := Ideal))) ⟨m, fun _ => 0, g⟩ (fun r => (∀ c : Dev Cert.AdalnIdeal.nD,
      r.2.mem ((c.tc : Thread Cert.AdalnIdeal.nD Cert.AdalnIdeal.τ).loc Cert.AdalnIdeal.main_arg0) = m ((c.tc : Thread Cert.AdalnIdeal.nD Cert.AdalnIdeal.τ).loc Cert.AdalnIdeal.main_arg0)
      ∧ r.2.mem ((c.tc : Thread Cert.AdalnIdeal.nD Cert.AdalnIdeal.τ).loc Cert.AdalnIdeal.main_arg1) = m ((c.tc : Thread Cert.AdalnIdeal.nD Cert.AdalnIdeal.τ).loc Cert.AdalnIdeal.main_arg1)
      ∧ r.2.mem ((c.tc : Thread Cert.AdalnIdeal.nD Cert.AdalnIdeal.τ).loc Cert.AdalnIdeal.main_arg2) = m ((c.tc : Thread Cert.AdalnIdeal.nD Cert.AdalnIdeal.τ).loc Cert.AdalnIdeal.main_arg2))
      ∧ r.2.sem = fun _ => 0)

def quiescent_AdalnRefIdeal [hAdalnRefIdeal : Cert.AdalnRefIdeal.Facts] : Prop :=
  ∀ (m : (ℓ : Loc Cert.AdalnRefIdeal.nD Cert.AdalnRefIdeal.τ Cert.AdalnRefIdeal.sig) → Buf (Elt Ideal) ℓ) (g : Dev Cert.AdalnRefIdeal.nD → PrngReg), Pre_AdalnRefIdeal m →
    θ_run (Cert.AdalnRefIdeal.defs (F := Ideal)) (onTc (τ := Cert.AdalnRefIdeal.τ) (Cert.AdalnRefIdeal.main (F := Ideal))) ⟨m, fun _ => 0, g⟩ (fun r => (∀ c : Dev Cert.AdalnRefIdeal.nD,
      r.2.mem ((c.tc : Thread Cert.AdalnRefIdeal.nD Cert.AdalnRefIdeal.τ).loc Cert.AdalnRefIdeal.main_arg0) = m ((c.tc : Thread Cert.AdalnRefIdeal.nD Cert.AdalnRefIdeal.τ).loc Cert.AdalnRefIdeal.main_arg0)
      ∧ r.2.mem ((c.tc : Thread Cert.AdalnRefIdeal.nD Cert.AdalnRefIdeal.τ).loc Cert.AdalnRefIdeal.main_arg1) = m ((c.tc : Thread Cert.AdalnRefIdeal.nD Cert.AdalnRefIdeal.τ).loc Cert.AdalnRefIdeal.main_arg1)
      ∧ r.2.mem ((c.tc : Thread Cert.AdalnRefIdeal.nD Cert.AdalnRefIdeal.τ).loc Cert.AdalnRefIdeal.main_arg2) = m ((c.tc : Thread Cert.AdalnRefIdeal.nD Cert.AdalnRefIdeal.τ).loc Cert.AdalnRefIdeal.main_arg2))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6))
      ∧ r.2.sem = fun _ => 0)

def quiescent_PrepIdeal_pre_finite_prep [hPrepIdeal : Cert.PrepIdeal.Facts] [hPre_finite_prep : Cert.Pre_finite_prep.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal_finite_prep m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6))
      ∧ r.2.sem = fun _ => 0)

def quiescent_PrepRefIdeal_pre_finite_prep [hPrepRefIdeal : Cert.PrepRefIdeal.Facts] [hPre_finite_prep : Cert.Pre_finite_prep.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal_finite_prep m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6))
      ∧ r.2.sem = fun _ => 0)

def preserves_Attn_AttnIdeal : Prop :=
  True

def algebraic_AttnIdeal_AttnRefIdeal_pre_finite_qk [hAttnIdeal : Cert.AttnIdeal.Facts] [hAttnRefIdeal : Cert.AttnRefIdeal.Facts] [hPre_finite_qk : Cert.Pre_finite_qk.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_qk m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v22)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v22) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v41) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)) →
    ∃ (v0 : (c : Dev Cert.InProjIdeal.nD) → Buf (Elt Ideal) ((c.tc : Thread Cert.InProjIdeal.nD Cert.InProjIdeal.τ).loc Cert.InProjIdeal.main_v3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v3) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v54) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v13)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v13) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v72) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9))

def preserves_MergeCtx_MergeCtxIdeal : Prop :=
  True

def algebraic_MergeCtxIdeal_MergeCtxRefIdeal [hMergeCtxIdeal : Cert.MergeCtxIdeal.Facts] [hMergeCtxRefIdeal : Cert.MergeCtxRefIdeal.Facts] : Prop :=
  ∀ (m : (ℓ : Loc Cert.MergeCtxIdeal.nD Cert.MergeCtxIdeal.τ Cert.MergeCtxIdeal.sig) → Buf (Elt Ideal) ℓ) (g : Dev Cert.MergeCtxIdeal.nD → PrngReg)
    (m' : (ℓ : Loc Cert.MergeCtxRefIdeal.nD Cert.MergeCtxRefIdeal.τ Cert.MergeCtxRefIdeal.sig) → Buf (Elt Ideal) ℓ) (g' : Dev Cert.MergeCtxRefIdeal.nD → PrngReg), Pre_MergeCtxIdeal m →
    (∀ c : Dev Cert.MergeCtxIdeal.nD,
      m' ((c.tc : Thread Cert.MergeCtxRefIdeal.nD Cert.MergeCtxRefIdeal.τ).loc Cert.MergeCtxRefIdeal.main_arg0) = m ((c.tc : Thread Cert.MergeCtxIdeal.nD Cert.MergeCtxIdeal.τ).loc Cert.MergeCtxIdeal.main_arg0)
      ∧ m' ((c.tc : Thread Cert.MergeCtxRefIdeal.nD Cert.MergeCtxRefIdeal.τ).loc Cert.MergeCtxRefIdeal.main_arg1) = m ((c.tc : Thread Cert.MergeCtxIdeal.nD Cert.MergeCtxIdeal.τ).loc Cert.MergeCtxIdeal.main_arg1)
      ∧ m' ((c.tc : Thread Cert.MergeCtxRefIdeal.nD Cert.MergeCtxRefIdeal.τ).loc Cert.MergeCtxRefIdeal.main_arg2) = m ((c.tc : Thread Cert.MergeCtxIdeal.nD Cert.MergeCtxIdeal.τ).loc Cert.MergeCtxIdeal.main_arg2)
      ∧ m' ((c.tc : Thread Cert.MergeCtxRefIdeal.nD Cert.MergeCtxRefIdeal.τ).loc Cert.MergeCtxRefIdeal.main_arg3) = m ((c.tc : Thread Cert.MergeCtxIdeal.nD Cert.MergeCtxIdeal.τ).loc Cert.MergeCtxIdeal.main_arg3)
      ∧ m' ((c.tc : Thread Cert.MergeCtxRefIdeal.nD Cert.MergeCtxRefIdeal.τ).loc Cert.MergeCtxRefIdeal.main_arg4) = m ((c.tc : Thread Cert.MergeCtxIdeal.nD Cert.MergeCtxIdeal.τ).loc Cert.MergeCtxIdeal.main_arg4)
      ∧ m' ((c.tc : Thread Cert.MergeCtxRefIdeal.nD Cert.MergeCtxRefIdeal.τ).loc Cert.MergeCtxRefIdeal.main_arg5) = m ((c.tc : Thread Cert.MergeCtxIdeal.nD Cert.MergeCtxIdeal.τ).loc Cert.MergeCtxIdeal.main_arg5)
      ∧ m' ((c.tc : Thread Cert.MergeCtxRefIdeal.nD Cert.MergeCtxRefIdeal.τ).loc Cert.MergeCtxRefIdeal.main_arg6) = m ((c.tc : Thread Cert.MergeCtxIdeal.nD Cert.MergeCtxIdeal.τ).loc Cert.MergeCtxIdeal.main_arg6)
      ∧ m' ((c.tc : Thread Cert.MergeCtxRefIdeal.nD Cert.MergeCtxRefIdeal.τ).loc Cert.MergeCtxRefIdeal.main_arg7) = m ((c.tc : Thread Cert.MergeCtxIdeal.nD Cert.MergeCtxIdeal.τ).loc Cert.MergeCtxIdeal.main_arg7)
      ∧ m' ((c.tc : Thread Cert.MergeCtxRefIdeal.nD Cert.MergeCtxRefIdeal.τ).loc Cert.MergeCtxRefIdeal.main_arg8) = m ((c.tc : Thread Cert.MergeCtxIdeal.nD Cert.MergeCtxIdeal.τ).loc Cert.MergeCtxIdeal.main_arg8)
      ∧ m' ((c.tc : Thread Cert.MergeCtxRefIdeal.nD Cert.MergeCtxRefIdeal.τ).loc Cert.MergeCtxRefIdeal.main_arg9) = m ((c.tc : Thread Cert.MergeCtxIdeal.nD Cert.MergeCtxIdeal.τ).loc Cert.MergeCtxIdeal.main_arg9)) →
    ∃ (v0 : (c : Dev Cert.MergeCtxIdeal.nD) → Buf (Elt Ideal) ((c.tc : Thread Cert.MergeCtxIdeal.nD Cert.MergeCtxIdeal.τ).loc Cert.MergeCtxIdeal.main_v13)),
      θ_run (Cert.MergeCtxIdeal.defs (F := Ideal)) (onTc (τ := Cert.MergeCtxIdeal.τ) (Cert.MergeCtxIdeal.main (F := Ideal))) ⟨m, fun _ => 0, g⟩ (fun r => ∀ c : Dev Cert.MergeCtxIdeal.nD,
          r.2.mem ((c.tc : Thread Cert.MergeCtxIdeal.nD Cert.MergeCtxIdeal.τ).loc Cert.MergeCtxIdeal.main_v13) = v0 c
          ∧ r.2.mem ((c.tc : Thread Cert.MergeCtxIdeal.nD Cert.MergeCtxIdeal.τ).loc Cert.MergeCtxIdeal.main_arg0) = m ((c.tc : Thread Cert.MergeCtxIdeal.nD Cert.MergeCtxIdeal.τ).loc Cert.MergeCtxIdeal.main_arg0)
          ∧ r.2.mem ((c.tc : Thread Cert.MergeCtxIdeal.nD Cert.MergeCtxIdeal.τ).loc Cert.MergeCtxIdeal.main_arg1) = m ((c.tc : Thread Cert.MergeCtxIdeal.nD Cert.MergeCtxIdeal.τ).loc Cert.MergeCtxIdeal.main_arg1)
          ∧ r.2.mem ((c.tc : Thread Cert.MergeCtxIdeal.nD Cert.MergeCtxIdeal.τ).loc Cert.MergeCtxIdeal.main_arg2) = m ((c.tc : Thread Cert.MergeCtxIdeal.nD Cert.MergeCtxIdeal.τ).loc Cert.MergeCtxIdeal.main_arg2)
          ∧ r.2.mem ((c.tc : Thread Cert.MergeCtxIdeal.nD Cert.MergeCtxIdeal.τ).loc Cert.MergeCtxIdeal.main_arg3) = m ((c.tc : Thread Cert.MergeCtxIdeal.nD Cert.MergeCtxIdeal.τ).loc Cert.MergeCtxIdeal.main_arg3)
          ∧ r.2.mem ((c.tc : Thread Cert.MergeCtxIdeal.nD Cert.MergeCtxIdeal.τ).loc Cert.MergeCtxIdeal.main_arg4) = m ((c.tc : Thread Cert.MergeCtxIdeal.nD Cert.MergeCtxIdeal.τ).loc Cert.MergeCtxIdeal.main_arg4)
          ∧ r.2.mem ((c.tc : Thread Cert.MergeCtxIdeal.nD Cert.MergeCtxIdeal.τ).loc Cert.MergeCtxIdeal.main_arg5) = m ((c.tc : Thread Cert.MergeCtxIdeal.nD Cert.MergeCtxIdeal.τ).loc Cert.MergeCtxIdeal.main_arg5)
          ∧ r.2.mem ((c.tc : Thread Cert.MergeCtxIdeal.nD Cert.MergeCtxIdeal.τ).loc Cert.MergeCtxIdeal.main_arg6) = m ((c.tc : Thread Cert.MergeCtxIdeal.nD Cert.MergeCtxIdeal.τ).loc Cert.MergeCtxIdeal.main_arg6)
          ∧ r.2.mem ((c.tc : Thread Cert.MergeCtxIdeal.nD Cert.MergeCtxIdeal.τ).loc Cert.MergeCtxIdeal.main_arg7) = m ((c.tc : Thread Cert.MergeCtxIdeal.nD Cert.MergeCtxIdeal.τ).loc Cert.MergeCtxIdeal.main_arg7)
          ∧ r.2.mem ((c.tc : Thread Cert.MergeCtxIdeal.nD Cert.MergeCtxIdeal.τ).loc Cert.MergeCtxIdeal.main_arg8) = m ((c.tc : Thread Cert.MergeCtxIdeal.nD Cert.MergeCtxIdeal.τ).loc Cert.MergeCtxIdeal.main_arg8)
          ∧ r.2.mem ((c.tc : Thread Cert.MergeCtxIdeal.nD Cert.MergeCtxIdeal.τ).loc Cert.MergeCtxIdeal.main_arg9) = m ((c.tc : Thread Cert.MergeCtxIdeal.nD Cert.MergeCtxIdeal.τ).loc Cert.MergeCtxIdeal.main_arg9))
      ∧ θ_run (Cert.MergeCtxRefIdeal.defs (F := Ideal)) (onTc (τ := Cert.MergeCtxRefIdeal.τ) (Cert.MergeCtxRefIdeal.main (F := Ideal))) ⟨m', fun _ => 0, g'⟩ (fun r => ∀ c : Dev Cert.MergeCtxRefIdeal.nD,
          r.2.mem ((c.tc : Thread Cert.MergeCtxRefIdeal.nD Cert.MergeCtxRefIdeal.τ).loc Cert.MergeCtxRefIdeal.main_v73) = v0 c
          ∧ r.2.mem ((c.tc : Thread Cert.MergeCtxRefIdeal.nD Cert.MergeCtxRefIdeal.τ).loc Cert.MergeCtxRefIdeal.main_arg0) = m' ((c.tc : Thread Cert.MergeCtxRefIdeal.nD Cert.MergeCtxRefIdeal.τ).loc Cert.MergeCtxRefIdeal.main_arg0)
          ∧ r.2.mem ((c.tc : Thread Cert.MergeCtxRefIdeal.nD Cert.MergeCtxRefIdeal.τ).loc Cert.MergeCtxRefIdeal.main_arg1) = m' ((c.tc : Thread Cert.MergeCtxRefIdeal.nD Cert.MergeCtxRefIdeal.τ).loc Cert.MergeCtxRefIdeal.main_arg1)
          ∧ r.2.mem ((c.tc : Thread Cert.MergeCtxRefIdeal.nD Cert.MergeCtxRefIdeal.τ).loc Cert.MergeCtxRefIdeal.main_arg2) = m' ((c.tc : Thread Cert.MergeCtxRefIdeal.nD Cert.MergeCtxRefIdeal.τ).loc Cert.MergeCtxRefIdeal.main_arg2)
          ∧ r.2.mem ((c.tc : Thread Cert.MergeCtxRefIdeal.nD Cert.MergeCtxRefIdeal.τ).loc Cert.MergeCtxRefIdeal.main_arg3) = m' ((c.tc : Thread Cert.MergeCtxRefIdeal.nD Cert.MergeCtxRefIdeal.τ).loc Cert.MergeCtxRefIdeal.main_arg3)
          ∧ r.2.mem ((c.tc : Thread Cert.MergeCtxRefIdeal.nD Cert.MergeCtxRefIdeal.τ).loc Cert.MergeCtxRefIdeal.main_arg4) = m' ((c.tc : Thread Cert.MergeCtxRefIdeal.nD Cert.MergeCtxRefIdeal.τ).loc Cert.MergeCtxRefIdeal.main_arg4)
          ∧ r.2.mem ((c.tc : Thread Cert.MergeCtxRefIdeal.nD Cert.MergeCtxRefIdeal.τ).loc Cert.MergeCtxRefIdeal.main_arg5) = m' ((c.tc : Thread Cert.MergeCtxRefIdeal.nD Cert.MergeCtxRefIdeal.τ).loc Cert.MergeCtxRefIdeal.main_arg5)
          ∧ r.2.mem ((c.tc : Thread Cert.MergeCtxRefIdeal.nD Cert.MergeCtxRefIdeal.τ).loc Cert.MergeCtxRefIdeal.main_arg6) = m' ((c.tc : Thread Cert.MergeCtxRefIdeal.nD Cert.MergeCtxRefIdeal.τ).loc Cert.MergeCtxRefIdeal.main_arg6)
          ∧ r.2.mem ((c.tc : Thread Cert.MergeCtxRefIdeal.nD Cert.MergeCtxRefIdeal.τ).loc Cert.MergeCtxRefIdeal.main_arg7) = m' ((c.tc : Thread Cert.MergeCtxRefIdeal.nD Cert.MergeCtxRefIdeal.τ).loc Cert.MergeCtxRefIdeal.main_arg7)
          ∧ r.2.mem ((c.tc : Thread Cert.MergeCtxRefIdeal.nD Cert.MergeCtxRefIdeal.τ).loc Cert.MergeCtxRefIdeal.main_arg8) = m' ((c.tc : Thread Cert.MergeCtxRefIdeal.nD Cert.MergeCtxRefIdeal.τ).loc Cert.MergeCtxRefIdeal.main_arg8)
          ∧ r.2.mem ((c.tc : Thread Cert.MergeCtxRefIdeal.nD Cert.MergeCtxRefIdeal.τ).loc Cert.MergeCtxRefIdeal.main_arg9) = m' ((c.tc : Thread Cert.MergeCtxRefIdeal.nD Cert.MergeCtxRefIdeal.τ).loc Cert.MergeCtxRefIdeal.main_arg9))

def preserves_Adaln_AdalnIdeal : Prop :=
  True

def algebraic_AdalnIdeal_AdalnRefIdeal [hAdalnIdeal : Cert.AdalnIdeal.Facts] [hAdalnRefIdeal : Cert.AdalnRefIdeal.Facts] : Prop :=
  ∀ (m : (ℓ : Loc Cert.AdalnIdeal.nD Cert.AdalnIdeal.τ Cert.AdalnIdeal.sig) → Buf (Elt Ideal) ℓ) (g : Dev Cert.AdalnIdeal.nD → PrngReg)
    (m' : (ℓ : Loc Cert.AdalnRefIdeal.nD Cert.AdalnRefIdeal.τ Cert.AdalnRefIdeal.sig) → Buf (Elt Ideal) ℓ) (g' : Dev Cert.AdalnRefIdeal.nD → PrngReg), Pre_AdalnIdeal m →
    (∀ c : Dev Cert.AdalnIdeal.nD,
      m' ((c.tc : Thread Cert.AdalnRefIdeal.nD Cert.AdalnRefIdeal.τ).loc Cert.AdalnRefIdeal.main_arg0) = m ((c.tc : Thread Cert.AdalnIdeal.nD Cert.AdalnIdeal.τ).loc Cert.AdalnIdeal.main_arg0)
      ∧ m' ((c.tc : Thread Cert.AdalnRefIdeal.nD Cert.AdalnRefIdeal.τ).loc Cert.AdalnRefIdeal.main_arg1) = m ((c.tc : Thread Cert.AdalnIdeal.nD Cert.AdalnIdeal.τ).loc Cert.AdalnIdeal.main_arg1)
      ∧ m' ((c.tc : Thread Cert.AdalnRefIdeal.nD Cert.AdalnRefIdeal.τ).loc Cert.AdalnRefIdeal.main_arg2) = m ((c.tc : Thread Cert.AdalnIdeal.nD Cert.AdalnIdeal.τ).loc Cert.AdalnIdeal.main_arg2)) →
    ∃ (v0 : (c : Dev Cert.AdalnIdeal.nD) → Buf (Elt Ideal) ((c.tc : Thread Cert.AdalnIdeal.nD Cert.AdalnIdeal.τ).loc Cert.AdalnIdeal.main_v1)),
      θ_run (Cert.AdalnIdeal.defs (F := Ideal)) (onTc (τ := Cert.AdalnIdeal.τ) (Cert.AdalnIdeal.main (F := Ideal))) ⟨m, fun _ => 0, g⟩ (fun r => ∀ c : Dev Cert.AdalnIdeal.nD,
          r.2.mem ((c.tc : Thread Cert.AdalnIdeal.nD Cert.AdalnIdeal.τ).loc Cert.AdalnIdeal.main_v1) = v0 c
          ∧ r.2.mem ((c.tc : Thread Cert.AdalnIdeal.nD Cert.AdalnIdeal.τ).loc Cert.AdalnIdeal.main_arg0) = m ((c.tc : Thread Cert.AdalnIdeal.nD Cert.AdalnIdeal.τ).loc Cert.AdalnIdeal.main_arg0)
          ∧ r.2.mem ((c.tc : Thread Cert.AdalnIdeal.nD Cert.AdalnIdeal.τ).loc Cert.AdalnIdeal.main_arg1) = m ((c.tc : Thread Cert.AdalnIdeal.nD Cert.AdalnIdeal.τ).loc Cert.AdalnIdeal.main_arg1)
          ∧ r.2.mem ((c.tc : Thread Cert.AdalnIdeal.nD Cert.AdalnIdeal.τ).loc Cert.AdalnIdeal.main_arg2) = m ((c.tc : Thread Cert.AdalnIdeal.nD Cert.AdalnIdeal.τ).loc Cert.AdalnIdeal.main_arg2))
      ∧ θ_run (Cert.AdalnRefIdeal.defs (F := Ideal)) (onTc (τ := Cert.AdalnRefIdeal.τ) (Cert.AdalnRefIdeal.main (F := Ideal))) ⟨m', fun _ => 0, g'⟩ (fun r => ∀ c : Dev Cert.AdalnRefIdeal.nD,
          r.2.mem ((c.tc : Thread Cert.AdalnRefIdeal.nD Cert.AdalnRefIdeal.τ).loc Cert.AdalnRefIdeal.main_v4) = v0 c
          ∧ r.2.mem ((c.tc : Thread Cert.AdalnRefIdeal.nD Cert.AdalnRefIdeal.τ).loc Cert.AdalnRefIdeal.main_arg0) = m' ((c.tc : Thread Cert.AdalnRefIdeal.nD Cert.AdalnRefIdeal.τ).loc Cert.AdalnRefIdeal.main_arg0)
          ∧ r.2.mem ((c.tc : Thread Cert.AdalnRefIdeal.nD Cert.AdalnRefIdeal.τ).loc Cert.AdalnRefIdeal.main_arg1) = m' ((c.tc : Thread Cert.AdalnRefIdeal.nD Cert.AdalnRefIdeal.τ).loc Cert.AdalnRefIdeal.main_arg1)
          ∧ r.2.mem ((c.tc : Thread Cert.AdalnRefIdeal.nD Cert.AdalnRefIdeal.τ).loc Cert.AdalnRefIdeal.main_arg2) = m' ((c.tc : Thread Cert.AdalnRefIdeal.nD Cert.AdalnRefIdeal.τ).loc Cert.AdalnRefIdeal.main_arg2))

def preserves_Prep_PrepIdeal : Prop :=
  True

def algebraic_PrepIdeal_PrepRefIdeal_pre_finite_prep [hPrepIdeal : Cert.PrepIdeal.Facts] [hPrepRefIdeal : Cert.PrepRefIdeal.Facts] [hPre_finite_prep : Cert.Pre_finite_prep.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal_finite_prep m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)
      ∧ m' ((c.tc : Thread Cert.PrepRefIdeal.nD Cert.PrepRefIdeal.τ).loc Cert.PrepRefIdeal.main_arg5) = m ((c.tc : Thread Cert.PrepIdeal.nD Cert.PrepIdeal.τ).loc Cert.PrepIdeal.main_arg5)
      ∧ m' ((c.tc : Thread Cert.PrepRefIdeal.nD Cert.PrepRefIdeal.τ).loc Cert.PrepRefIdeal.main_arg6) = m ((c.tc : Thread Cert.PrepIdeal.nD Cert.PrepIdeal.τ).loc Cert.PrepIdeal.main_arg6)) →
    ∃ (v0 : (c : Dev Cert.PrepIdeal.nD) → Buf (Elt Ideal) ((c.tc : Thread Cert.PrepIdeal.nD Cert.PrepIdeal.τ).loc Cert.PrepIdeal.main_v87_0)) (v1 : (c : Dev Cert.PrepIdeal.nD) → Buf (Elt Ideal) ((c.tc : Thread Cert.PrepIdeal.nD Cert.PrepIdeal.τ).loc Cert.PrepIdeal.main_v87_1)) (v2 : (c : Dev Cert.PrepIdeal.nD) → Buf (Elt Ideal) ((c.tc : Thread Cert.PrepIdeal.nD Cert.PrepIdeal.τ).loc Cert.PrepIdeal.main_v87_2)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v87_0) = v0 c
          ∧ r.2.mem ((c.tc : Thread Cert.PrepIdeal.nD Cert.PrepIdeal.τ).loc Cert.PrepIdeal.main_v87_1) = v1 c
          ∧ r.2.mem ((c.tc : Thread Cert.PrepIdeal.nD Cert.PrepIdeal.τ).loc Cert.PrepIdeal.main_v87_2) = v2 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v92) = v0 c
          ∧ r.2.mem ((c.tc : Thread Cert.PrepRefIdeal.nD Cert.PrepRefIdeal.τ).loc Cert.PrepRefIdeal.main_v94) = v1 c
          ∧ r.2.mem ((c.tc : Thread Cert.PrepRefIdeal.nD Cert.PrepRefIdeal.τ).loc Cert.PrepRefIdeal.main_v96) = v2 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4)
          ∧ r.2.mem ((c.tc : Thread Cert.PrepRefIdeal.nD Cert.PrepRefIdeal.τ).loc Cert.PrepRefIdeal.main_arg5) = m' ((c.tc : Thread Cert.PrepRefIdeal.nD Cert.PrepRefIdeal.τ).loc Cert.PrepRefIdeal.main_arg5)
          ∧ r.2.mem ((c.tc : Thread Cert.PrepRefIdeal.nD Cert.PrepRefIdeal.τ).loc Cert.PrepRefIdeal.main_arg6) = m' ((c.tc : Thread Cert.PrepRefIdeal.nD Cert.PrepRefIdeal.τ).loc Cert.PrepRefIdeal.main_arg6))

def Claim : Prop :=
  ∃ (hAttn : Cert.Attn.Facts) (hAttnIdeal : Cert.AttnIdeal.Facts) (hAttnRefIdeal : Cert.AttnRefIdeal.Facts) (hInProj : Cert.InProj.Facts) (hInProjIdeal : Cert.InProjIdeal.Facts) (hInProjRefIdeal : Cert.InProjRefIdeal.Facts) (hMerge : Cert.Merge.Facts) (hMergeIdeal : Cert.MergeIdeal.Facts) (hMergeRefIdeal : Cert.MergeRefIdeal.Facts) (hMergeCtx : Cert.MergeCtx.Facts) (hMergeCtxIdeal : Cert.MergeCtxIdeal.Facts) (hMergeCtxRefIdeal : Cert.MergeCtxRefIdeal.Facts) (hAdaln : Cert.Adaln.Facts) (hAdalnIdeal : Cert.AdalnIdeal.Facts) (hAdalnRefIdeal : Cert.AdalnRefIdeal.Facts) (hPrep : Cert.Prep.Facts) (hPrepIdeal : Cert.PrepIdeal.Facts) (hPrepRefIdeal : Cert.PrepRefIdeal.Facts) (hPre_finite_qk : Cert.Pre_finite_qk.Facts) (hPre_finite_prep : Cert.Pre_finite_prep.Facts),
    quiescent_Attn (hAttn := hAttn)
    ∧ quiescent_AttnIdeal (hAttnIdeal := hAttnIdeal)
    ∧ quiescent_AttnIdeal_pre_finite_qk (hAttnIdeal := hAttnIdeal) (hPre_finite_qk := hPre_finite_qk)
    ∧ quiescent_AttnRefIdeal (hAttnRefIdeal := hAttnRefIdeal)
    ∧ quiescent_AttnRefIdeal_pre_finite_qk (hAttnRefIdeal := hAttnRefIdeal) (hPre_finite_qk := hPre_finite_qk)
    ∧ quiescent_InProj (hInProj := hInProj)
    ∧ quiescent_InProjIdeal (hInProjIdeal := hInProjIdeal)
    ∧ quiescent_InProjRefIdeal (hInProjRefIdeal := hInProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_MergeCtx (hMergeCtx := hMergeCtx)
    ∧ quiescent_MergeCtxIdeal (hMergeCtxIdeal := hMergeCtxIdeal)
    ∧ quiescent_MergeCtxRefIdeal (hMergeCtxRefIdeal := hMergeCtxRefIdeal)
    ∧ quiescent_Adaln (hAdaln := hAdaln)
    ∧ quiescent_AdalnIdeal (hAdalnIdeal := hAdalnIdeal)
    ∧ quiescent_AdalnRefIdeal (hAdalnRefIdeal := hAdalnRefIdeal)
    ∧ quiescent_Prep (hPrep := hPrep)
    ∧ quiescent_PrepIdeal (hPrepIdeal := hPrepIdeal)
    ∧ quiescent_PrepIdeal_pre_finite_prep (hPrepIdeal := hPrepIdeal) (hPre_finite_prep := hPre_finite_prep)
    ∧ quiescent_PrepRefIdeal (hPrepRefIdeal := hPrepRefIdeal)
    ∧ quiescent_PrepRefIdeal_pre_finite_prep (hPrepRefIdeal := hPrepRefIdeal) (hPre_finite_prep := hPre_finite_prep)
    ∧ preserves_Attn_AttnIdeal
    ∧ algebraic_AttnIdeal_AttnRefIdeal_pre_finite_qk (hAttnIdeal := hAttnIdeal) (hAttnRefIdeal := hAttnRefIdeal) (hPre_finite_qk := hPre_finite_qk)
    ∧ preserves_InProj_InProjIdeal
    ∧ algebraic_InProjIdeal_InProjRefIdeal (hInProjIdeal := hInProjIdeal) (hInProjRefIdeal := hInProjRefIdeal)
    ∧ preserves_Merge_MergeIdeal
    ∧ algebraic_MergeIdeal_MergeRefIdeal (hMergeIdeal := hMergeIdeal) (hMergeRefIdeal := hMergeRefIdeal)
    ∧ preserves_MergeCtx_MergeCtxIdeal
    ∧ algebraic_MergeCtxIdeal_MergeCtxRefIdeal (hMergeCtxIdeal := hMergeCtxIdeal) (hMergeCtxRefIdeal := hMergeCtxRefIdeal)
    ∧ preserves_Adaln_AdalnIdeal
    ∧ algebraic_AdalnIdeal_AdalnRefIdeal (hAdalnIdeal := hAdalnIdeal) (hAdalnRefIdeal := hAdalnRefIdeal)
    ∧ preserves_Prep_PrepIdeal
    ∧ algebraic_PrepIdeal_PrepRefIdeal_pre_finite_prep (hPrepIdeal := hPrepIdeal) (hPrepRefIdeal := hPrepRefIdeal) (hPre_finite_prep := hPre_finite_prep)
-- ==== Pre_finite_prep.lean ====
abbrev S16x2304x10752 : Shape := ⟨3, ![16, 2304, 10752]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S2048x32 : Shape := ⟨2, ![2048, 32]⟩
abbrev S_ : Shape := ⟨0, ![]⟩

class Facts : Prop where
  bcast_S_S256 : S_.BroadcastsInDim S256 (![] : Fin 0 → Fin S256.rank)
  reducesTo_S256_S_d0 : S256.ReducesTo [0] S_
  h_S_ : 0 < S_.numel
  bcast_S_S256x768 : S_.BroadcastsInDim S256x768 (![] : Fin 0 → Fin S256x768.rank)
  reducesTo_S256x768_S_d0_1 : S256x768.ReducesTo [0, 1] S_

variable [Facts]

def fn {F : FTy → Type} [FloatOps F] (main_arg0 : FVec F S16x2304x10752 .f32) (main_arg1 : FVec F S256 .f32) (main_arg2 : FVec F S256x768 .f32) (main_arg3 : FVec F S128 .f32) (main_arg4 : FVec F S128x1024 .f32) (main_arg5 : FVec F S2048x32 .f32) (main_arg6 : FVec F S2048x32 .f32) : IVec S_ 1 :=
  let main_v0 : FVec F S256 .f32 := Host.absf main_arg1
  let main_cst : FVec F S_ .f32 := constant S_ .f32 0x7F800000#32
  let main_v1 : FVec F S256 .f32 := broadcastInDim S256 ![] bcast_S_S256 main_cst
  let main_v2 : IVec S256 1 := cmpf .olt main_v0 main_v1
  let main_c : IVec S_ 1 := constantI S_ 1 1#1
  let main_v3 : IVec S_ 1 := (fun x v => Host.reduce IntOp.andi x v reducesTo_S256_S_d0 h_S_) main_v2 main_c
  let main_v4 : FVec F S256x768 .f32 := Host.absf main_arg2
  let main_cst_0 : FVec F S_ .f32 := constant S_ .f32 0x7F800000#32
  let main_v5 : FVec F S256x768 .f32 := broadcastInDim S256x768 ![] bcast_S_S256x768 main_cst_0
  let main_v6 : IVec S256x768 1 := cmpf .olt main_v4 main_v5
  let main_c_1 : IVec S_ 1 := constantI S_ 1 1#1
  let main_v7 : IVec S_ 1 := (fun x v => Host.reduce IntOp.andi x v reducesTo_S256x768_S_d0_1 h_S_) main_v6 main_c_1
  let main_v8 : IVec S_ 1 := andi main_v3 main_v7
  main_v8
-- ==== Pre_finite_qk.lean ====
abbrev S16x2304x8x96 : Shape := ⟨4, ![16, 2304, 8, 96]⟩
abbrev S16x2304x8x64 : Shape := ⟨4, ![16, 2304, 8, 64]⟩
abbrev S_ : Shape := ⟨0, ![]⟩

class Facts : Prop where
  bcast_S_S16x2304x8x96 : S_.BroadcastsInDim S16x2304x8x96 (![] : Fin 0 → Fin S16x2304x8x96.rank)
  reducesTo_S16x2304x8x96_S_d0_1_2_3 : S16x2304x8x96.ReducesTo [0, 1, 2, 3] S_
  h_S_ : 0 < S_.numel

variable [Facts]

def fn {F : FTy → Type} [FloatOps F] (main_arg0 : FVec F S16x2304x8x96 .f32) (main_arg1 : FVec F S16x2304x8x96 .f32) (main_arg2 : FVec F S16x2304x8x64 .f32) : IVec S_ 1 :=
  let main_v0 : FVec F S16x2304x8x96 .f32 := Host.absf main_arg0
  let main_cst : FVec F S_ .f32 := constant S_ .f32 0x7F800000#32
  let main_v1 : FVec F S16x2304x8x96 .f32 := broadcastInDim S16x2304x8x96 ![] bcast_S_S16x2304x8x96 main_cst
  let main_v2 : IVec S16x2304x8x96 1 := cmpf .olt main_v0 main_v1
  let main_c : IVec S_ 1 := constantI S_ 1 1#1
  let main_v3 : IVec S_ 1 := (fun x v => Host.reduce IntOp.andi x v reducesTo_S16x2304x8x96_S_d0_1_2_3 h_S_) main_v2 main_c
  let main_v4 : FVec F S16x2304x8x96 .f32 := Host.absf main_arg1
  let main_cst_0 : FVec F S_ .f32 := constant S_ .f32 0x7F800000#32
  let main_v5 : FVec F S16x2304x8x96 .f32 := broadcastInDim S16x2304x8x96 ![] bcast_S_S16x2304x8x96 main_cst_0
  let main_v6 : IVec S16x2304x8x96 1 := cmpf .olt main_v4 main_v5
  let main_c_1 : IVec S_ 1 := constantI S_ 1 1#1
  let main_v7 : IVec S_ 1 := (fun x v => Host.reduce IntOp.andi x v reducesTo_S16x2304x8x96_S_d0_1_2_3 h_S_) main_v6 main_c_1
  let main_v8 : IVec S_ 1 := andi main_v3 main_v7
  main_v8
-- ==== Attn.lean ====
abbrev S16x2304x8x96 : Shape := ⟨4, ![16, 2304, 8, 96]⟩
abbrev S16x2304x8x64 : Shape := ⟨4, ![16, 2304, 8, 64]⟩
abbrev S_ : Shape := ⟨0, ![]⟩
abbrev S16x2304x8x32 : Shape := ⟨4, ![16, 2304, 8, 32]⟩
abbrev S16x2304x8x128 : Shape := ⟨4, ![16, 2304, 8, 128]⟩
abbrev S16x2304x1024 : Shape := ⟨3, ![16, 2304, 1024]⟩
abbrev S16x2304x4x128 : Shape := ⟨4, ![16, 2304, 4, 128]⟩
abbrev S16x2304x4x64 : Shape := ⟨4, ![16, 2304, 4, 64]⟩
abbrev S16x2304x4x256 : Shape := ⟨4, ![16, 2304, 4, 256]⟩
abbrev S16x2304x512 : Shape := ⟨3, ![16, 2304, 512]⟩
abbrev S1x256x512 : Shape := ⟨3, ![1, 256, 512]⟩
abbrev S1x2304x512 : Shape := ⟨3, ![1, 2304, 512]⟩
abbrev S1x256x256 : Shape := ⟨3, ![1, 256, 256]⟩
abbrev S1x128 : Shape := ⟨2, ![1, 128]⟩
abbrev S1x256x128 : Shape := ⟨3, ![1, 256, 128]⟩
abbrev S256x128 : Shape := ⟨2, ![256, 128]⟩
abbrev S1x2304x128 : Shape := ⟨3, ![1, 2304, 128]⟩
abbrev S2304x128 : Shape := ⟨2, ![2304, 128]⟩
abbrev S256x2304 : Shape := ⟨2, ![256, 2304]⟩
abbrev S256 : Shape := ⟨1, ![256]⟩
abbrev S256x1 : Shape := ⟨2, ![256, 1]⟩
abbrev S256x256 : Shape := ⟨2, ![256, 256]⟩

abbrev nBuf : Space → Nat
  | .hbm => 31
  | .vmem => 8
  | .smem => 0
  | _ => 0

abbrev bufTy : (tb : Table) → Fin (tcTables nBuf tb) → BufTy
  | .hbm, ⟨0, _⟩ => ⟨S16x2304x8x96, .f32⟩
  | .hbm, ⟨1, _⟩ => ⟨S16x2304x8x96, .f32⟩
  | .hbm, ⟨2, _⟩ => ⟨S16x2304x8x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S16x2304x8x32, .f32⟩
  | .hbm, ⟨12, _⟩ => ⟨S16x2304x8x96, .f32⟩
  | .hbm, ⟨13, _⟩ => ⟨S16x2304x8x96, .f32⟩
  | .hbm, ⟨14, _⟩ => ⟨S16x2304x8x128, .f32⟩
  | .hbm, ⟨15, _⟩ => ⟨S16x2304x1024, .f32⟩
  | .hbm, ⟨16, _⟩ => ⟨S16x2304x1024, .bf16⟩
  | .hbm, ⟨17, _⟩ => ⟨S16x2304x8x128, .f32⟩
  | .hbm, ⟨18, _⟩ => ⟨S16x2304x1024, .f32⟩
  | .hbm, ⟨19, _⟩ => ⟨S16x2304x1024, .bf16⟩
  | .hbm, ⟨20, _⟩ => ⟨S16x2304x4x128, .f32⟩
  | .hbm, ⟨21, _⟩ => ⟨S_, .f32⟩
  | .hbm, ⟨22, _⟩ => ⟨S16x2304x4x64, .f32⟩
  | .hbm, ⟨23, _⟩ => ⟨S16x2304x4x64, .f32⟩
  | .hbm, ⟨24, _⟩ => ⟨S16x2304x4x128, .f32⟩
  | .hbm, ⟨25, _⟩ => ⟨S16x2304x4x64, .f32⟩
  | .hbm, ⟨26, _⟩ => ⟨S16x2304x4x128, .f32⟩
  | .hbm, ⟨27, _⟩ => ⟨S16x2304x4x256, .f32⟩
  | .hbm, ⟨28, _⟩ => ⟨S16x2304x1024, .f32⟩
  | .hbm, ⟨29, _⟩ => ⟨S16x2304x1024, .bf16⟩
  | .hbm, ⟨30, _⟩ => ⟨S16x2304x512, .bf16⟩
  | .local _ .vmem, ⟨0, _⟩ => ⟨S1x256x512, .bf16⟩
  | .local _ .vmem, ⟨1, _⟩ => ⟨S1x256x512, .bf16⟩
  | .local _ .vmem, ⟨2, _⟩ => ⟨S1x2304x512, .bf16⟩
  | .local _ .vmem, ⟨3, _⟩ => ⟨S1x2304x512, .bf16⟩
  | .local _ .vmem, ⟨4, _⟩ => ⟨S1x2304x512, .bf16⟩
  | .local _ .vmem, ⟨5, _⟩ => ⟨S1x2304x512, .bf16⟩
  | .local _ .vmem, ⟨6, _⟩ => ⟨S1x256x256, .bf16⟩
  | .local _ .vmem, ⟨7, _⟩ => ⟨S1x256x256, .bf16⟩
  | _, _ => ⟨S16x2304x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_cst_2 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 9], ![false, false, false]⟩

def k0_cond1 (i : grid0.Coords) : BitVec 1 :=
  let arg2 : BitVec 32 := BitVec.ofNat 32 (i 2).val
  let c8_i32 : BitVec 32 := 8#32
  let v1 : BitVec 1 := Scalar.cmpi .eq arg2 c8_i32
  let v_true : BitVec 1 := 1#1
  let v2 : BitVec 1 := Scalar.xori v1 v_true
  let v3 : BitVec 32 := Scalar.extui v2
  let c0_i32 : BitVec 32 := 0#32
  let v4 : BitVec 1 := Scalar.cmpi .ne v3 c0_i32
  v4

def k0_cond2 (i : grid0.Coords) : BitVec 1 :=
  let arg2 : BitVec 32 := BitVec.ofNat 32 (i 2).val
  let c8_i32 : BitVec 32 := 8#32
  let v1 : BitVec 1 := Scalar.cmpi .eq arg2 c8_i32
  let v5 : BitVec 32 := Scalar.extui v1
  let c0_i32_0 : BitVec 32 := 0#32
  let v6 : BitVec 1 := Scalar.cmpi .ne v5 c0_i32_0
  v6

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2304x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2304x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== AttnRefIdeal.lean ====
abbrev S16x2304x8x96 : Shape := ⟨4, ![16, 2304, 8, 96]⟩
abbrev S16x2304x8x64 : Shape := ⟨4, ![16, 2304, 8, 64]⟩
abbrev S_ : Shape := ⟨0, ![]⟩
abbrev S16x2048x8x96 : Shape := ⟨4, ![16, 2048, 8, 96]⟩
abbrev S16x8x2048x2304 : Shape := ⟨4, ![16, 8, 2048, 2304]⟩
abbrev S16x8x2048 : Shape := ⟨3, ![16, 8, 2048]⟩
abbrev S16x8x2048x1 : Shape := ⟨4, ![16, 8, 2048, 1]⟩
abbrev S16x8x64x2048 : Shape := ⟨4, ![16, 8, 64, 2048]⟩
abbrev S16x2048x8x64 : Shape := ⟨4, ![16, 2048, 8, 64]⟩
abbrev S16x2048x512 : Shape := ⟨3, ![16, 2048, 512]⟩
abbrev S16x256x8x96 : Shape := ⟨4, ![16, 256, 8, 96]⟩
abbrev S16x256x8x64 : Shape := ⟨4, ![16, 256, 8, 64]⟩
abbrev S16x8x256x256 : Shape := ⟨4, ![16, 8, 256, 256]⟩
abbrev S16x8x256 : Shape := ⟨3, ![16, 8, 256]⟩
abbrev S16x8x256x1 : Shape := ⟨4, ![16, 8, 256, 1]⟩
abbrev S16x8x64x256 : Shape := ⟨4, ![16, 8, 64, 256]⟩
abbrev S16x256x512 : Shape := ⟨3, ![16, 256, 512]⟩
abbrev S16x2304x512 : Shape := ⟨3, ![16, 2304, 512]⟩

abbrev nBuf : Space → Nat
  | .hbm => 53
  | .vmem => 0
  | .smem => 0
  | _ => 0

abbrev bufTy : (tb : Table) → Fin (tcTables nBuf tb) → BufTy
  | .hbm, ⟨0, _⟩ => ⟨S16x2304x8x96, .f32⟩
  | .hbm, ⟨1, _⟩ => ⟨S16x2304x8x96, .f32⟩
  | .hbm, ⟨2, _⟩ => ⟨S16x2304x8x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S16x2048x8x96, .f32⟩
  | .hbm, ⟨8, _⟩ => ⟨S16x8x2048x2304, .f32⟩
  | .hbm, ⟨9, _⟩ => ⟨S16x8x2048x2304, .f32⟩
  | .hbm, ⟨10, _⟩ => ⟨S16x8x2048x2304, .f32⟩
  | .hbm, ⟨11, _⟩ => ⟨S_, .f32⟩
  | .hbm, ⟨12, _⟩ => ⟨S16x8x2048, .f32⟩
  | .hbm, ⟨13, _⟩ => ⟨S_, .f32⟩
  | .hbm, ⟨14, _⟩ => ⟨S16x8x2048, .f32⟩
  | .hbm, ⟨15, _⟩ => ⟨S16x8x2048, .f32⟩
  | .hbm, ⟨16, _⟩ => ⟨S16x8x2048x1, .f32⟩
  | .hbm, ⟨17, _⟩ => ⟨S16x8x2048x2304, .f32⟩
  | .hbm, ⟨18, _⟩ => ⟨S16x8x2048x2304, .f32⟩
  | .hbm, ⟨19, _⟩ => ⟨S16x8x2048x2304, .f32⟩
  | .hbm, ⟨20, _⟩ => ⟨S_, .f32⟩
  | .hbm, ⟨21, _⟩ => ⟨S16x8x2048, .f32⟩
  | .hbm, ⟨22, _⟩ => ⟨S16x8x2048x1, .f32⟩
  | .hbm, ⟨23, _⟩ => ⟨S16x8x2048x2304, .f32⟩
  | .hbm, ⟨24, _⟩ => ⟨S16x8x2048x2304, .f32⟩
  | .hbm, ⟨25, _⟩ => ⟨S16x8x64x2048, .f32⟩
  | .hbm, ⟨26, _⟩ => ⟨S16x2048x8x64, .f32⟩
  | .hbm, ⟨27, _⟩ => ⟨S16x2048x512, .f32⟩
  | .hbm, ⟨28, _⟩ => ⟨S16x256x8x96, .f32⟩
  | .hbm, ⟨29, _⟩ => ⟨S16x256x8x96, .f32⟩
  | .hbm, ⟨30, _⟩ => ⟨S16x256x8x64, .f32⟩
  | .hbm, ⟨31, _⟩ => ⟨S16x8x256x256, .f32⟩
  | .hbm, ⟨32, _⟩ => ⟨S16x8x256x256, .f32⟩
  | .hbm, ⟨33, _⟩ => ⟨S16x8x256x256, .f32⟩
  | .hbm, ⟨34, _⟩ => ⟨S_, .f32⟩
  | .hbm, ⟨35, _⟩ => ⟨S16x8x256, .f32⟩
  | .hbm, ⟨36, _⟩ => ⟨S_, .f32⟩
  | .hbm, ⟨37, _⟩ => ⟨S16x8x256, .f32⟩
  | .hbm, ⟨38, _⟩ => ⟨S16x8x256, .f32⟩
  | .hbm, ⟨39, _⟩ => ⟨S16x8x256x1, .f32⟩
  | .hbm, ⟨40, _⟩ => ⟨S16x8x256x256, .f32⟩
  | .hbm, ⟨41, _⟩ => ⟨S16x8x256x256, .f32⟩
  | .hbm, ⟨42, _⟩ => ⟨S16x8x256x256, .f32⟩
  | .hbm, ⟨43, _⟩ => ⟨S_, .f32⟩
  | .hbm, ⟨44, _⟩ => ⟨S16x8x256, .f32⟩
  | .hbm, ⟨45, _⟩ => ⟨S16x8x256x1, .f32⟩
  | .hbm, ⟨46, _⟩ => ⟨S16x8x256x256, .f32⟩
  | .hbm, ⟨47, _⟩ => ⟨S16x8x256x256, .f32⟩
  | .hbm, ⟨48, _⟩ => ⟨S16x8x64x256, .f32⟩
  | .hbm, ⟨49, _⟩ => ⟨S16x256x8x64, .f32⟩
  | .hbm, ⟨50, _⟩ => ⟨S16x256x512, .f32⟩
  | .hbm, ⟨51, _⟩ => ⟨S16x2304x512, .f32⟩
  | .hbm, ⟨52, _⟩ => ⟨S16x2304x512, .bf16⟩
  | _, _ => ⟨S16x2304x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_6 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩

abbrev nD : Nat := 1
abbrev τ : Topo := Topo.v7x

variable {F : FTy → Type} [FloatOps F]
-- ==== InProj.lean ====
abbrev S16x2048x1024 : Shape := ⟨3, ![16, 2048, 1024]⟩
abbrev S16x256x1024 : Shape := ⟨3, ![16, 256, 1024]⟩
abbrev S24x3072 : Shape := ⟨2, ![24, 3072]⟩
abbrev S1024 : Shape := ⟨1, ![1024]⟩
abbrev S1024x10752 : Shape := ⟨2, ![1024, 10752]⟩
abbrev S24x1x3072 : Shape := ⟨3, ![24, 1, 3072]⟩
abbrev S1x1024 : Shape := ⟨2, ![1, 1024]⟩
abbrev S16x2304x10752 : Shape := ⟨3, ![16, 2304, 10752]⟩
abbrev S1x2048x1024 : Shape := ⟨3, ![1, 2048, 1024]⟩
abbrev S1x256x1024 : Shape := ⟨3, ![1, 256, 1024]⟩
abbrev S1x1x3072 : Shape := ⟨3, ![1, 1, 3072]⟩
abbrev S1024x1536 : Shape := ⟨2, ![1024, 1536]⟩
abbrev S1x2304x1536 : Shape := ⟨3, ![1, 2304, 1536]⟩
abbrev S2304x1024 : Shape := ⟨2, ![2304, 1024]⟩
abbrev S1x3072 : Shape := ⟨2, ![1, 3072]⟩
abbrev S256x1024 : Shape := ⟨2, ![256, 1024]⟩
abbrev S256 : Shape := ⟨1, ![256]⟩
abbrev S256x1 : Shape := ⟨2, ![256, 1]⟩
abbrev S2304x1536 : Shape := ⟨2, ![2304, 1536]⟩

abbrev nBuf : Space → Nat
  | .hbm => 9
  | .vmem => 13
  | .smem => 0
  | _ => 0

abbrev bufTy : (tb : Table) → Fin (tcTables nBuf tb) → BufTy
  | .hbm, ⟨0, _⟩ => ⟨S16x2048x1024, .f32⟩
  | .hbm, ⟨1, _⟩ => ⟨S16x256x1024, .f32⟩
  | .hbm, ⟨2, _⟩ => ⟨S24x3072, .f32⟩
  | .hbm, ⟨3, _⟩ => ⟨S1024, .f32⟩
  | .hbm, ⟨4, _⟩ => ⟨S1024x10752, .f32⟩
  | .hbm, ⟨5, _⟩ => ⟨S24x1x3072, .f32⟩
  | .hbm, ⟨6, _⟩ => ⟨S1024x10752, .bf16⟩
  | .hbm, ⟨7, _⟩ => ⟨S1x1024, .f32⟩
  | .hbm, ⟨8, _⟩ => ⟨S16x2304x10752, .bf16⟩
  | .local _ .vmem, ⟨0, _⟩ => ⟨S1x2048x1024, .f32⟩
  | .local _ .vmem, ⟨1, _⟩ => ⟨S1x2048x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x1x3072, .f32⟩
  | .local _ .vmem, ⟨5, _⟩ => ⟨S1x1x3072, .f32⟩
  | .local _ .vmem, ⟨6, _⟩ => ⟨S1x1x3072, .f32⟩
  | .local _ .vmem, ⟨7, _⟩ => ⟨S1x1024, .f32⟩
  | .local _ .vmem, ⟨8, _⟩ => ⟨S1024x1536, .bf16⟩
  | .local _ .vmem, ⟨9, _⟩ => ⟨S1024x1536, .bf16⟩
  | .local _ .vmem, ⟨10, _⟩ => ⟨S1x2304x1536, .bf16⟩
  | .local _ .vmem, ⟨11, _⟩ => ⟨S1x2304x1536, .bf16⟩
  | .local _ .vmem, ⟨12, _⟩ => ⟨S2304x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 7], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let c0_i32 : BitVec 32 := 0#32
  let c0_i32_0 : BitVec 32 := 0#32
  let c0_i32_1 : BitVec 32 := 0#32
  ![c16_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x2304x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== InProjRefIdeal.lean ====
abbrev S16x2048x1024 : Shape := ⟨3, ![16, 2048, 1024]⟩
abbrev S16x256x1024 : Shape := ⟨3, ![16, 256, 1024]⟩
abbrev S24x3072 : Shape := ⟨2, ![24, 3072]⟩
abbrev S1024 : Shape := ⟨1, ![1024]⟩
abbrev S1024x10752 : Shape := ⟨2, ![1024, 10752]⟩
abbrev S16x3072 : Shape := ⟨2, ![16, 3072]⟩
abbrev S16x1024 : Shape := ⟨2, ![16, 1024]⟩
abbrev S1x3072 : Shape := ⟨2, ![1, 3072]⟩
abbrev S3072 : Shape := ⟨1, ![3072]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x1x1024 : Shape := ⟨3, ![16, 1, 1024]⟩
abbrev S16x256 : Shape := ⟨2, ![16, 256]⟩
abbrev S16x256x1 : Shape := ⟨3, ![16, 256, 1]⟩
abbrev S16x2048x10752 : Shape := ⟨3, ![16, 2048, 10752]⟩
abbrev S16x256x10752 : Shape := ⟨3, ![16, 256, 10752]⟩
abbrev S16x2304x10752 : Shape := ⟨3, ![16, 2304, 10752]⟩

abbrev nBuf : Space → Nat
  | .hbm => 68
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x256x1024, .f32⟩
  | .hbm, ⟨2, _⟩ => ⟨S24x3072, .f32⟩
  | .hbm, ⟨3, _⟩ => ⟨S1024, .f32⟩
  | .hbm, ⟨4, _⟩ => ⟨S1024x10752, .f32⟩
  | .hbm, ⟨5, _⟩ => ⟨S16x3072, .f32⟩
  | .hbm, ⟨6, _⟩ => ⟨S16x1024, .f32⟩
  | .hbm, ⟨7, _⟩ => ⟨S16x1024, .f32⟩
  | .hbm, ⟨8, _⟩ => ⟨S16x1024, .f32⟩
  | .hbm, ⟨9, _⟩ => ⟨S1x3072, .f32⟩
  | .hbm, ⟨10, _⟩ => ⟨S3072, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S16x2048x1024, .f32⟩
  | .hbm, ⟨15, _⟩ => ⟨S_, .f32⟩
  | .hbm, ⟨16, _⟩ => ⟨S16x2048, .f32⟩
  | .hbm, ⟨17, _⟩ => ⟨S16x2048x1, .f32⟩
  | .hbm, ⟨18, _⟩ => ⟨S_, .f32⟩
  | .hbm, ⟨19, _⟩ => ⟨S16x2048x1, .f32⟩
  | .hbm, ⟨20, _⟩ => ⟨S16x2048x1, .f32⟩
  | .hbm, ⟨21, _⟩ => ⟨S_, .f32⟩
  | .hbm, ⟨22, _⟩ => ⟨S16x2048x1, .f32⟩
  | .hbm, ⟨23, _⟩ => ⟨S16x2048x1, .f32⟩
  | .hbm, ⟨24, _⟩ => ⟨S16x2048x1, .f32⟩
  | .hbm, ⟨25, _⟩ => ⟨S16x2048x1024, .f32⟩
  | .hbm, ⟨26, _⟩ => ⟨S16x2048x1024, .f32⟩
  | .hbm, ⟨27, _⟩ => ⟨S1x1x1024, .f32⟩
  | .hbm, ⟨28, _⟩ => ⟨S16x2048x1024, .f32⟩
  | .hbm, ⟨29, _⟩ => ⟨S16x2048x1024, .f32⟩
  | .hbm, ⟨30, _⟩ => ⟨S16x1x1024, .f32⟩
  | .hbm, ⟨31, _⟩ => ⟨S_, .f32⟩
  | .hbm, ⟨32, _⟩ => ⟨S16x1x1024, .f32⟩
  | .hbm, ⟨33, _⟩ => ⟨S16x1x1024, .f32⟩
  | .hbm, ⟨34, _⟩ => ⟨S16x2048x1024, .f32⟩
  | .hbm, ⟨35, _⟩ => ⟨S16x2048x1024, .f32⟩
  | .hbm, ⟨36, _⟩ => ⟨S16x1x1024, .f32⟩
  | .hbm, ⟨37, _⟩ => ⟨S16x2048x1024, .f32⟩
  | .hbm, ⟨38, _⟩ => ⟨S16x2048x1024, .f32⟩
  | .hbm, ⟨39, _⟩ => ⟨S16x256x1024, .f32⟩
  | .hbm, ⟨40, _⟩ => ⟨S_, .f32⟩
  | .hbm, ⟨41, _⟩ => ⟨S16x256, .f32⟩
  | .hbm, ⟨42, _⟩ => ⟨S16x256x1, .f32⟩
  | .hbm, ⟨43, _⟩ => ⟨S_, .f32⟩
  | .hbm, ⟨44, _⟩ => ⟨S16x256x1, .f32⟩
  | .hbm, ⟨45, _⟩ => ⟨S16x256x1, .f32⟩
  | .hbm, ⟨46, _⟩ => ⟨S_, .f32⟩
  | .hbm, ⟨47, _⟩ => ⟨S16x256x1, .f32⟩
  | .hbm, ⟨48, _⟩ => ⟨S16x256x1, .f32⟩
  | .hbm, ⟨49, _⟩ => ⟨S16x256x1, .f32⟩
  | .hbm, ⟨50, _⟩ => ⟨S16x256x1024, .f32⟩
  | .hbm, ⟨51, _⟩ => ⟨S16x256x1024, .f32⟩
  | .hbm, ⟨52, _⟩ => ⟨S1x1x1024, .f32⟩
  | .hbm, ⟨53, _⟩ => ⟨S16x256x1024, .f32⟩
  | .hbm, ⟨54, _⟩ => ⟨S16x256x1024, .f32⟩
  | .hbm, ⟨55, _⟩ => ⟨S_, .f32⟩
  | .hbm, ⟨56, _⟩ => ⟨S1024, .f32⟩
  | .hbm, ⟨57, _⟩ => ⟨S1024, .f32⟩
  | .hbm, ⟨58, _⟩ => ⟨S1x1x1024, .f32⟩
  | .hbm, ⟨59, _⟩ => ⟨S16x256x1024, .f32⟩
  | .hbm, ⟨60, _⟩ => ⟨S16x256x1024, .f32⟩
  | .hbm, ⟨61, _⟩ => ⟨S1x1x1024, .f32⟩
  | .hbm, ⟨62, _⟩ => ⟨S16x256x1024, .f32⟩
  | .hbm, ⟨63, _⟩ => ⟨S16x256x1024, .f32⟩
  | .hbm, ⟨64, _⟩ => ⟨S16x2048x10752, .f32⟩
  | .hbm, ⟨65, _⟩ => ⟨S16x256x10752, .f32⟩
  | .hbm, ⟨66, _⟩ => ⟨S16x2304x10752, .f32⟩
  | .hbm, ⟨67, _⟩ => ⟨S16x2304x10752, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_6 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩

abbrev nD : Nat := 1
abbrev τ : Topo := Topo.v7x

variable {F : FTy → Type} [FloatOps F]
-- ==== Merge.lean ====
abbrev S16x2048x1024 : Shape := ⟨3, ![16, 2048, 1024]⟩
abbrev S16x2304x10752 : Shape := ⟨3, ![16, 2304, 10752]⟩
abbrev S16x2304x512 : Shape := ⟨3, ![16, 2304, 512]⟩
abbrev S16x2048x512 : Shape := ⟨3, ![16, 2048, 512]⟩
abbrev S24x3072 : Shape := ⟨2, ![24, 3072]⟩
abbrev S1024 : Shape := ⟨1, ![1024]⟩
abbrev S4x512x1024 : Shape := ⟨3, ![4, 512, 1024]⟩
abbrev S1024x1024 : Shape := ⟨2, ![1024, 1024]⟩
abbrev S_ : Shape := ⟨0, ![]⟩
abbrev S24x1x3072 : Shape := ⟨3, ![24, 1, 3072]⟩
abbrev S1x1024 : Shape := ⟨2, ![1, 1024]⟩
abbrev S1x256x512 : Shape := ⟨3, ![1, 256, 512]⟩
abbrev S1x256x4096 : Shape := ⟨3, ![1, 256, 4096]⟩
abbrev S1x256x1024 : Shape := ⟨3, ![1, 256, 1024]⟩
abbrev S1x1x3072 : Shape := ⟨3, ![1, 1, 3072]⟩
abbrev S256x512 : Shape := ⟨2, ![256, 512]⟩
abbrev S1x512x1024 : Shape := ⟨3, ![1, 512, 1024]⟩
abbrev S512x1024 : Shape := ⟨2, ![512, 1024]⟩
abbrev S256x1024 : Shape := ⟨2, ![256, 1024]⟩
abbrev S256 : Shape := ⟨1, ![256]⟩
abbrev S256x1 : Shape := ⟨2, ![256, 1]⟩
abbrev S1x3072 : Shape := ⟨2, ![1, 3072]⟩

abbrev nBuf : Space → Nat
  | .hbm => 26
  | .vmem => 27
  | .smem => 0
  | _ => 0

abbrev bufTy : (tb : Table) → Fin (tcTables nBuf tb) → BufTy
  | .hbm, ⟨0, _⟩ => ⟨S16x2048x1024, .f32⟩
  | .hbm, ⟨1, _⟩ => ⟨S16x2304x10752, .f32⟩
  | .hbm, ⟨2, _⟩ => ⟨S16x2304x512, .f32⟩
  | .hbm, ⟨3, _⟩ => ⟨S16x2304x512, .f32⟩
  | .hbm, ⟨4, _⟩ => ⟨S16x2048x512, .f32⟩
  | .hbm, ⟨5, _⟩ => ⟨S16x2304x512, .f32⟩
  | .hbm, ⟨6, _⟩ => ⟨S24x3072, .f32⟩
  | .hbm, ⟨7, _⟩ => ⟨S1024, .f32⟩
  | .hbm, ⟨8, _⟩ => ⟨S4x512x1024, .f32⟩
  | .hbm, ⟨9, _⟩ => ⟨S1024x1024, .f32⟩
  | .hbm, ⟨10, _⟩ => ⟨S_, .f32⟩
  | .hbm, ⟨11, _⟩ => ⟨S16x2304x10752, .f32⟩
  | .hbm, ⟨12, _⟩ => ⟨S16x2304x10752, .f32⟩
  | .hbm, ⟨13, _⟩ => ⟨S16x2304x10752, .bf16⟩
  | .hbm, ⟨14, _⟩ => ⟨S16x2304x512, .bf16⟩
  | .hbm, ⟨15, _⟩ => ⟨S16x2304x512, .bf16⟩
  | .hbm, ⟨16, _⟩ => ⟨S16x2048x512, .bf16⟩
  | .hbm, ⟨17, _⟩ => ⟨S16x2304x512, .bf16⟩
  | .hbm, ⟨18, _⟩ => ⟨S24x1x3072, .f32⟩
  | .hbm, ⟨19, _⟩ => ⟨S_, .f32⟩
  | .hbm, ⟨20, _⟩ => ⟨S4x512x1024, .f32⟩
  | .hbm, ⟨21, _⟩ => ⟨S4x512x1024, .f32⟩
  | .hbm, ⟨22, _⟩ => ⟨S4x512x1024, .bf16⟩
  | .hbm, ⟨23, _⟩ => ⟨S1024x1024, .bf16⟩
  | .hbm, ⟨24, _⟩ => ⟨S1x1024, .f32⟩
  | .hbm, ⟨25, _⟩ => ⟨S16x2048x1024, .f32⟩
  | .local _ .vmem, ⟨0, _⟩ => ⟨S1x256x512, .bf16⟩
  | .local _ .vmem, ⟨1, _⟩ => ⟨S1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | .local _ .vmem, ⟨9, _⟩ => ⟨S1x256x512, .bf16⟩
  | .local _ .vmem, ⟨10, _⟩ => ⟨S1x256x512, .bf16⟩
  | .local _ .vmem, ⟨11, _⟩ => ⟨S1x256x512, .bf16⟩
  | .local _ .vmem, ⟨12, _⟩ => ⟨S1x256x512, .bf16⟩
  | .local _ .vmem, ⟨13, _⟩ => ⟨S1x256x512, .bf16⟩
  | .local _ .vmem, ⟨14, _⟩ => ⟨S1x256x512, .bf16⟩
  | .local _ .vmem, ⟨15, _⟩ => ⟨S1x256x512, .bf16⟩
  | .local _ .vmem, ⟨16, _⟩ => ⟨S1x256x4096, .bf16⟩
  | .local _ .vmem, ⟨17, _⟩ => ⟨S1x256x4096, .bf16⟩
  | .local _ .vmem, ⟨18, _⟩ => ⟨S1x256x1024, .f32⟩
  | .local _ .vmem, ⟨19, _⟩ => ⟨S1x256x1024, .f32⟩
  | .local _ .vmem, ⟨20, _⟩ => ⟨S1x1x3072, .f32⟩
  | .local _ .vmem, ⟨21, _⟩ => ⟨S1x1x3072, .f32⟩
  | .local _ .vmem, ⟨22, _⟩ => ⟨S1x1024, .f32⟩
  | .local _ .vmem, ⟨23, _⟩ => ⟨S4x512x1024, .bf16⟩
  | .local _ .vmem, ⟨24, _⟩ => ⟨S1024x1024, .bf16⟩
  | .local _ .vmem, ⟨25, _⟩ => ⟨S1x256x1024, .f32⟩
  | .local _ .vmem, ⟨26, _⟩ => ⟨S1x256x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg14_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem14_1 : DmaSem sig := 26

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c9_i32 : BitVec 32 := 9#32
  let c0_i32_0 : BitVec 32 := 0#32
  ![arg0.toNat, v0.toNat, c9_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c13_i32 : BitVec 32 := 13#32
  let c0_i32_0 : BitVec 32 := 0#32
  ![arg0.toNat, v0.toNat, c13_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c17_i32 : BitVec 32 := 17#32
  let c0_i32_0 : BitVec 32 := 0#32
  ![arg0.toNat, v0.toNat, c17_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c20_i32 : BitVec 32 := 20#32
  let c0_i32_0 : BitVec 32 := 0#32
  ![arg0.toNat, v0.toNat, c20_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x3072 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S4x512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== MergeRefIdeal.lean ====
abbrev S16x2048x1024 : Shape := ⟨3, ![16, 2048, 1024]⟩
abbrev S16x2304x10752 : Shape := ⟨3, ![16, 2304, 10752]⟩
abbrev S16x2304x512 : Shape := ⟨3, ![16, 2304, 512]⟩
abbrev S16x2048x512 : Shape := ⟨3, ![16, 2048, 512]⟩
abbrev S24x3072 : Shape := ⟨2, ![24, 3072]⟩
abbrev S1024 : Shape := ⟨1, ![1024]⟩
abbrev S4x512x1024 : Shape := ⟨3, ![4, 512, 1024]⟩
abbrev S1024x1024 : Shape := ⟨2, ![1024, 1024]⟩
abbrev S16x3072 : Shape := ⟨2, ![16, 3072]⟩
abbrev S16x1024 : Shape := ⟨2, ![16, 1024]⟩
abbrev S16x2048x10752 : Shape := ⟨3, ![16, 2048, 10752]⟩
abbrev S16x2048x4096 : Shape := ⟨3, ![16, 2048, 4096]⟩
abbrev S_ : Shape := ⟨0, ![]⟩
abbrev S16x2048x4x1024 : Shape := ⟨4, ![16, 2048, 4, 1024]⟩
abbrev S16x2048x1x1024 : Shape := ⟨4, ![16, 2048, 1, 1024]⟩
abbrev S1x512x1024 : Shape := ⟨3, ![1, 512, 1024]⟩
abbrev S512x1024 : Shape := ⟨2, ![512, 1024]⟩
abbrev S16x1x1024 : Shape := ⟨3, ![16, 1, 1024]⟩
abbrev S16x2048 : Shape := ⟨2, ![16, 2048]⟩
abbrev S16x2048x1 : Shape := ⟨3, ![16, 2048, 1]⟩
abbrev S1x1x1024 : Shape := ⟨3, ![1, 1, 1024]⟩

abbrev nBuf : Space → Nat
  | .hbm => 120
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2304x10752, .f32⟩
  | .hbm, ⟨2, _⟩ => ⟨S16x2304x512, .f32⟩
  | .hbm, ⟨3, _⟩ => ⟨S16x2304x512, .f32⟩
  | .hbm, ⟨4, _⟩ => ⟨S16x2048x512, .f32⟩
  | .hbm, ⟨5, _⟩ => ⟨S16x2304x512, .f32⟩
  | .hbm, ⟨6, _⟩ => ⟨S24x3072, .f32⟩
  | .hbm, ⟨7, _⟩ => ⟨S1024, .f32⟩
  | .hbm, ⟨8, _⟩ => ⟨S4x512x1024, .f32⟩
  | .hbm, ⟨9, _⟩ => ⟨S1024x1024, .f32⟩
  | .hbm, ⟨10, _⟩ => ⟨S16x3072, .f32⟩
  | .hbm, ⟨11, _⟩ => ⟨S16x1024, .f32⟩
  | .hbm, ⟨12, _⟩ => ⟨S16x1024, .f32⟩
  | .hbm, ⟨13, _⟩ => ⟨S16x1024, .f32⟩
  | .hbm, ⟨14, _⟩ => ⟨S16x2048x10752, .f32⟩
  | .hbm, ⟨15, _⟩ => ⟨S16x2048x512, .f32⟩
  | .hbm, ⟨16, _⟩ => ⟨S16x2048x512, .f32⟩
  | .hbm, ⟨17, _⟩ => ⟨S16x2048x512, .f32⟩
  | .hbm, ⟨18, _⟩ => ⟨S16x2048x4096, .f32⟩
  | .hbm, ⟨19, _⟩ => ⟨S16x2048x4096, .f32⟩
  | .hbm, ⟨20, _⟩ => ⟨S16x2048x4096, .f32⟩
  | .hbm, ⟨21, _⟩ => ⟨S_, .f32⟩
  | .hbm, ⟨22, _⟩ => ⟨S16x2048x4096, .f32⟩
  | .hbm, ⟨23, _⟩ => ⟨S16x2048x4096, .f32⟩
  | .hbm, ⟨24, _⟩ => ⟨S_, .f32⟩
  | .hbm, ⟨25, _⟩ => ⟨S16x2048x4096, .f32⟩
  | .hbm, ⟨26, _⟩ => ⟨S16x2048x4096, .f32⟩
  | .hbm, ⟨27, _⟩ => ⟨S16x2048x4x1024, .f32⟩
  | .hbm, ⟨28, _⟩ => ⟨S16x2048x512, .f32⟩
  | .hbm, ⟨29, _⟩ => ⟨S16x2048x512, .f32⟩
  | .hbm, ⟨30, _⟩ => ⟨S16x2048x512, .f32⟩
  | .hbm, ⟨31, _⟩ => ⟨S16x2048x512, .f32⟩
  | .hbm, ⟨32, _⟩ => ⟨S16x2048x1x1024, .f32⟩
  | .hbm, ⟨33, _⟩ => ⟨S16x2048x1024, .f32⟩
  | .hbm, ⟨34, _⟩ => ⟨S16x2048x512, .f32⟩
  | .hbm, ⟨35, _⟩ => ⟨S16x2048x512, .f32⟩
  | .hbm, ⟨36, _⟩ => ⟨S_, .f32⟩
  | .hbm, ⟨37, _⟩ => ⟨S16x2048x512, .f32⟩
  | .hbm, ⟨38, _⟩ => ⟨S16x2048x512, .f32⟩
  | .hbm, ⟨39, _⟩ => ⟨S_, .f32⟩
  | .hbm, ⟨40, _⟩ => ⟨S16x2048x512, .f32⟩
  | .hbm, ⟨41, _⟩ => ⟨S16x2048x512, .f32⟩
  | .hbm, ⟨42, _⟩ => ⟨S16x2048x512, .f32⟩
  | .hbm, ⟨43, _⟩ => ⟨S16x2048x512, .f32⟩
  | .hbm, ⟨44, _⟩ => ⟨S1x512x1024, .f32⟩
  | .hbm, ⟨45, _⟩ => ⟨S512x1024, .f32⟩
  | .hbm, ⟨46, _⟩ => ⟨S16x2048x1024, .f32⟩
  | .hbm, ⟨47, _⟩ => ⟨S16x2048x1024, .f32⟩
  | .hbm, ⟨48, _⟩ => ⟨S16x2048x1x1024, .f32⟩
  | .hbm, ⟨49, _⟩ => ⟨S16x2048x1024, .f32⟩
  | .hbm, ⟨50, _⟩ => ⟨S16x2048x512, .f32⟩
  | .hbm, ⟨51, _⟩ => ⟨S16x2048x512, .f32⟩
  | .hbm, ⟨52, _⟩ => ⟨S_, .f32⟩
  | .hbm, ⟨53, _⟩ => ⟨S16x2048x512, .f32⟩
  | .hbm, ⟨54, _⟩ => ⟨S16x2048x512, .f32⟩
  | .hbm, ⟨55, _⟩ => ⟨S_, .f32⟩
  | .hbm, ⟨56, _⟩ => ⟨S16x2048x512, .f32⟩
  | .hbm, ⟨57, _⟩ => ⟨S16x2048x512, .f32⟩
  | .hbm, ⟨58, _⟩ => ⟨S16x2048x512, .f32⟩
  | .hbm, ⟨59, _⟩ => ⟨S16x2048x512, .f32⟩
  | .hbm, ⟨60, _⟩ => ⟨S1x512x1024, .f32⟩
  | .hbm, ⟨61, _⟩ => ⟨S512x1024, .f32⟩
  | .hbm, ⟨62, _⟩ => ⟨S16x2048x1024, .f32⟩
  | .hbm, ⟨63, _⟩ => ⟨S16x2048x1024, .f32⟩
  | .hbm, ⟨64, _⟩ => ⟨S16x2048x1x1024, .f32⟩
  | .hbm, ⟨65, _⟩ => ⟨S16x2048x1024, .f32⟩
  | .hbm, ⟨66, _⟩ => ⟨S16x2048x512, .f32⟩
  | .hbm, ⟨67, _⟩ => ⟨S16x2048x512, .f32⟩
  | .hbm, ⟨68, _⟩ => ⟨S_, .f32⟩
  | .hbm, ⟨69, _⟩ => ⟨S16x2048x512, .f32⟩
  | .hbm, ⟨70, _⟩ => ⟨S16x2048x512, .f32⟩
  | .hbm, ⟨71, _⟩ => ⟨S_, .f32⟩
  | .hbm, ⟨72, _⟩ => ⟨S16x2048x512, .f32⟩
  | .hbm, ⟨73, _⟩ => ⟨S16x2048x512, .f32⟩
  | .hbm, ⟨74, _⟩ => ⟨S16x2048x512, .f32⟩
  | .hbm, ⟨75, _⟩ => ⟨S16x2048x512, .f32⟩
  | .hbm, ⟨76, _⟩ => ⟨S1x512x1024, .f32⟩
  | .hbm, ⟨77, _⟩ => ⟨S512x1024, .f32⟩
  | .hbm, ⟨78, _⟩ => ⟨S16x2048x1024, .f32⟩
  | .hbm, ⟨79, _⟩ => ⟨S16x2048x1024, .f32⟩
  | .hbm, ⟨80, _⟩ => ⟨S16x2048x1x1024, .f32⟩
  | .hbm, ⟨81, _⟩ => ⟨S16x2048x1024, .f32⟩
  | .hbm, ⟨82, _⟩ => ⟨S16x2048x512, .f32⟩
  | .hbm, ⟨83, _⟩ => ⟨S16x2048x512, .f32⟩
  | .hbm, ⟨84, _⟩ => ⟨S_, .f32⟩
  | .hbm, ⟨85, _⟩ => ⟨S16x2048x512, .f32⟩
  | .hbm, ⟨86, _⟩ => ⟨S16x2048x512, .f32⟩
  | .hbm, ⟨87, _⟩ => ⟨S_, .f32⟩
  | .hbm, ⟨88, _⟩ => ⟨S16x2048x512, .f32⟩
  | .hbm, ⟨89, _⟩ => ⟨S16x2048x512, .f32⟩
  | .hbm, ⟨90, _⟩ => ⟨S16x2048x512, .f32⟩
  | .hbm, ⟨91, _⟩ => ⟨S16x2048x512, .f32⟩
  | .hbm, ⟨92, _⟩ => ⟨S1x512x1024, .f32⟩
  | .hbm, ⟨93, _⟩ => ⟨S512x1024, .f32⟩
  | .hbm, ⟨94, _⟩ => ⟨S16x2048x1024, .f32⟩
  | .hbm, ⟨95, _⟩ => ⟨S16x2048x1024, .f32⟩
  | .hbm, ⟨96, _⟩ => ⟨S16x2048x1024, .f32⟩
  | .hbm, ⟨97, _⟩ => ⟨S16x2048x1024, .f32⟩
  | .hbm, ⟨98, _⟩ => ⟨S16x2048x1024, .f32⟩
  | .hbm, ⟨99, _⟩ => ⟨S16x2048x1024, .f32⟩
  | .hbm, ⟨100, _⟩ => ⟨S16x1x1024, .f32⟩
  | .hbm, ⟨101, _⟩ => ⟨S16x2048x1024, .f32⟩
  | .hbm, ⟨102, _⟩ => ⟨S_, .f32⟩
  | .hbm, ⟨103, _⟩ => ⟨S16x2048, .f32⟩
  | .hbm, ⟨104, _⟩ => ⟨S16x2048x1, .f32⟩
  | .hbm, ⟨105, _⟩ => ⟨S_, .f32⟩
  | .hbm, ⟨106, _⟩ => ⟨S16x2048x1, .f32⟩
  | .hbm, ⟨107, _⟩ => ⟨S16x2048x1, .f32⟩
  | .hbm, ⟨108, _⟩ => ⟨S_, .f32⟩
  | .hbm, ⟨109, _⟩ => ⟨S16x2048x1, .f32⟩
  | .hbm, ⟨110, _⟩ => ⟨S16x2048x1, .f32⟩
  | .hbm, ⟨111, _⟩ => ⟨S16x2048x1, .f32⟩
  | .hbm, ⟨112, _⟩ => ⟨S16x2048x1024, .f32⟩
  | .hbm, ⟨113, _⟩ => ⟨S16x2048x1024, .f32⟩
  | .hbm, ⟨114, _⟩ => ⟨S1x1x1024, .f32⟩
  | .hbm, ⟨115, _⟩ => ⟨S16x2048x1024, .f32⟩
  | .hbm, ⟨116, _⟩ => ⟨S16x2048x1024, .f32⟩
  | .hbm, ⟨117, _⟩ => ⟨S16x2048x1024, .f32⟩
  | .hbm, ⟨118, _⟩ => ⟨S16x2048x1024, .f32⟩
  | .hbm, ⟨119, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_call1_v0 : Ref sig .tc := ⟨.hbm, 50, rfl⟩
abbrev main_call1_v1 : Ref sig .tc := ⟨.hbm, 51, rfl⟩
abbrev main_call1_cst : Ref sig .tc := ⟨.hbm, 52, rfl⟩
abbrev main_call1_v2 : Ref sig .tc := ⟨.hbm, 53, rfl⟩
abbrev main_call1_v3 : Ref sig .tc := ⟨.hbm, 54, rfl⟩
abbrev main_call1_cst_0 : Ref sig .tc := ⟨.hbm, 55, rfl⟩
abbrev main_call1_v4 : Ref sig .tc := ⟨.hbm, 56, rfl⟩
abbrev main_call1_v5 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_call2_v0 : Ref sig .tc := ⟨.hbm, 66, rfl⟩
abbrev main_call2_v1 : Ref sig .tc := ⟨.hbm, 67, rfl⟩
abbrev main_call2_cst : Ref sig .tc := ⟨.hbm, 68, rfl⟩
abbrev main_call2_v2 : Ref sig .tc := ⟨.hbm, 69, rfl⟩
abbrev main_call2_v3 : Ref sig .tc := ⟨.hbm, 70, rfl⟩
abbrev main_call2_cst_0 : Ref sig .tc := ⟨.hbm, 71, rfl⟩
abbrev main_call2_v4 : Ref sig .tc := ⟨.hbm, 72, rfl⟩
abbrev main_call2_v5 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_call3_v0 : Ref sig .tc := ⟨.hbm, 82, rfl⟩
abbrev main_call3_v1 : Ref sig .tc := ⟨.hbm, 83, rfl⟩
abbrev main_call3_cst : Ref sig .tc := ⟨.hbm, 84, rfl⟩
abbrev main_call3_v2 : Ref sig .tc := ⟨.hbm, 85, rfl⟩
abbrev main_call3_v3 : Ref sig .tc := ⟨.hbm, 86, rfl⟩
abbrev main_call3_cst_0 : Ref sig .tc := ⟨.hbm, 87, rfl⟩
abbrev main_call3_v4 : Ref sig .tc := ⟨.hbm, 88, rfl⟩
abbrev main_call3_v5 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_cst_1 : Ref sig .tc := ⟨.hbm, 102, rfl⟩
abbrev main_v58 : Ref sig .tc := ⟨.hbm, 103, rfl⟩
abbrev main_v59 : Ref sig .tc := ⟨.hbm, 104, rfl⟩
abbrev main_cst_2 : Ref sig .tc := ⟨.hbm, 105, rfl⟩
abbrev main_v60 : Ref sig .tc := ⟨.hbm, 106, rfl⟩
abbrev main_v61 : Ref sig .tc := ⟨.hbm, 107, rfl⟩
abbrev main_cst_3 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩

abbrev nD : Nat := 1
abbrev τ : Topo := Topo.v7x

variable {F : FTy → Type} [FloatOps F]
-- ==== MergeCtx.lean ====
abbrev S16x256x1024 : Shape := ⟨3, ![16, 256, 1024]⟩
abbrev S16x2304x10752 : Shape := ⟨3, ![16, 2304, 10752]⟩
abbrev S16x2304x512 : Shape := ⟨3, ![16, 2304, 512]⟩
abbrev S16x256x512 : Shape := ⟨3, ![16, 256, 512]⟩
abbrev S24x3072 : Shape := ⟨2, ![24, 3072]⟩
abbrev S1024 : Shape := ⟨1, ![1024]⟩
abbrev S4x512x1024 : Shape := ⟨3, ![4, 512, 1024]⟩
abbrev S1024x1024 : Shape := ⟨2, ![1024, 1024]⟩
abbrev S_ : Shape := ⟨0, ![]⟩
abbrev S24x1x3072 : Shape := ⟨3, ![24, 1, 3072]⟩
abbrev S1x1024 : Shape := ⟨2, ![1, 1024]⟩
abbrev S1x256x512 : Shape := ⟨3, ![1, 256, 512]⟩
abbrev S1x256x4096 : Shape := ⟨3, ![1, 256, 4096]⟩
abbrev S1x256x1024 : Shape := ⟨3, ![1, 256, 1024]⟩
abbrev S1x1x3072 : Shape := ⟨3, ![1, 1, 3072]⟩
abbrev S256x512 : Shape := ⟨2, ![256, 512]⟩
abbrev S1x512x1024 : Shape := ⟨3, ![1, 512, 1024]⟩
abbrev S512x1024 : Shape := ⟨2, ![512, 1024]⟩
abbrev S256x1024 : Shape := ⟨2, ![256, 1024]⟩
abbrev S256 : Shape := ⟨1, ![256]⟩
abbrev S256x1 : Shape := ⟨2, ![256, 1]⟩
abbrev S1x3072 : Shape := ⟨2, ![1, 3072]⟩

abbrev nBuf : Space → Nat
  | .hbm => 26
  | .vmem => 26
  | .smem => 0
  | _ => 0

abbrev bufTy : (tb : Table) → Fin (tcTables nBuf tb) → BufTy
  | .hbm, ⟨0, _⟩ => ⟨S16x256x1024, .f32⟩
  | .hbm, ⟨1, _⟩ => ⟨S16x2304x10752, .f32⟩
  | .hbm, ⟨2, _⟩ => ⟨S16x2304x512, .f32⟩
  | .hbm, ⟨3, _⟩ => ⟨S16x2304x512, .f32⟩
  | .hbm, ⟨4, _⟩ => ⟨S16x256x512, .f32⟩
  | .hbm, ⟨5, _⟩ => ⟨S16x2304x512, .f32⟩
  | .hbm, ⟨6, _⟩ => ⟨S24x3072, .f32⟩
  | .hbm, ⟨7, _⟩ => ⟨S1024, .f32⟩
  | .hbm, ⟨8, _⟩ => ⟨S4x512x1024, .f32⟩
  | .hbm, ⟨9, _⟩ => ⟨S1024x1024, .f32⟩
  | .hbm, ⟨10, _⟩ => ⟨S_, .f32⟩
  | .hbm, ⟨11, _⟩ => ⟨S16x2304x10752, .f32⟩
  | .hbm, ⟨12, _⟩ => ⟨S16x2304x10752, .f32⟩
  | .hbm, ⟨13, _⟩ => ⟨S16x2304x10752, .bf16⟩
  | .hbm, ⟨14, _⟩ => ⟨S16x2304x512, .bf16⟩
  | .hbm, ⟨15, _⟩ => ⟨S16x2304x512, .bf16⟩
  | .hbm, ⟨16, _⟩ => ⟨S16x256x512, .bf16⟩
  | .hbm, ⟨17, _⟩ => ⟨S16x2304x512, .bf16⟩
  | .hbm, ⟨18, _⟩ => ⟨S24x1x3072, .f32⟩
  | .hbm, ⟨19, _⟩ => ⟨S_, .f32⟩
  | .hbm, ⟨20, _⟩ => ⟨S4x512x1024, .f32⟩
  | .hbm, ⟨21, _⟩ => ⟨S4x512x1024, .f32⟩
  | .hbm, ⟨22, _⟩ => ⟨S4x512x1024, .bf16⟩
  | .hbm, ⟨23, _⟩ => ⟨S1024x1024, .bf16⟩
  | .hbm, ⟨24, _⟩ => ⟨S1x1024, .f32⟩
  | .hbm, ⟨25, _⟩ => ⟨S16x256x1024, .f32⟩
  | .local _ .vmem, ⟨0, _⟩ => ⟨S1x256x512, .bf16⟩
  | .local _ .vmem, ⟨1, _⟩ => ⟨S1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | .local _ .vmem, ⟨9, _⟩ => ⟨S1x256x512, .bf16⟩
  | .local _ .vmem, ⟨10, _⟩ => ⟨S1x256x512, .bf16⟩
  | .local _ .vmem, ⟨11, _⟩ => ⟨S1x256x512, .bf16⟩
  | .local _ .vmem, ⟨12, _⟩ => ⟨S1x256x512, .bf16⟩
  | .local _ .vmem, ⟨13, _⟩ => ⟨S1x256x512, .bf16⟩
  | .local _ .vmem, ⟨14, _⟩ => ⟨S1x256x512, .bf16⟩
  | .local _ .vmem, ⟨15, _⟩ => ⟨S1x256x512, .bf16⟩
  | .local _ .vmem, ⟨16, _⟩ => ⟨S1x256x4096, .bf16⟩
  | .local _ .vmem, ⟨17, _⟩ => ⟨S1x256x4096, .bf16⟩
  | .local _ .vmem, ⟨18, _⟩ => ⟨S1x256x1024, .f32⟩
  | .local _ .vmem, ⟨19, _⟩ => ⟨S1x256x1024, .f32⟩
  | .local _ .vmem, ⟨20, _⟩ => ⟨S1x1x3072, .f32⟩
  | .local _ .vmem, ⟨21, _⟩ => ⟨S1x1024, .f32⟩
  | .local _ .vmem, ⟨22, _⟩ => ⟨S4x512x1024, .bf16⟩
  | .local _ .vmem, ⟨23, _⟩ => ⟨S1024x1024, .bf16⟩
  | .local _ .vmem, ⟨24, _⟩ => ⟨S1x256x1024, .f32⟩
  | .local _ .vmem, ⟨25, _⟩ => ⟨S1x256x1024, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg14_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c9_i32 : BitVec 32 := 9#32
  let c0_i32 : BitVec 32 := 0#32
  ![arg0.toNat, v0.toNat, c9_i32.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c13_i32 : BitVec 32 := 13#32
  let c0_i32 : BitVec 32 := 0#32
  ![arg0.toNat, v0.toNat, c13_i32.toNat]

def cc0_transform_6 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c17_i32 : BitVec 32 := 17#32
  let c0_i32 : BitVec 32 := 0#32
  ![arg0.toNat, v0.toNat, c17_i32.toNat]

def cc0_transform_7 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c20_i32 : BitVec 32 := 20#32
  let c0_i32 : BitVec 32 := 0#32
  ![arg0.toNat, v0.toNat, c20_i32.toNat]

def cc0_transform_8 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  ![arg0.toNat, v0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c16_i32 : BitVec 32 := 16#32
  let c0_i32 : BitVec 32 := 0#32
  let c0_i32_0 : BitVec 32 := 0#32
  let c0_i32_1 : BitVec 32 := 0#32
  ![c16_i32.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1x1x3072 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S4x512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== MergeCtxRefIdeal.lean ====
abbrev S16x256x1024 : Shape := ⟨3, ![16, 256, 1024]⟩
abbrev S16x2304x10752 : Shape := ⟨3, ![16, 2304, 10752]⟩
abbrev S16x2304x512 : Shape := ⟨3, ![16, 2304, 512]⟩
abbrev S16x256x512 : Shape := ⟨3, ![16, 256, 512]⟩
abbrev S24x3072 : Shape := ⟨2, ![24, 3072]⟩
abbrev S1024 : Shape := ⟨1, ![1024]⟩
abbrev S4x512x1024 : Shape := ⟨3, ![4, 512, 1024]⟩
abbrev S1024x1024 : Shape := ⟨2, ![1024, 1024]⟩
abbrev S1x3072 : Shape := ⟨2, ![1, 3072]⟩
abbrev S3072 : Shape := ⟨1, ![3072]⟩
abbrev S16x256x10752 : Shape := ⟨3, ![16, 256, 10752]⟩
abbrev S16x256x4096 : Shape := ⟨3, ![16, 256, 4096]⟩
abbrev S_ : Shape := ⟨0, ![]⟩
abbrev S16x256x4x1024 : Shape := ⟨4, ![16, 256, 4, 1024]⟩
abbrev S16x256x1x1024 : Shape := ⟨4, ![16, 256, 1, 1024]⟩
abbrev S1x512x1024 : Shape := ⟨3, ![1, 512, 1024]⟩
abbrev S512x1024 : Shape := ⟨2, ![512, 1024]⟩
abbrev S16x256 : Shape := ⟨2, ![16, 256]⟩
abbrev S16x256x1 : Shape := ⟨3, ![16, 256, 1]⟩
abbrev S1x1x1024 : Shape := ⟨3, ![1, 1, 1024]⟩

abbrev nBuf : Space → Nat
  | .hbm => 121
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S16x2304x10752, .f32⟩
  | .hbm, ⟨2, _⟩ => ⟨S16x2304x512, .f32⟩
  | .hbm, ⟨3, _⟩ => ⟨S16x2304x512, .f32⟩
  | .hbm, ⟨4, _⟩ => ⟨S16x256x512, .f32⟩
  | .hbm, ⟨5, _⟩ => ⟨S16x2304x512, .f32⟩
  | .hbm, ⟨6, _⟩ => ⟨S24x3072, .f32⟩
  | .hbm, ⟨7, _⟩ => ⟨S1024, .f32⟩
  | .hbm, ⟨8, _⟩ => ⟨S4x512x1024, .f32⟩
  | .hbm, ⟨9, _⟩ => ⟨S1024x1024, .f32⟩
  | .hbm, ⟨10, _⟩ => ⟨S1x3072, .f32⟩
  | .hbm, ⟨11, _⟩ => ⟨S3072, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S16x256x10752, .f32⟩
  | .hbm, ⟨16, _⟩ => ⟨S16x256x512, .f32⟩
  | .hbm, ⟨17, _⟩ => ⟨S16x256x512, .f32⟩
  | .hbm, ⟨18, _⟩ => ⟨S16x256x512, .f32⟩
  | .hbm, ⟨19, _⟩ => ⟨S16x256x4096, .f32⟩
  | .hbm, ⟨20, _⟩ => ⟨S16x256x4096, .f32⟩
  | .hbm, ⟨21, _⟩ => ⟨S16x256x4096, .f32⟩
  | .hbm, ⟨22, _⟩ => ⟨S_, .f32⟩
  | .hbm, ⟨23, _⟩ => ⟨S16x256x4096, .f32⟩
  | .hbm, ⟨24, _⟩ => ⟨S16x256x4096, .f32⟩
  | .hbm, ⟨25, _⟩ => ⟨S_, .f32⟩
  | .hbm, ⟨26, _⟩ => ⟨S16x256x4096, .f32⟩
  | .hbm, ⟨27, _⟩ => ⟨S16x256x4096, .f32⟩
  | .hbm, ⟨28, _⟩ => ⟨S16x256x4x1024, .f32⟩
  | .hbm, ⟨29, _⟩ => ⟨S16x256x512, .f32⟩
  | .hbm, ⟨30, _⟩ => ⟨S16x256x512, .f32⟩
  | .hbm, ⟨31, _⟩ => ⟨S16x256x512, .f32⟩
  | .hbm, ⟨32, _⟩ => ⟨S16x256x512, .f32⟩
  | .hbm, ⟨33, _⟩ => ⟨S16x256x1x1024, .f32⟩
  | .hbm, ⟨34, _⟩ => ⟨S16x256x1024, .f32⟩
  | .hbm, ⟨35, _⟩ => ⟨S16x256x512, .f32⟩
  | .hbm, ⟨36, _⟩ => ⟨S16x256x512, .f32⟩
  | .hbm, ⟨37, _⟩ => ⟨S_, .f32⟩
  | .hbm, ⟨38, _⟩ => ⟨S16x256x512, .f32⟩
  | .hbm, ⟨39, _⟩ => ⟨S16x256x512, .f32⟩
  | .hbm, ⟨40, _⟩ => ⟨S_, .f32⟩
  | .hbm, ⟨41, _⟩ => ⟨S16x256x512, .f32⟩
  | .hbm, ⟨42, _⟩ => ⟨S16x256x512, .f32⟩
  | .hbm, ⟨43, _⟩ => ⟨S16x256x512, .f32⟩
  | .hbm, ⟨44, _⟩ => ⟨S16x256x512, .f32⟩
  | .hbm, ⟨45, _⟩ => ⟨S1x512x1024, .f32⟩
  | .hbm, ⟨46, _⟩ => ⟨S512x1024, .f32⟩
  | .hbm, ⟨47, _⟩ => ⟨S16x256x1024, .f32⟩
  | .hbm, ⟨48, _⟩ => ⟨S16x256x1024, .f32⟩
  | .hbm, ⟨49, _⟩ => ⟨S16x256x1x1024, .f32⟩
  | .hbm, ⟨50, _⟩ => ⟨S16x256x1024, .f32⟩
  | .hbm, ⟨51, _⟩ => ⟨S16x256x512, .f32⟩
  | .hbm, ⟨52, _⟩ => ⟨S16x256x512, .f32⟩
  | .hbm, ⟨53, _⟩ => ⟨S_, .f32⟩
  | .hbm, ⟨54, _⟩ => ⟨S16x256x512, .f32⟩
  | .hbm, ⟨55, _⟩ => ⟨S16x256x512, .f32⟩
  | .hbm, ⟨56, _⟩ => ⟨S_, .f32⟩
  | .hbm, ⟨57, _⟩ => ⟨S16x256x512, .f32⟩
  | .hbm, ⟨58, _⟩ => ⟨S16x256x512, .f32⟩
  | .hbm, ⟨59, _⟩ => ⟨S16x256x512, .f32⟩
  | .hbm, ⟨60, _⟩ => ⟨S16x256x512, .f32⟩
  | .hbm, ⟨61, _⟩ => ⟨S1x512x1024, .f32⟩
  | .hbm, ⟨62, _⟩ => ⟨S512x1024, .f32⟩
  | .hbm, ⟨63, _⟩ => ⟨S16x256x1024, .f32⟩
  | .hbm, ⟨64, _⟩ => ⟨S16x256x1024, .f32⟩
  | .hbm, ⟨65, _⟩ => ⟨S16x256x1x1024, .f32⟩
  | .hbm, ⟨66, _⟩ => ⟨S16x256x1024, .f32⟩
  | .hbm, ⟨67, _⟩ => ⟨S16x256x512, .f32⟩
  | .hbm, ⟨68, _⟩ => ⟨S16x256x512, .f32⟩
  | .hbm, ⟨69, _⟩ => ⟨S_, .f32⟩
  | .hbm, ⟨70, _⟩ => ⟨S16x256x512, .f32⟩
  | .hbm, ⟨71, _⟩ => ⟨S16x256x512, .f32⟩
  | .hbm, ⟨72, _⟩ => ⟨S_, .f32⟩
  | .hbm, ⟨73, _⟩ => ⟨S16x256x512, .f32⟩
  | .hbm, ⟨74, _⟩ => ⟨S16x256x512, .f32⟩
  | .hbm, ⟨75, _⟩ => ⟨S16x256x512, .f32⟩
  | .hbm, ⟨76, _⟩ => ⟨S16x256x512, .f32⟩
  | .hbm, ⟨77, _⟩ => ⟨S1x512x1024, .f32⟩
  | .hbm, ⟨78, _⟩ => ⟨S512x1024, .f32⟩
  | .hbm, ⟨79, _⟩ => ⟨S16x256x1024, .f32⟩
  | .hbm, ⟨80, _⟩ => ⟨S16x256x1024, .f32⟩
  | .hbm, ⟨81, _⟩ => ⟨S16x256x1x1024, .f32⟩
  | .hbm, ⟨82, _⟩ => ⟨S16x256x1024, .f32⟩
  | .hbm, ⟨83, _⟩ => ⟨S16x256x512, .f32⟩
  | .hbm, ⟨84, _⟩ => ⟨S16x256x512, .f32⟩
  | .hbm, ⟨85, _⟩ => ⟨S_, .f32⟩
  | .hbm, ⟨86, _⟩ => ⟨S16x256x512, .f32⟩
  | .hbm, ⟨87, _⟩ => ⟨S16x256x512, .f32⟩
  | .hbm, ⟨88, _⟩ => ⟨S_, .f32⟩
  | .hbm, ⟨89, _⟩ => ⟨S16x256x512, .f32⟩
  | .hbm, ⟨90, _⟩ => ⟨S16x256x512, .f32⟩
  | .hbm, ⟨91, _⟩ => ⟨S16x256x512, .f32⟩
  | .hbm, ⟨92, _⟩ => ⟨S16x256x512, .f32⟩
  | .hbm, ⟨93, _⟩ => ⟨S1x512x1024, .f32⟩
  | .hbm, ⟨94, _⟩ => ⟨S512x1024, .f32⟩
  | .hbm, ⟨95, _⟩ => ⟨S16x256x1024, .f32⟩
  | .hbm, ⟨96, _⟩ => ⟨S16x256x1024, .f32⟩
  | .hbm, ⟨97, _⟩ => ⟨S16x256x1024, .f32⟩
  | .hbm, ⟨98, _⟩ => ⟨S16x256x1024, .f32⟩
  | .hbm, ⟨99, _⟩ => ⟨S16x256x1024, .f32⟩
  | .hbm, ⟨100, _⟩ => ⟨S16x256x1024, .f32⟩
  | .hbm, ⟨101, _⟩ => ⟨S16x256x1024, .f32⟩
  | .hbm, ⟨102, _⟩ => ⟨S_, .f32⟩
  | .hbm, ⟨103, _⟩ => ⟨S16x256, .f32⟩
  | .hbm, ⟨104, _⟩ => ⟨S16x256x1, .f32⟩
  | .hbm, ⟨105, _⟩ => ⟨S_, .f32⟩
  | .hbm, ⟨106, _⟩ => ⟨S16x256x1, .f32⟩
  | .hbm, ⟨107, _⟩ => ⟨S16x256x1, .f32⟩
  | .hbm, ⟨108, _⟩ => ⟨S_, .f32⟩
  | .hbm, ⟨109, _⟩ => ⟨S16x256x1, .f32⟩
  | .hbm, ⟨110, _⟩ => ⟨S16x256x1, .f32⟩
  | .hbm, ⟨111, _⟩ => ⟨S16x256x1, .f32⟩
  | .hbm, ⟨112, _⟩ => ⟨S16x256x1024, .f32⟩
  | .hbm, ⟨113, _⟩ => ⟨S16x256x1024, .f32⟩
  | .hbm, ⟨114, _⟩ => ⟨S1x1x1024, .f32⟩
  | .hbm, ⟨115, _⟩ => ⟨S16x256x1024, .f32⟩
  | .hbm, ⟨116, _⟩ => ⟨S16x256x1024, .f32⟩
  | .hbm, ⟨117, _⟩ => ⟨S1x1x1024, .f32⟩
  | .hbm, ⟨118, _⟩ => ⟨S16x256x1024, .f32⟩
  | .hbm, ⟨119, _⟩ => ⟨S16x256x1024, .f32⟩
  | .hbm, ⟨120, _⟩ => ⟨S16x256x1024, .f32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_call1_v0 : Ref sig .tc := ⟨.hbm, 51, rfl⟩
abbrev main_call1_v1 : Ref sig .tc := ⟨.hbm, 52, rfl⟩
abbrev main_call1_cst : Ref sig .tc := ⟨.hbm, 53, rfl⟩
abbrev main_call1_v2 : Ref sig .tc := ⟨.hbm, 54, rfl⟩
abbrev main_call1_v3 : Ref sig .tc := ⟨.hbm, 55, rfl⟩
abbrev main_call1_cst_0 : Ref sig .tc := ⟨.hbm, 56, rfl⟩
abbrev main_call1_v4 : Ref sig .tc := ⟨.hbm, 57, rfl⟩
abbrev main_call1_v5 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_call2_v0 : Ref sig .tc := ⟨.hbm, 67, rfl⟩
abbrev main_call2_v1 : Ref sig .tc := ⟨.hbm, 68, rfl⟩
abbrev main_call2_cst : Ref sig .tc := ⟨.hbm, 69, rfl⟩
abbrev main_call2_v2 : Ref sig .tc := ⟨.hbm, 70, rfl⟩
abbrev main_call2_v3 : Ref sig .tc := ⟨.hbm, 71, rfl⟩
abbrev main_call2_cst_0 : Ref sig .tc := ⟨.hbm, 72, rfl⟩
abbrev main_call2_v4 : Ref sig .tc := ⟨.hbm, 73, rfl⟩
abbrev main_call2_v5 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_call3_v0 : Ref sig .tc := ⟨.hbm, 83, rfl⟩
abbrev main_call3_v1 : Ref sig .tc := ⟨.hbm, 84, rfl⟩
abbrev main_call3_cst : Ref sig .tc := ⟨.hbm, 85, rfl⟩
abbrev main_call3_v2 : Ref sig .tc := ⟨.hbm, 86, rfl⟩
abbrev main_call3_v3 : Ref sig .tc := ⟨.hbm, 87, rfl⟩
abbrev main_call3_cst_0 : Ref sig .tc := ⟨.hbm, 88, rfl⟩
abbrev main_call3_v4 : Ref sig .tc := ⟨.hbm, 89, rfl⟩
abbrev main_call3_v5 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_cst_1 : Ref sig .tc := ⟨.hbm, 102, rfl⟩
abbrev main_v58 : Ref sig .tc := ⟨.hbm, 103, rfl⟩
abbrev main_v59 : Ref sig .tc := ⟨.hbm, 104, rfl⟩
abbrev main_cst_2 : Ref sig .tc := ⟨.hbm, 105, rfl⟩
abbrev main_v60 : Ref sig .tc := ⟨.hbm, 106, rfl⟩
abbrev main_v61 : Ref sig .tc := ⟨.hbm, 107, rfl⟩
abbrev main_cst_3 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩

abbrev nD : Nat := 1
abbrev τ : Topo := Topo.v7x

variable {F : FTy → Type} [FloatOps F]
-- ==== Adaln.lean ====
abbrev S24x1024 : Shape := ⟨2, ![24, 1024]⟩
abbrev S1024x3072 : Shape := ⟨2, ![1024, 3072]⟩
abbrev S3072 : Shape := ⟨1, ![3072]⟩
abbrev S1x3072 : Shape := ⟨2, ![1, 3072]⟩
abbrev S24x3072 : Shape := ⟨2, ![24, 3072]⟩
abbrev S1024x768 : Shape := ⟨2, ![1024, 768]⟩
abbrev S1x768 : Shape := ⟨2, ![1, 768]⟩
abbrev S24x768 : Shape := ⟨2, ![24, 768]⟩

abbrev nBuf : Space → Nat
  | .hbm => 5
  | .vmem => 7
  | .smem => 0
  | _ => 0

abbrev bufTy : (tb : Table) → Fin (tcTables nBuf tb) → BufTy
  | .hbm, ⟨0, _⟩ => ⟨S24x1024, .f32⟩
  | .hbm, ⟨1, _⟩ => ⟨S1024x3072, .f32⟩
  | .hbm, ⟨2, _⟩ => ⟨S3072, .f32⟩
  | .hbm, ⟨3, _⟩ => ⟨S1x3072, .f32⟩
  | .hbm, ⟨4, _⟩ => ⟨S24x3072, .f32⟩
  | .local _ .vmem, ⟨0, _⟩ => ⟨S24x1024, .f32⟩
  | .local _ .vmem, ⟨1, _⟩ => ⟨S1024x768, .f32⟩
  | .local _ .vmem, ⟨2, _⟩ => ⟨S1024x768, .f32⟩
  | .local _ .vmem, ⟨3, _⟩ => ⟨S1x768, .f32⟩
  | .local _ .vmem, ⟨4, _⟩ => ⟨S1x768, .f32⟩
  | .local _ .vmem, ⟨5, _⟩ => ⟨S24x768, .f32⟩
  | .local _ .vmem, ⟨6, _⟩ => ⟨S24x768, .f32⟩
  | _, _ => ⟨S24x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S24x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdalnRefIdeal.lean ====
abbrev S24x1024 : Shape := ⟨2, ![24, 1024]⟩
abbrev S1024x3072 : Shape := ⟨2, ![1024, 3072]⟩
abbrev S3072 : Shape := ⟨1, ![3072]⟩
abbrev S_ : Shape := ⟨0, ![]⟩
abbrev S24x3072 : Shape := ⟨2, ![24, 3072]⟩
abbrev S1x3072 : Shape := ⟨2, ![1, 3072]⟩

abbrev nBuf : Space → Nat
  | .hbm => 16
  | .vmem => 0
  | .smem => 0
  | _ => 0

abbrev bufTy : (tb : Table) → Fin (tcTables nBuf tb) → BufTy
  | .hbm, ⟨0, _⟩ => ⟨S24x1024, .f32⟩
  | .hbm, ⟨1, _⟩ => ⟨S1024x3072, .f32⟩
  | .hbm, ⟨2, _⟩ => ⟨S3072, .f32⟩
  | .hbm, ⟨3, _⟩ => ⟨S24x1024, .f32⟩
  | .hbm, ⟨4, _⟩ => ⟨S24x1024, .f32⟩
  | .hbm, ⟨5, _⟩ => ⟨S_, .f32⟩
  | .hbm, ⟨6, _⟩ => ⟨S24x1024, .f32⟩
  | .hbm, ⟨7, _⟩ => ⟨S24x1024, .f32⟩
  | .hbm, ⟨8, _⟩ => ⟨S_, .f32⟩
  | .hbm, ⟨9, _⟩ => ⟨S24x1024, .f32⟩
  | .hbm, ⟨10, _⟩ => ⟨S24x1024, .f32⟩
  | .hbm, ⟨11, _⟩ => ⟨S24x1024, .f32⟩
  | .hbm, ⟨12, _⟩ => ⟨S24x3072, .f32⟩
  | .hbm, ⟨13, _⟩ => ⟨S1x3072, .f32⟩
  | .hbm, ⟨14, _⟩ => ⟨S24x3072, .f32⟩
  | .hbm, ⟨15, _⟩ => ⟨S24x3072, .f32⟩
  | _, _ => ⟨S24x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Prep.lean ====
abbrev S16x2304x10752 : Shape := ⟨3, ![16, 2304, 10752]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S2048x32 : Shape := ⟨2, ![2048, 32]⟩
abbrev S16x2304x32 : Shape := ⟨3, ![16, 2304, 32]⟩
abbrev S16x2304x4544 : Shape := ⟨3, ![16, 2304, 4544]⟩
abbrev S16x2304x8 : Shape := ⟨3, ![16, 2304, 8]⟩
abbrev S16x2304x16 : Shape := ⟨3, ![16, 2304, 16]⟩
abbrev S16x2304x6176 : Shape := ⟨3, ![16, 2304, 6176]⟩
abbrev S16x2304x4576 : Shape := ⟨3, ![16, 2304, 4576]⟩
abbrev S256x8x96 : Shape := ⟨3, ![256, 8, 96]⟩
abbrev S256x8x32 : Shape := ⟨3, ![256, 8, 32]⟩
abbrev S256x8x8 : Shape := ⟨3, ![256, 8, 8]⟩
abbrev S256x8x16 : Shape := ⟨3, ![256, 8, 16]⟩
abbrev S256x8x128 : Shape := ⟨3, ![256, 8, 128]⟩
abbrev S256x1024 : Shape := ⟨2, ![256, 1024]⟩
abbrev S128x8x128 : Shape := ⟨3, ![128, 8, 128]⟩
abbrev S_ : Shape := ⟨0, ![]⟩
abbrev S128x8x64 : Shape := ⟨3, ![128, 8, 64]⟩
abbrev S128x4x256 : Shape := ⟨3, ![128, 4, 256]⟩
abbrev S128x4x128 : Shape := ⟨3, ![128, 4, 128]⟩
abbrev S128x4x64 : Shape := ⟨3, ![128, 4, 64]⟩
abbrev S128x4x192 : Shape := ⟨3, ![128, 4, 192]⟩
abbrev S32 : Shape := ⟨1, ![32]⟩
abbrev S32x32 : Shape := ⟨2, ![32, 32]⟩
abbrev S32x1 : Shape := ⟨2, ![32, 1]⟩
abbrev S1x32 : Shape := ⟨2, ![1, 32]⟩
abbrev S32x64 : Shape := ⟨2, ![32, 64]⟩
abbrev S32x128 : Shape := ⟨2, ![32, 128]⟩
abbrev S32x96 : Shape := ⟨2, ![32, 96]⟩
abbrev S64x128 : Shape := ⟨2, ![64, 128]⟩
abbrev S128x128 : Shape := ⟨2, ![128, 128]⟩
abbrev S256x32 : Shape := ⟨2, ![256, 32]⟩
abbrev S2304x32 : Shape := ⟨2, ![2304, 32]⟩
abbrev S2304x64 : Shape := ⟨2, ![2304, 64]⟩
abbrev S1x256 : Shape := ⟨2, ![1, 256]⟩
abbrev S1x128 : Shape := ⟨2, ![1, 128]⟩
abbrev S2304x96 : Shape := ⟨2, ![2304, 96]⟩
abbrev S2304x128 : Shape := ⟨2, ![2304, 128]⟩
abbrev S16x2304x1024 : Shape := ⟨3, ![16, 2304, 1024]⟩
abbrev S1x256x512 : Shape := ⟨3, ![1, 256, 512]⟩
abbrev S256x128 : Shape := ⟨2, ![256, 128]⟩
abbrev S1x256x1024 : Shape := ⟨3, ![1, 256, 1024]⟩
abbrev S256x512 : Shape := ⟨2, ![256, 512]⟩
abbrev S256x256 : Shape := ⟨2, ![256, 256]⟩
abbrev S256x1 : Shape := ⟨2, ![256, 1]⟩
abbrev S1x256x128 : Shape := ⟨3, ![1, 256, 128]⟩
abbrev S1x1024 : Shape := ⟨2, ![1, 1024]⟩

abbrev nBuf : Space → Nat
  | .hbm => 111
  | .vmem => 22
  | .smem => 0
  | _ => 0

abbrev bufTy : (tb : Table) → Fin (tcTables nBuf tb) → BufTy
  | .hbm, ⟨0, _⟩ => ⟨S16x2304x10752, .f32⟩
  | .hbm, ⟨1, _⟩ => ⟨S256, .f32⟩
  | .hbm, ⟨2, _⟩ => ⟨S256x768, .f32⟩
  | .hbm, ⟨3, _⟩ => ⟨S128, .f32⟩
  | .hbm, ⟨4, _⟩ => ⟨S128x1024, .f32⟩
  | .hbm, ⟨5, _⟩ => ⟨S2048x32, .f32⟩
  | .hbm, ⟨6, _⟩ => ⟨S2048x32, .f32⟩
  | .hbm, ⟨7, _⟩ => ⟨S16x2304x32, .f32⟩
  | .hbm, ⟨8, _⟩ => ⟨S16x2304x4544, .f32⟩
  | .hbm, ⟨9, _⟩ => ⟨S16x2304x8, .f32⟩
  | .hbm, ⟨10, _⟩ => ⟨S16x2304x8, .f32⟩
  | .hbm, ⟨11, _⟩ => ⟨S16x2304x8, .f32⟩
  | .hbm, ⟨12, _⟩ => ⟨S16x2304x16, .f32⟩
  | .hbm, ⟨13, _⟩ => ⟨S16x2304x8, .f32⟩
  | .hbm, ⟨14, _⟩ => ⟨S16x2304x8, .f32⟩
  | .hbm, ⟨15, _⟩ => ⟨S16x2304x8, .f32⟩
  | .hbm, ⟨16, _⟩ => ⟨S16x2304x16, .f32⟩
  | .hbm, ⟨17, _⟩ => ⟨S16x2304x32, .f32⟩
  | .hbm, ⟨18, _⟩ => ⟨S16x2304x6176, .f32⟩
  | .hbm, ⟨19, _⟩ => ⟨S16x2304x4576, .f32⟩
  | .hbm, ⟨20, _⟩ => ⟨S16x2304x10752, .f32⟩
  | .hbm, ⟨21, _⟩ => ⟨S16x2304x10752, .bf16⟩
  | .hbm, ⟨22, _⟩ => ⟨S256x8x96, .f32⟩
  | .hbm, ⟨23, _⟩ => ⟨S256x8x32, .f32⟩
  | .hbm, ⟨24, _⟩ => ⟨S256x8x8, .f32⟩
  | .hbm, ⟨25, _⟩ => ⟨S256x8x8, .f32⟩
  | .hbm, ⟨26, _⟩ => ⟨S256x8x8, .f32⟩
  | .hbm, ⟨27, _⟩ => ⟨S256x8x16, .f32⟩
  | .hbm, ⟨28, _⟩ => ⟨S256x8x8, .f32⟩
  | .hbm, ⟨29, _⟩ => ⟨S256x8x8, .f32⟩
  | .hbm, ⟨30, _⟩ => ⟨S256x8x8, .f32⟩
  | .hbm, ⟨31, _⟩ => ⟨S256x8x16, .f32⟩
  | .hbm, ⟨32, _⟩ => ⟨S256x8x32, .f32⟩
  | .hbm, ⟨33, _⟩ => ⟨S256x8x128, .f32⟩
  | .hbm, ⟨34, _⟩ => ⟨S256x1024, .f32⟩
  | .hbm, ⟨35, _⟩ => ⟨S128x8x128, .f32⟩
  | .hbm, ⟨36, _⟩ => ⟨S_, .f32⟩
  | .hbm, ⟨37, _⟩ => ⟨S128x8x64, .f32⟩
  | .hbm, ⟨38, _⟩ => ⟨S128x8x64, .f32⟩
  | .hbm, ⟨39, _⟩ => ⟨S128x8x128, .f32⟩
  | .hbm, ⟨40, _⟩ => ⟨S128x1024, .f32⟩
  | .hbm, ⟨41, _⟩ => ⟨S128x4x256, .f32⟩
  | .hbm, ⟨42, _⟩ => ⟨S_, .f32⟩
  | .hbm, ⟨43, _⟩ => ⟨S128x4x128, .f32⟩
  | .hbm, ⟨44, _⟩ => ⟨S128x4x64, .f32⟩
  | .hbm, ⟨45, _⟩ => ⟨S128x4x64, .f32⟩
  | .hbm, ⟨46, _⟩ => ⟨S128x4x192, .f32⟩
  | .hbm, ⟨47, _⟩ => ⟨S128x4x256, .f32⟩
  | .hbm, ⟨48, _⟩ => ⟨S32, .i32⟩
  | .hbm, ⟨49, _⟩ => ⟨S_, .f32⟩
  | .hbm, ⟨50, _⟩ => ⟨S32x32, .f32⟩
  | .hbm, ⟨51, _⟩ => ⟨S32x1, .i32⟩
  | .hbm, ⟨52, _⟩ => ⟨S1x32, .i32⟩
  | .hbm, ⟨53, _⟩ => ⟨S32x32, .i32⟩
  | .hbm, ⟨54, _⟩ => ⟨S32x32, .i32⟩
  | .hbm, ⟨55, _⟩ => ⟨S32x32, .i1⟩
  | .hbm, ⟨56, _⟩ => ⟨S_, .f32⟩
  | .hbm, ⟨57, _⟩ => ⟨S32x32, .f32⟩
  | .hbm, ⟨58, _⟩ => ⟨S32x32, .f32⟩
  | .hbm, ⟨59, _⟩ => ⟨S_, .f32⟩
  | .hbm, ⟨60, _⟩ => ⟨S32x64, .f32⟩
  | .hbm, ⟨61, _⟩ => ⟨S_, .f32⟩
  | .hbm, ⟨62, _⟩ => ⟨S32x128, .f32⟩
  | .hbm, ⟨63, _⟩ => ⟨S32x96, .f32⟩
  | .hbm, ⟨64, _⟩ => ⟨S32x128, .f32⟩
  | .hbm, ⟨65, _⟩ => ⟨S64x128, .f32⟩
  | .hbm, ⟨66, _⟩ => ⟨S32x96, .f32⟩
  | .hbm, ⟨67, _⟩ => ⟨S32x128, .f32⟩
  | .hbm, ⟨68, _⟩ => ⟨S64x128, .f32⟩
  | .hbm, ⟨69, _⟩ => ⟨S128x128, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S256x32, .f32⟩
  | .hbm, ⟨79, _⟩ => ⟨S2304x32, .f32⟩
  | .hbm, ⟨80, _⟩ => ⟨S_, .f32⟩
  | .hbm, ⟨81, _⟩ => ⟨S256x32, .f32⟩
  | .hbm, ⟨82, _⟩ => ⟨S2304x32, .f32⟩
  | .hbm, ⟨83, _⟩ => ⟨S_, .f32⟩
  | .hbm, ⟨84, _⟩ => ⟨S2304x64, .f32⟩
  | .hbm, ⟨85, _⟩ => ⟨S_, .f32⟩
  | .hbm, ⟨86, _⟩ => ⟨S2304x64, .f32⟩
  | .hbm, ⟨87, _⟩ => ⟨S_, .f32⟩
  | .hbm, ⟨88, _⟩ => ⟨S2304x32, .f32⟩
  | .hbm, ⟨89, _⟩ => ⟨S1x256, .f32⟩
  | .hbm, ⟨90, _⟩ => ⟨S1x128, .f32⟩
  | .hbm, ⟨91, _⟩ => ⟨S256x1024, .bf16⟩
  | .hbm, ⟨92, _⟩ => ⟨S128x1024, .bf16⟩
  | .hbm, ⟨93, _⟩ => ⟨S128x1024, .f32⟩
  | .hbm, ⟨94, _⟩ => ⟨S128x1024, .bf16⟩
  | .hbm, ⟨95, _⟩ => ⟨S128x128, .bf16⟩
  | .hbm, ⟨96, _⟩ => ⟨S2304x96, .f32⟩
  | .hbm, ⟨97, _⟩ => ⟨S2304x128, .f32⟩
  | .hbm, ⟨98, _⟩ => ⟨S2304x128, .f32⟩
  | .hbm, ⟨99, _⟩ => ⟨S2304x128, .f32⟩
  | .hbm, ⟨100, _⟩ => ⟨S2304x96, .f32⟩
  | .hbm, ⟨101, _⟩ => ⟨S2304x128, .f32⟩
  | .hbm, ⟨102, _⟩ => ⟨S2304x128, .f32⟩
  | .hbm, ⟨103, _⟩ => ⟨S2304x128, .f32⟩
  | .hbm, ⟨104, _⟩ => ⟨S2304x96, .f32⟩
  | .hbm, ⟨105, _⟩ => ⟨S2304x128, .f32⟩
  | .hbm, ⟨106, _⟩ => ⟨S2304x96, .f32⟩
  | .hbm, ⟨107, _⟩ => ⟨S2304x128, .f32⟩
  | .hbm, ⟨108, _⟩ => ⟨S16x2304x1024, .bf16⟩
  | .hbm, ⟨109, _⟩ => ⟨S16x2304x1024, .bf16⟩
  | .hbm, ⟨110, _⟩ => ⟨S16x2304x1024, .bf16⟩
  | .local _ .vmem, ⟨0, _⟩ => ⟨S1x256x512, .bf16⟩
  | .local _ .vmem, ⟨1, _⟩ => ⟨S1x256x512, .bf16⟩
  | .local _ .vmem, ⟨2, _⟩ => ⟨S1x256, .f32⟩
  | .local _ .vmem, ⟨3, _⟩ => ⟨S1x128, .f32⟩
  | .local _ .vmem, ⟨4, _⟩ => ⟨S256x1024, .bf16⟩
  | .local _ .vmem, ⟨5, _⟩ => ⟨S128x1024, .bf16⟩
  | .local _ .vmem, ⟨6, _⟩ => ⟨S128x1024, .bf16⟩
  | .local _ .vmem, ⟨7, _⟩ => ⟨S128x128, .bf16⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S1x256x1024, .bf16⟩
  | .local _ .vmem, ⟨17, _⟩ => ⟨S1x256x1024, .bf16⟩
  | .local _ .vmem, ⟨18, _⟩ => ⟨S1x256x1024, .bf16⟩
  | .local _ .vmem, ⟨19, _⟩ => ⟨S1x256x1024, .bf16⟩
  | .local _ .vmem, ⟨20, _⟩ => ⟨S1x256x1024, .bf16⟩
  | .local _ .vmem, ⟨21, _⟩ => ⟨S1x256x1024, .bf16⟩
  | _, _ => ⟨S16x2304x10752, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_0 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_1 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_2 : Ref sig .tc := ⟨.hbm, 56, rfl⟩
abbrev main_v46 : Ref sig .tc := ⟨.hbm, 57, rfl⟩
abbrev main_v47 : Ref sig .tc := ⟨.hbm, 58, rfl⟩
abbrev main_cst_3 : Ref sig .tc := ⟨.hbm, 59, rfl⟩
abbrev main_v48 : Ref sig .tc := ⟨.hbm, 60, rfl⟩
abbrev main_cst_4 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_5 : Ref sig .tc := ⟨.hbm, 70, rfl⟩
abbrev main_v57 : Ref sig .tc := ⟨.hbm, 71, rfl⟩
abbrev main_cst_6 : Ref sig .tc := ⟨.hbm, 72, rfl⟩
abbrev main_v58 : Ref sig .tc := ⟨.hbm, 73, rfl⟩
abbrev main_v59 : Ref sig .tc := ⟨.hbm, 74, rfl⟩
abbrev main_cst_7 : Ref sig .tc := ⟨.hbm, 75, rfl⟩
abbrev main_v60 : Ref sig .tc := ⟨.hbm, 76, rfl⟩
abbrev main_cst_8 : Ref sig .tc := ⟨.hbm, 77, rfl⟩
abbrev main_v61 : Ref sig .tc := ⟨.hbm, 78, rfl⟩
abbrev main_v62 : Ref sig .tc := ⟨.hbm, 79, rfl⟩
abbrev main_cst_9 : Ref sig .tc := ⟨.hbm, 80, rfl⟩
abbrev main_v63 : Ref sig .tc := ⟨.hbm, 81, rfl⟩
abbrev main_v64 : Ref sig .tc := ⟨.hbm, 82, rfl⟩
abbrev main_cst_10 : Ref sig .tc := ⟨.hbm, 83, rfl⟩
abbrev main_v65 : Ref sig .tc := ⟨.hbm, 84, rfl⟩
abbrev main_cst_11 : Ref sig .tc := ⟨.hbm, 85, rfl⟩
abbrev main_v66 : Ref sig .tc := ⟨.hbm, 86, rfl⟩
abbrev main_cst_12 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87_0 : Ref sig .tc := ⟨.hbm, 108, rfl⟩
abbrev main_v87_1 : Ref sig .tc := ⟨.hbm, 109, rfl⟩
abbrev main_v87_2 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨2, ![16, 9], ![false, false]⟩

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== PrepRefIdeal.lean ====
abbrev S16x2304x10752 : Shape := ⟨3, ![16, 2304, 10752]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S2048x32 : Shape := ⟨2, ![2048, 32]⟩
abbrev S_ : Shape := ⟨0, ![]⟩
abbrev S16x2304x256 : Shape := ⟨3, ![16, 2304, 256]⟩
abbrev S16x2304 : Shape := ⟨2, ![16, 2304]⟩
abbrev S16x2304x1 : Shape := ⟨3, ![16, 2304, 1]⟩
abbrev S1x1x256 : Shape := ⟨3, ![1, 1, 256]⟩
abbrev S16x2304x128 : Shape := ⟨3, ![16, 2304, 128]⟩
abbrev S1x1x128 : Shape := ⟨3, ![1, 1, 128]⟩
abbrev S16x2304x32 : Shape := ⟨3, ![16, 2304, 32]⟩
abbrev S16x2304x1x32 : Shape := ⟨4, ![16, 2304, 1, 32]⟩
abbrev S16x2304x768 : Shape := ⟨3, ![16, 2304, 768]⟩
abbrev S16x2304x8x96 : Shape := ⟨4, ![16, 2304, 8, 96]⟩
abbrev S16x2304x1024 : Shape := ⟨3, ![16, 2304, 1024]⟩
abbrev S16x2304x8x128 : Shape := ⟨4, ![16, 2304, 8, 128]⟩
abbrev S16x2304x8x64 : Shape := ⟨4, ![16, 2304, 8, 64]⟩
abbrev S16x2304x8x32 : Shape := ⟨4, ![16, 2304, 8, 32]⟩
abbrev S16x2048x8x32 : Shape := ⟨4, ![16, 2048, 8, 32]⟩
abbrev S16x2048x8x8 : Shape := ⟨4, ![16, 2048, 8, 8]⟩
abbrev S1x2048x1x32 : Shape := ⟨4, ![1, 2048, 1, 32]⟩
abbrev S16x256x8x32 : Shape := ⟨4, ![16, 256, 8, 32]⟩
abbrev S16x2048x1x32 : Shape := ⟨4, ![16, 2048, 1, 32]⟩
abbrev S16x2048x1x8 : Shape := ⟨4, ![16, 2048, 1, 8]⟩
abbrev S16x256x1x32 : Shape := ⟨4, ![16, 256, 1, 32]⟩
abbrev S16x2304x4x2x64 : Shape := ⟨5, ![16, 2304, 4, 2, 64]⟩
abbrev S16x2304x4x128 : Shape := ⟨4, ![16, 2304, 4, 128]⟩
abbrev S16x2304x4x1x64 : Shape := ⟨5, ![16, 2304, 4, 1, 64]⟩
abbrev S16x2304x4x64 : Shape := ⟨4, ![16, 2304, 4, 64]⟩
abbrev S16x2304x4x256 : Shape := ⟨4, ![16, 2304, 4, 256]⟩

abbrev nBuf : Space → Nat
  | .hbm => 115
  | .vmem => 0
  | .smem => 0
  | _ => 0

abbrev bufTy : (tb : Table) → Fin (tcTables nBuf tb) → BufTy
  | .hbm, ⟨0, _⟩ => ⟨S16x2304x10752, .f32⟩
  | .hbm, ⟨1, _⟩ => ⟨S256, .f32⟩
  | .hbm, ⟨2, _⟩ => ⟨S256x768, .f32⟩
  | .hbm, ⟨3, _⟩ => ⟨S128, .f32⟩
  | .hbm, ⟨4, _⟩ => ⟨S128x1024, .f32⟩
  | .hbm, ⟨5, _⟩ => ⟨S2048x32, .f32⟩
  | .hbm, ⟨6, _⟩ => ⟨S2048x32, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S16x2304x256, .f32⟩
  | .hbm, ⟨15, _⟩ => ⟨S16x2304x256, .f32⟩
  | .hbm, ⟨16, _⟩ => ⟨S_, .f32⟩
  | .hbm, ⟨17, _⟩ => ⟨S16x2304, .f32⟩
  | .hbm, ⟨18, _⟩ => ⟨S16x2304x1, .f32⟩
  | .hbm, ⟨19, _⟩ => ⟨S_, .f32⟩
  | .hbm, ⟨20, _⟩ => ⟨S16x2304x1, .f32⟩
  | .hbm, ⟨21, _⟩ => ⟨S16x2304x1, .f32⟩
  | .hbm, ⟨22, _⟩ => ⟨S_, .f32⟩
  | .hbm, ⟨23, _⟩ => ⟨S16x2304x1, .f32⟩
  | .hbm, ⟨24, _⟩ => ⟨S16x2304x1, .f32⟩
  | .hbm, ⟨25, _⟩ => ⟨S16x2304x1, .f32⟩
  | .hbm, ⟨26, _⟩ => ⟨S16x2304x256, .f32⟩
  | .hbm, ⟨27, _⟩ => ⟨S16x2304x256, .f32⟩
  | .hbm, ⟨28, _⟩ => ⟨S1x1x256, .f32⟩
  | .hbm, ⟨29, _⟩ => ⟨S16x2304x256, .f32⟩
  | .hbm, ⟨30, _⟩ => ⟨S16x2304x256, .f32⟩
  | .hbm, ⟨31, _⟩ => ⟨S16x2304x128, .f32⟩
  | .hbm, ⟨32, _⟩ => ⟨S16x2304x128, .f32⟩
  | .hbm, ⟨33, _⟩ => ⟨S_, .f32⟩
  | .hbm, ⟨34, _⟩ => ⟨S16x2304, .f32⟩
  | .hbm, ⟨35, _⟩ => ⟨S16x2304x1, .f32⟩
  | .hbm, ⟨36, _⟩ => ⟨S_, .f32⟩
  | .hbm, ⟨37, _⟩ => ⟨S16x2304x1, .f32⟩
  | .hbm, ⟨38, _⟩ => ⟨S16x2304x1, .f32⟩
  | .hbm, ⟨39, _⟩ => ⟨S_, .f32⟩
  | .hbm, ⟨40, _⟩ => ⟨S16x2304x1, .f32⟩
  | .hbm, ⟨41, _⟩ => ⟨S16x2304x1, .f32⟩
  | .hbm, ⟨42, _⟩ => ⟨S16x2304x1, .f32⟩
  | .hbm, ⟨43, _⟩ => ⟨S16x2304x128, .f32⟩
  | .hbm, ⟨44, _⟩ => ⟨S16x2304x128, .f32⟩
  | .hbm, ⟨45, _⟩ => ⟨S1x1x128, .f32⟩
  | .hbm, ⟨46, _⟩ => ⟨S16x2304x128, .f32⟩
  | .hbm, ⟨47, _⟩ => ⟨S16x2304x128, .f32⟩
  | .hbm, ⟨48, _⟩ => ⟨S16x2304x32, .f32⟩
  | .hbm, ⟨49, _⟩ => ⟨S16x2304x1x32, .f32⟩
  | .hbm, ⟨50, _⟩ => ⟨S16x2304x768, .f32⟩
  | .hbm, ⟨51, _⟩ => ⟨S16x2304x8x96, .f32⟩
  | .hbm, ⟨52, _⟩ => ⟨S16x2304x1024, .f32⟩
  | .hbm, ⟨53, _⟩ => ⟨S16x2304x8x128, .f32⟩
  | .hbm, ⟨54, _⟩ => ⟨S16x2304x8x64, .f32⟩
  | .hbm, ⟨55, _⟩ => ⟨S16x2304x8x32, .f32⟩
  | .hbm, ⟨56, _⟩ => ⟨S16x2048x8x32, .f32⟩
  | .hbm, ⟨57, _⟩ => ⟨S16x2048x8x8, .f32⟩
  | .hbm, ⟨58, _⟩ => ⟨S16x2048x8x8, .f32⟩
  | .hbm, ⟨59, _⟩ => ⟨S16x2048x8x8, .f32⟩
  | .hbm, ⟨60, _⟩ => ⟨S16x2048x8x8, .f32⟩
  | .hbm, ⟨61, _⟩ => ⟨S16x2048x8x8, .f32⟩
  | .hbm, ⟨62, _⟩ => ⟨S16x2048x8x8, .f32⟩
  | .hbm, ⟨63, _⟩ => ⟨S16x2048x8x32, .f32⟩
  | .hbm, ⟨64, _⟩ => ⟨S1x2048x1x32, .f32⟩
  | .hbm, ⟨65, _⟩ => ⟨S16x2048x8x32, .f32⟩
  | .hbm, ⟨66, _⟩ => ⟨S16x2048x8x32, .f32⟩
  | .hbm, ⟨67, _⟩ => ⟨S1x2048x1x32, .f32⟩
  | .hbm, ⟨68, _⟩ => ⟨S16x2048x8x32, .f32⟩
  | .hbm, ⟨69, _⟩ => ⟨S16x2048x8x32, .f32⟩
  | .hbm, ⟨70, _⟩ => ⟨S16x2048x8x32, .f32⟩
  | .hbm, ⟨71, _⟩ => ⟨S16x256x8x32, .f32⟩
  | .hbm, ⟨72, _⟩ => ⟨S16x2304x8x32, .f32⟩
  | .hbm, ⟨73, _⟩ => ⟨S16x2304x8x96, .f32⟩
  | .hbm, ⟨74, _⟩ => ⟨S16x2304x8x96, .f32⟩
  | .hbm, ⟨75, _⟩ => ⟨S16x2304x8x96, .f32⟩
  | .hbm, ⟨76, _⟩ => ⟨S16x2048x1x32, .f32⟩
  | .hbm, ⟨77, _⟩ => ⟨S16x2048x1x8, .f32⟩
  | .hbm, ⟨78, _⟩ => ⟨S16x2048x1x8, .f32⟩
  | .hbm, ⟨79, _⟩ => ⟨S16x2048x1x8, .f32⟩
  | .hbm, ⟨80, _⟩ => ⟨S16x2048x1x8, .f32⟩
  | .hbm, ⟨81, _⟩ => ⟨S16x2048x1x8, .f32⟩
  | .hbm, ⟨82, _⟩ => ⟨S16x2048x1x8, .f32⟩
  | .hbm, ⟨83, _⟩ => ⟨S16x2048x1x32, .f32⟩
  | .hbm, ⟨84, _⟩ => ⟨S1x2048x1x32, .f32⟩
  | .hbm, ⟨85, _⟩ => ⟨S16x2048x1x32, .f32⟩
  | .hbm, ⟨86, _⟩ => ⟨S16x2048x1x32, .f32⟩
  | .hbm, ⟨87, _⟩ => ⟨S1x2048x1x32, .f32⟩
  | .hbm, ⟨88, _⟩ => ⟨S16x2048x1x32, .f32⟩
  | .hbm, ⟨89, _⟩ => ⟨S16x2048x1x32, .f32⟩
  | .hbm, ⟨90, _⟩ => ⟨S16x2048x1x32, .f32⟩
  | .hbm, ⟨91, _⟩ => ⟨S16x256x1x32, .f32⟩
  | .hbm, ⟨92, _⟩ => ⟨S16x2304x1x32, .f32⟩
  | .hbm, ⟨93, _⟩ => ⟨S16x2304x8x32, .f32⟩
  | .hbm, ⟨94, _⟩ => ⟨S16x2304x8x64, .f32⟩
  | .hbm, ⟨95, _⟩ => ⟨S16x2304x8x96, .f32⟩
  | .hbm, ⟨96, _⟩ => ⟨S_, .f32⟩
  | .hbm, ⟨97, _⟩ => ⟨S16x2304x8x32, .f32⟩
  | .hbm, ⟨98, _⟩ => ⟨S16x2304x8x64, .f32⟩
  | .hbm, ⟨99, _⟩ => ⟨S16x2304x4x2x64, .f32⟩
  | .hbm, ⟨100, _⟩ => ⟨S_, .f32⟩
  | .hbm, ⟨101, _⟩ => ⟨S16x2304x4x128, .f32⟩
  | .hbm, ⟨102, _⟩ => ⟨S16x2304x4x1x64, .f32⟩
  | .hbm, ⟨103, _⟩ => ⟨S16x2304x4x64, .f32⟩
  | .hbm, ⟨104, _⟩ => ⟨S16x2304x4x1x64, .f32⟩
  | .hbm, ⟨105, _⟩ => ⟨S16x2304x4x64, .f32⟩
  | .hbm, ⟨106, _⟩ => ⟨S16x2304x4x256, .f32⟩
  | .hbm, ⟨107, _⟩ => ⟨S16x2304x8x128, .f32⟩
  | .hbm, ⟨108, _⟩ => ⟨S16x2304x8x128, .f32⟩
  | .hbm, ⟨109, _⟩ => ⟨S16x2304x1024, .f32⟩
  | .hbm, ⟨110, _⟩ => ⟨S16x2304x1024, .bf16⟩
  | .hbm, ⟨111, _⟩ => ⟨S16x2304x1024, .f32⟩
  | .hbm, ⟨112, _⟩ => ⟨S16x2304x1024, .bf16⟩
  | .hbm, ⟨113, _⟩ => ⟨S16x2304x1024, .f32⟩
  | .hbm, ⟨114, _⟩ => ⟨S16x2304x1024, .bf16⟩
  | _, _ => ⟨S16x2304x10752, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_cst_4 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_cst_8 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_cst_9 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩

abbrev nD : Nat := 1
abbrev τ : Topo := Topo.v7x

variable {F : FTy → Type} [FloatOps F]
-- ==== Proof.Softmax.lean ====
/- The mathematics of a softmax row over the extended reals: the attention call raises two to shifted scores and
   divides once by a sum it gets out of the same product as the weighted values; the reference raises `e` to shifted
   scores and divides every weight. On real scores both are the same weights, whatever the values are. -/
module

public import Idealize.ShloMosaic.PureOps.Ideal

@[expose] public section

noncomputable section

namespace Cert.Softmax

open Idealize.ShloMosaic

/-- The softmax weight of entry `j` of a row of real scores. -/
def weight {n : ℕ} (s : Fin n → ℝ) (j : Fin n) : ℝ := Real.exp (s j) / ∑ i, Real.exp (s i)

/-- The running maximum from −∞ of a non-empty row of real scores is a real number. -/
theorem fold_max_real {n : ℕ} (hn : 0 < n) (s : Fin n → ℝ) :
    ∃ M : ℝ, Finset.univ.fold max (⊥ : EReal) (fun k => ((s k : ℝ) : EReal)) = (M : EReal) := by
  have key : ∀ S : Finset (Fin n), S.fold max (⊥ : EReal) (fun k => ((s k : ℝ) : EReal)) = ⊥ ∧ S = ∅
      ∨ ∃ M : ℝ, S.fold max (⊥ : EReal) (fun k => ((s k : ℝ) : EReal)) = (M : EReal) := by
    intro S
    induction S using Finset.induction_on with
    | empty => exact .inl ⟨rfl, rfl⟩
    | insert a S ha ih =>
      right
      rw [Finset.fold_insert ha]
      rcases ih with ⟨h, -⟩ | ⟨M, h⟩
      · exact ⟨s a, by rw [h, max_bot_right]⟩
      · exact ⟨max (s a) M, by rw [h]; exact (EReal.coe_strictMono.monotone.map_max).symm⟩
  rcases key Finset.univ with ⟨-, h⟩ | h
  · exact absurd (h ▸ Finset.mem_univ (⟨0, hn⟩ : Fin n)) (Finset.notMem_empty _)
  · exact h

/-- A finite sum of real numbers is the real sum. -/
theorem coe_sum {n : ℕ} (f : Fin n → ℝ) : ∑ k, ((f k : ℝ) : EReal) = ((∑ k, f k : ℝ) : EReal) := by
  induction (Finset.univ : Finset (Fin n)) using Finset.induction_on with
  | empty => simp
  | insert a S ha ih => rw [Finset.sum_insert ha, Finset.sum_insert ha, ih, EReal.coe_add]

/-- A non-negative real factor on the right goes into a sum of extended reals. -/
theorem sum_mul_real {n : ℕ} (f : Fin n → EReal) (r : ℝ) (hr : 0 ≤ r) :
    (∑ k, f k) * (r : EReal) = ∑ k, f k * (r : EReal) := by
  induction (Finset.univ : Finset (Fin n)) using Finset.induction_on with
  | empty => simp
  | insert a S ha ih =>
    rw [Finset.sum_insert ha, Finset.sum_insert ha, ← ih]
    exact EReal.right_distrib_of_nonneg_of_ne_top (EReal.coe_nonneg.2 hr) (EReal.coe_ne_top r) _ _

/-- THE KERNEL'S ROW: with real scores `t` to the base two, values and ones weighted by the shifted powers and the first sum
    multiplied by the reciprocal of the second, is the sum of the values under the softmax weights of `t · log 2`. -/
theorem kernel_row {n : ℕ} (hn : 0 < n) (t : Fin n → ℝ) (v : Fin n → EReal) :
    (∑ k, Ideal.exp2 ((t k : EReal) - Finset.univ.fold max (⊥ : EReal) fun i => (t i : EReal)) * v k)
        * Ideal.div 1 (∑ k, Ideal.exp2 ((t k : EReal) - Finset.univ.fold max (⊥ : EReal) fun i => (t i : EReal)) * 1)
      = ∑ k, v k * (weight (fun i => t i * Real.log 2) k : EReal) := by
  obtain ⟨M, hM⟩ := fold_max_real hn t
  simp only [hM]
  have hp : ∀ k, Ideal.exp2 ((t k : EReal) - (M : EReal)) = ((Real.exp (t k * Real.log 2) * Real.exp (-(M * Real.log 2)) : ℝ) : EReal) := by
    intro k
    rw [← EReal.coe_sub]
    show ((Real.rpow 2 (t k - M) : ℝ) : EReal) = _
    congr 1
    show (2 : ℝ) ^ (t k - M) = _
    rw [Real.rpow_def_of_pos (by norm_num), ← Real.exp_add]
    congr 1; ring
  simp only [hp, mul_one, coe_sum, ← Finset.sum_mul]
  have hS : 0 < ∑ i, Real.exp (t i * Real.log 2) :=
    Finset.sum_pos (fun i _ => Real.exp_pos _) ⟨⟨0, hn⟩, Finset.mem_univ _⟩
  have hE := Real.exp_pos (-(M * Real.log 2))
  rw [Ideal.div_coe (mul_pos hS hE).ne', one_mul, sum_mul_real _ _ (by positivity)]
  refine Finset.sum_congr rfl fun k _ => ?_
  rw [mul_comm (_ : EReal) (v k), mul_assoc, ← EReal.coe_mul]
  congr 2
  unfold weight
  field_simp

/-- THE REFERENCE'S ROW: the values under weights each divided by the sum of the shifted powers is the sum of the values
    under the softmax weights. -/
theorem reference_row {n : ℕ} (hn : 0 < n) (s : Fin n → ℝ) (v : Fin n → EReal) :
    ∑ k, v k * Ideal.div (Ideal.exp ((s k : EReal) - max ⊥ (Finset.univ.fold max (⊥ : EReal) fun i => (s i : EReal))))
        (0 + ∑ i, Ideal.exp ((s i : EReal) - max ⊥ (Finset.univ.fold max (⊥ : EReal) fun i => (s i : EReal))))
      = ∑ k, v k * (weight s k : EReal) := by
  obtain ⟨M, hM⟩ := fold_max_real hn s
  simp only [hM, max_bot_left, zero_add]
  have hp : ∀ k, Ideal.exp ((s k : EReal) - (M : EReal)) = ((Real.exp (s k) * Real.exp (-M) : ℝ) : EReal) := by
    intro k
    rw [← EReal.coe_sub, ← Real.exp_add]
    rfl
  simp only [hp, coe_sum, ← Finset.sum_mul]
  have hS : 0 < ∑ i, Real.exp (s i) := Finset.sum_pos (fun i _ => Real.exp_pos _) ⟨⟨0, hn⟩, Finset.mem_univ _⟩
  have hE := Real.exp_pos (-M)
  refine Finset.sum_congr rfl fun k _ => ?_
  rw [Ideal.div_coe (mul_pos hS hE).ne', ← EReal.coe_mul]
  congr 2
  unfold weight
  field_simp

/-- The scale of the scores, taken at run time: one over the root of 96 is a real number. -/
theorem scale_real : Ideal.div 1 (Ideal.sqrt ((96 : ℝ) : EReal)) = ((1 / Real.sqrt 96 : ℝ) : EReal) := by
  have h : Ideal.sqrt ((96 : ℝ) : EReal) = ((Real.sqrt 96 : ℝ) : EReal) := by
    show (if (96 : ℝ) < 0 then (⊥ : EReal) else ((Real.sqrt 96 : ℝ) : EReal)) = _
    rw [if_neg (by norm_num)]
  rw [h, Ideal.div_coe (Real.sqrt_ne_zero'.2 (by norm_num)), one_mul]

/-- The kernel's scale: one over the root of 96 times the logarithm of two. -/
theorem scale2_real : Ideal.div 1 (Ideal.sqrt ((96 : ℝ) : EReal) * Ideal.log ((2 : ℝ) : EReal))
    = ((1 / (Real.sqrt 96 * Real.log 2) : ℝ) : EReal) := by
  have h : Ideal.sqrt ((96 : ℝ) : EReal) = ((Real.sqrt 96 : ℝ) : EReal) := by
    show (if (96 : ℝ) < 0 then (⊥ : EReal) else ((Real.sqrt 96 : ℝ) : EReal)) = _
    rw [if_neg (by norm_num)]
  have hl : Ideal.log ((2 : ℝ) : EReal) = ((Real.log 2 : ℝ) : EReal) := by
    show (if (2 : ℝ) ≤ 0 then (⊥ : EReal) else ((Real.log 2 : ℝ) : EReal)) = _
    rw [if_neg (by norm_num)]
  have hl0 : Real.log 2 ≠ 0 := (Real.log_pos (by norm_num)).ne'
  rw [h, hl, ← EReal.coe_mul, Ideal.div_coe (mul_ne_zero (Real.sqrt_ne_zero'.2 (by norm_num)) hl0), one_mul]

/-- Scores: real queries scaled before the product, rather than the product after it, and with the base of the
    logarithm folded in. -/
theorem scores_eq {n : ℕ} (q k : Fin n → ℝ) :
    (∑ d, (q d * (1 / (Real.sqrt 96 * Real.log 2))) * k d) * Real.log 2 = (∑ d, q d * k d) * (1 / Real.sqrt 96) := by
  rw [Finset.sum_mul, Finset.sum_mul]
  refine Finset.sum_congr rfl fun d _ => ?_
  have hl0 : Real.log 2 ≠ 0 := (Real.log_pos (by norm_num)).ne'
  field_simp

end Cert.Softmax

end
-- ==== Proof.AttnBlock.lean ====
/- What the attention call's body stores for one pair of heads, at an entry of the stored tile: one softmax row
   of the head whose half of the tile the lane lies in. -/
module

public import proofs.«01_k».proof.Proof.Gen.AttnIdeal.Skeleton
public import proofs.«01_k».proof.Proof.Softmax
public import Idealize.ShloMosaic.Lib.Pipeline.ValueKit
public import Idealize.ShloMosaic.Lib.Pointwise

@[expose] public section

set_option maxRecDepth 16384

noncomputable section

namespace Cert.AttnIdeal.Value

open Cert.AttnIdeal Cert.AttnIdeal.Gen Idealize.ShloMosaic Idealize.ShloMosaic.TcCoe Idealize.SL.Sem
open Idealize.ShloMosaic.Pipeline (Dat)

/-- One output entry of the kernel: the scores of a query row against `n` keys, their powers of two shifted by the
    greatest score, the values they weight, times the reciprocal of what they weight in the partner lane. -/
def row {n : ℕ} (q : Fin 128 → EReal) (k : Fin n → Fin 128 → EReal) (v w : Fin n → EReal) : EReal :=
  (∑ j, Ideal.exp2 ((∑ d, q d * k j d) - Finset.univ.fold max (⊥ : EReal) fun i => ∑ d, q d * k i d) * v j)
    * Ideal.div 1 (∑ j, Ideal.exp2 ((∑ d, q d * k j d) - Finset.univ.fold max (⊥ : EReal) fun i => ∑ d, q d * k i d) * w j)

/-- The pattern the reductions start from is −∞. -/
theorem negInf : Ideal.ofBits FTy.f32 4286578688#32 = (⊥ : EReal) := by simp [Ideal.ofBits, Ideal.ieee]

/-- The lane mask of an even head: the lower 64 lanes. -/
theorem lane_slt : ∀ n : Fin 128, IntOp.cmpi .slt (BitVec.ofNat 32 (n : ℕ)) 64#32 = if (n : ℕ) < 64 then 1#1 else 0#1 := by
  decide +kernel

/-- The lane mask of an odd head: the upper 64 lanes. -/
theorem lane_sge : ∀ n : Fin 128, IntOp.cmpi .sge (BitVec.ofNat 32 (n : ℕ)) 64#32 = if (n : ℕ) < 64 then 0#1 else 1#1 := by
  decide +kernel

/-- The two heads of a pair meet in one tile: each is zero on the other's lanes. -/
theorem two_heads (n : Fin 128) (a b : EReal) :
    Scalar.select (IntOp.cmpi .slt (BitVec.ofNat 32 (n : ℕ)) 64#32) a 0
      + Scalar.select (IntOp.cmpi .sge (BitVec.ofNat 32 (n : ℕ)) 64#32) b 0 = if (n : ℕ) < 64 then a else b := by
  rw [lane_slt, lane_sge]
  by_cases h : (n : ℕ) < 64
  · simp only [if_pos h]; exact add_zero a
  · simp only [if_neg h]; exact zero_add b

/-- The lane 64 further round the slot. -/
def partner (e : Fin 128) : Fin 128 := ⟨((e : ℕ) + 128 - 64) % 128, Nat.mod_lt _ (by norm_num)⟩

/-- The first pair of heads against 2304 keys, at an entry of its tile. -/
theorem first_A (q0 q1 : FVec Ideal S1x256x128 .bf16) (k0 k1 v0 v1 : FVec Ideal S1x2304x128 .bf16) (x : S1x256x128.Idx) :
    k0_pay6 (F := Ideal) (iota .tc S1x128 32 [1] iota_S1x128_d1_w32) (k0_pay1 q1 k1) (k0_pay3 (iota .tc S1x128 32 [1] iota_S1x128_d1_w32)) (k0_pay4 q0 k0 v0)
        (Scalar.ofBits .f32 0x00000000#32) v1 x
      = if (x 2 : ℕ) < 64
        then row (fun d => q0 (ix3 0 (x 1) d)) (fun j d => k0 (ix3 0 j d)) (fun j => v0 (ix3 0 j (x 2)))
          (fun j => v0 (ix3 0 j (partner (x 2))))
        else row (fun d => q1 (ix3 0 (x 1) d)) (fun j d => k1 (ix3 0 j d)) (fun j => v1 (ix3 0 j (x 2)))
          (fun j => v1 (ix3 0 j (partner (x 2)))) := by
  pointwise [k0_pay1, k0_pay3, k0_pay4, k0_pay6, negInf]
  exact two_heads (x 2) _ _

/-- The second pair of heads against 2304 keys, at an entry of its tile. -/
theorem second_A (q0 q1 : FVec Ideal S1x256x128 .bf16) (k0 k1 v0 v1 : FVec Ideal S1x2304x128 .bf16) (x : S1x256x128.Idx) :
    k0_pay8 (F := Ideal) (iota .tc S1x128 32 [1] iota_S1x128_d1_w32) (k0_pay5 q1 k1) (k0_pay7 (k0_pay2 q0 k0)) v0 v1 x
      = if (x 2 : ℕ) < 64
        then row (fun d => q0 (ix3 0 (x 1) d)) (fun j d => k0 (ix3 0 j d)) (fun j => v0 (ix3 0 j (x 2)))
          (fun j => v0 (ix3 0 j (partner (x 2))))
        else row (fun d => q1 (ix3 0 (x 1) d)) (fun j d => k1 (ix3 0 j d)) (fun j => v1 (ix3 0 j (x 2)))
          (fun j => v1 (ix3 0 j (partner (x 2)))) := by
  pointwise [k0_pay2, k0_pay5, k0_pay7, k0_pay8, negInf]
  exact two_heads (x 2) _ _

/-- The first pair of heads against 256 keys, at an entry of its tile. -/
theorem first_B (q0 q1 : FVec Ideal S1x256x128 .bf16) (k0 k1 v0 v1 : FVec Ideal S1x256x128 .bf16) (x : S1x256x128.Idx) :
    k0_pay14 (F := Ideal) (iota .tc S1x128 32 [1] iota_S1x128_d1_w32) (k0_pay9 q1 k1) (k0_pay11 (iota .tc S1x128 32 [1] iota_S1x128_d1_w32)) (k0_pay12 q0 k0 v0)
        (Scalar.ofBits .f32 0x00000000#32) v1 x
      = if (x 2 : ℕ) < 64
        then row (fun d => q0 (ix3 0 (x 1) d)) (fun j d => k0 (ix3 0 j d)) (fun j => v0 (ix3 0 j (x 2)))
          (fun j => v0 (ix3 0 j (partner (x 2))))
        else row (fun d => q1 (ix3 0 (x 1) d)) (fun j d => k1 (ix3 0 j d)) (fun j => v1 (ix3 0 j (x 2)))
          (fun j => v1 (ix3 0 j (partner (x 2)))) := by
  pointwise [k0_pay9, k0_pay11, k0_pay12, k0_pay14, negInf]
  exact two_heads (x 2) _ _

/-- The second pair of heads against 256 keys, at an entry of its tile. -/
theorem second_B (q0 q1 : FVec Ideal S1x256x128 .bf16) (k0 k1 v0 v1 : FVec Ideal S1x256x128 .bf16) (x : S1x256x128.Idx) :
    k0_pay16 (F := Ideal) (iota .tc S1x128 32 [1] iota_S1x128_d1_w32) (k0_pay13 q1 k1) (k0_pay15 (k0_pay10 q0 k0)) v0 v1 x
      = if (x 2 : ℕ) < 64
        then row (fun d => q0 (ix3 0 (x 1) d)) (fun j d => k0 (ix3 0 j d)) (fun j => v0 (ix3 0 j (x 2)))
          (fun j => v0 (ix3 0 j (partner (x 2))))
        else row (fun d => q1 (ix3 0 (x 1) d)) (fun j d => k1 (ix3 0 j d)) (fun j => v1 (ix3 0 j (x 2)))
          (fun j => v1 (ix3 0 j (partner (x 2)))) := by
  pointwise [k0_pay10, k0_pay13, k0_pay15, k0_pay16, negInf]
  exact two_heads (x 2) _ _

end Cert.AttnIdeal.Value

end
-- ==== Proof.AttnPoint.lean ====
/- What one grid point of the attention call leaves in its output block, from its three input blocks. -/
module

public import proofs.«01_k».proof.Proof.Gen.AttnIdeal.Value
public import proofs.«01_k».proof.Proof.AttnBlock
public import Idealize.ShloMosaic.Lib.Pipeline.ValueKit
public import Idealize.ShloMosaic.Lib.Pointwise

@[expose] public section

set_option maxRecDepth 16384

noncomputable section

namespace Cert.AttnIdeal.Value

open Cert.AttnIdeal Cert.AttnIdeal.Gen Idealize.ShloMosaic Idealize.ShloMosaic.TcCoe Idealize.SL.Sem
open Idealize.ShloMosaic.Pipeline (Dat)

/-- Rows of equal entries are equal. -/
theorem row_congr {n : ℕ} {q q' : Fin 128 → EReal} {k k' : Fin n → Fin 128 → EReal} {v v' w w' : Fin n → EReal}
    (hq : ∀ d, q d = q' d) (hk : ∀ j d, k j d = k' j d) (hv : ∀ j, v j = v' j) (hw : ∀ j, w j = w' j) :
    row q k v w = row q' k' v' w' := by
  obtain rfl : q = q' := funext hq
  obtain rfl : k = k' := funext fun j => funext (hk j)
  obtain rfl : v = v' := funext hv
  obtain rfl : w = w' := funext hw
  rfl

/-- Lane `d` of the slot of the head that column `n` of the output block belongs to. -/
def slot (n : Fin 256) (d : Fin 128) : Fin 512 := ⟨(n : ℕ) / 64 * 128 + d, by omega⟩

/-- The lane of that slot the column's value sits in. -/
def lane (n : Fin 256) : Fin 128 := ⟨(n : ℕ) % 128, by omega⟩

/-- Key `j` of the last 256 rows. -/
def ctxRow (j : Fin 256) : Fin 2304 := ⟨2048 + (j : ℕ), by omega⟩

set_option maxHeartbeats 1600000 in
/-- What a point over a latent tile leaves in its output block: every head's row against all 2304 keys. -/
theorem block_A (c : Dev nD) (i : grid0.Coords) (arg3 : Memref sig .tc .vmem S1x256x512 .bf16) (harg3 : arg3.IsWhole)
    (arg4 : Memref sig .tc .vmem S1x2304x512 .bf16) (harg4 : arg4.IsWhole) (arg5 : Memref sig .tc .vmem S1x2304x512 .bf16)
    (harg5 : arg5.IsWhole) (arg6 : Memref sig .tc .vmem S1x256x256 .bf16) (harg6 : arg6.IsWhole) (hc0 : cond0_0 i) (hc1 : ¬cond0_1 i)
    (x0 : FVec Ideal S1x256x512 .bf16) (x1 x2 : FVec Ideal S1x2304x512 .bf16) (y : S1x256x256.Idx) :
    out0_A_3 (F := Ideal) c i arg3 harg3 arg4 harg4 arg5 harg5 arg6 harg6 hc0 hc1 x0 x1 x2 y
      = row (n := 2304) (fun d => x0 (ix3 0 (y 1) (slot (y 2) d))) (fun j d => x1 (ix3 0 j (slot (y 2) d)))
          (fun j => x2 (ix3 0 j (slot (y 2) (lane (y 2))))) (fun j => x2 (ix3 0 j (slot (y 2) (partner (lane (y 2)))))) := by
  frame_out
  canon_tiles x h
  · refine (second_A _ _ _ _ _ _ x).trans ?_
    by_cases hx : (x 2 : ℕ) < 64
    · rw [if_pos hx]
      refine row_congr (fun d => ?_) (fun j d => ?_) (fun j => ?_) (fun j => ?_) <;>
        (pointwise; simp only [slot, lane, partner, ctxRow]; blk_ext)
    · rw [if_neg hx]
      refine row_congr (fun d => ?_) (fun j d => ?_) (fun j => ?_) (fun j => ?_) <;>
        (pointwise; simp only [slot, lane, partner, ctxRow]; blk_ext)
  · refine (first_A _ _ _ _ _ _ x).trans ?_
    by_cases hx : (x 2 : ℕ) < 64
    · rw [if_pos hx]
      refine row_congr (fun d => ?_) (fun j d => ?_) (fun j => ?_) (fun j => ?_) <;>
        (pointwise; simp only [slot, lane, partner, ctxRow]; blk_ext)
    · rw [if_neg hx]
      refine row_congr (fun d => ?_) (fun j d => ?_) (fun j => ?_) (fun j => ?_) <;>
        (pointwise; simp only [slot, lane, partner, ctxRow]; blk_ext)

set_option maxHeartbeats 1600000 in
/-- What a point over the context tile leaves in its output block: every head's row against the 256 context keys. -/
theorem block_B (c : Dev nD) (i : grid0.Coords) (arg3 : Memref sig .tc .vmem S1x256x512 .bf16) (harg3 : arg3.IsWhole)
    (arg4 : Memref sig .tc .vmem S1x2304x512 .bf16) (harg4 : arg4.IsWhole) (arg5 : Memref sig .tc .vmem S1x2304x512 .bf16)
    (harg5 : arg5.IsWhole) (arg6 : Memref sig .tc .vmem S1x256x256 .bf16) (harg6 : arg6.IsWhole) (hc0 : ¬cond0_0 i) (hc1 : cond0_1 i)
    (x0 : FVec Ideal S1x256x512 .bf16) (x1 x2 : FVec Ideal S1x2304x512 .bf16) (y : S1x256x256.Idx) :
    out0_B_3 (F := Ideal) c i arg3 harg3 arg4 harg4 arg5 harg5 arg6 harg6 hc0 hc1 x0 x1 x2 y
      = row (n := 256) (fun d => x0 (ix3 0 (y 1) (slot (y 2) d))) (fun j d => x1 (ix3 0 (ctxRow j) (slot (y 2) d)))
          (fun j => x2 (ix3 0 (ctxRow j) (slot (y 2) (lane (y 2))))) (fun j => x2 (ix3 0 (ctxRow j) (slot (y 2) (partner (lane (y 2)))))) := by
  frame_out
  canon_tiles x h
  · refine (second_B _ _ _ _ _ _ x).trans ?_
    by_cases hx : (x 2 : ℕ) < 64
    · rw [if_pos hx]
      refine row_congr (fun d => ?_) (fun j d => ?_) (fun j => ?_) (fun j => ?_) <;>
        (pointwise; simp only [slot, lane, partner, ctxRow]; blk_ext)
    · rw [if_neg hx]
      refine row_congr (fun d => ?_) (fun j d => ?_) (fun j => ?_) (fun j => ?_) <;>
        (pointwise; simp only [slot, lane, partner, ctxRow]; blk_ext)
  · refine (first_B _ _ _ _ _ _ x).trans ?_
    by_cases hx : (x 2 : ℕ) < 64
    · rw [if_pos hx]
      refine row_congr (fun d => ?_) (fun j d => ?_) (fun j => ?_) (fun j => ?_) <;>
        (pointwise; simp only [slot, lane, partner, ctxRow]; blk_ext)
    · rw [if_neg hx]
      refine row_congr (fun d => ?_) (fun j d => ?_) (fun j => ?_) (fun j => ?_) <;>
        (pointwise; simp only [slot, lane, partner, ctxRow]; blk_ext)

end Cert.AttnIdeal.Value

end
-- ==== Proof.AttnSpec.lean ====
/- Multi-head attention written down once, entry by entry: for a latent row over all 2304 rows, for a context row over
   the 256 context rows. The kernel's row and the reference's row are both read as this one. -/
module

public import proofs.«01_k».proof.Proof.AttnPoint
public import proofs.«01_k».proof.Proof.Softmax

@[expose] public section

set_option maxRecDepth 16384

noncomputable section

namespace Cert.AttnIdeal.Value

open Cert.AttnIdeal Idealize.ShloMosaic Cert.Softmax

/-- The score of query row `r` against key row `j` in head `h`, over the reals. -/
def score (q k : FVec Ideal S16x2304x8x96 .f32) (b : Fin 16) (h : Fin 8) (r j : Fin 2304) : ℝ :=
  (∑ d : Fin 96, (q (ix4 b r h d)).toReal * (k (ix4 b j h d)).toReal) * (1 / Real.sqrt 96)

/-- A latent row's attention: the values of all 2304 rows under the softmax of their scores. -/
def latent (q k : FVec Ideal S16x2304x8x96 .f32) (v : FVec Ideal S16x2304x8x64 .f32) (b : Fin 16) (r : Fin 2304)
    (h : Fin 8) (e : Fin 64) : EReal :=
  ∑ j : Fin 2304, v (ix4 b j h e) * (weight (fun j => score q k b h r j) j : EReal)

/-- A context row's attention: the values of the 256 context rows under the softmax of their scores. -/
def context (q k : FVec Ideal S16x2304x8x96 .f32) (v : FVec Ideal S16x2304x8x64 .f32) (b : Fin 16) (r : Fin 2304)
    (h : Fin 8) (e : Fin 64) : EReal :=
  ∑ j : Fin 256, v (ix4 b (ctxRow j) h e) * (weight (fun j => score q k b h r (ctxRow j)) j : EReal)

/-- The attention of every row, at column `n` of the heads' outputs side by side. -/
def attention (q k : FVec Ideal S16x2304x8x96 .f32) (v : FVec Ideal S16x2304x8x64 .f32) : FVec Ideal S16x2304x512 .bf16 :=
  fun i => if (i 1 : ℕ) < 2048
    then latent q k v (i 0) (i 1) ⟨(i 2 : ℕ) / 64, by have := (i 2).isLt; simp at this; omega⟩ ⟨(i 2 : ℕ) % 64, Nat.mod_lt _ (by norm_num)⟩
    else context q k v (i 0) (i 1) ⟨(i 2 : ℕ) / 64, by have := (i 2).isLt; simp at this; omega⟩ ⟨(i 2 : ℕ) % 64, Nat.mod_lt _ (by norm_num)⟩

/-- The product over a slot of 128 lanes whose last 32 are zero is the product over the 96 real ones. -/
theorem slot_product (Q K : Fin 96 → ℝ) (c : ℝ) (q k : Fin 128 → EReal)
    (hq : ∀ d : Fin 128, q d = if h : (d : ℕ) < 96 then ((Q ⟨d, h⟩ * c : ℝ) : EReal) else 0)
    (hk : ∀ d : Fin 128, k d = if h : (d : ℕ) < 96 then ((K ⟨d, h⟩ : ℝ) : EReal) else 0) :
    ∑ d, q d * k d = ((∑ d, Q d * c * K d : ℝ) : EReal) := by
  have hs := Fin.sum_univ_add (a := 96) (b := 32) (fun d : Fin (96 + 32) => q d * k d)
  refine hs.trans ?_
  have h2 : ∑ d : Fin 32, q (Fin.natAdd 96 d) * k (Fin.natAdd 96 d) = 0 := by
    refine Finset.sum_eq_zero fun d _ => ?_
    rw [hq, dif_neg (by simp)]
    exact zero_mul _
  rw [h2, add_zero, ← coe_sum]
  refine Finset.sum_congr rfl fun d _ => ?_
  rw [hq, hk, dif_pos (by simp), dif_pos (by simp), ← EReal.coe_mul]
  rfl

/-- The kernel's row on padded, scaled queries, padded keys and a partner lane of ones is the softmax-weighted sum of the values. -/
theorem row_eq {n : ℕ} (hn : 0 < n) (Q : Fin 96 → ℝ) (K : Fin n → Fin 96 → ℝ) (q : Fin 128 → EReal) (k : Fin n → Fin 128 → EReal)
    (v w : Fin n → EReal)
    (hq : ∀ d : Fin 128, q d = if h : (d : ℕ) < 96 then ((Q ⟨d, h⟩ * (1 / (Real.sqrt 96 * Real.log 2)) : ℝ) : EReal) else 0)
    (hk : ∀ j, ∀ d : Fin 128, k j d = if h : (d : ℕ) < 96 then ((K j ⟨d, h⟩ : ℝ) : EReal) else 0)
    (hw : ∀ j, w j = 1) :
    row q k v w = ∑ j, v j * (weight (fun i => (∑ d, Q d * K i d) * (1 / Real.sqrt 96)) j : EReal) := by
  unfold row
  simp only [fun j => slot_product Q (K j) _ q (k j) hq (hk j), hw]
  rw [kernel_row hn]
  simp only [scores_eq]

end Cert.AttnIdeal.Value

end
-- ==== Proof.AttnEntry.lean ====
/- The three operands the host code prepares for the attention call, read at an index: queries scaled and padded to slots
   of 128 lanes, keys padded, values beside ones. -/
module

public import proofs.«01_k».proof.Proof.Gen.AttnIdeal.Value
public import proofs.«01_k».proof.Proof.AttnSpec
public import Idealize.ShloMosaic.Lib.Pipeline.ValueKit
public import Idealize.ShloMosaic.Lib.Pointwise
public import Idealize.ShloMosaic.Lib.Claim

@[expose] public section

set_option maxRecDepth 16384

noncomputable section

namespace Cert.AttnIdeal.Value

open Cert.AttnIdeal Cert.AttnIdeal.Gen Idealize.ShloMosaic Idealize.ShloMosaic.TcCoe Idealize.SL.Sem
open Idealize.ShloMosaic.Pipeline (Dat)

variable (m : (ℓ : Loc nD τ sig) → Buf (Elt Ideal) ℓ)

/-- The queries, as given. -/
abbrev aq (c : Dev nD) : FVec Ideal S16x2304x8x96 .f32 := m ((c : Thread nD τ).loc main_arg0)

/-- The keys, as given. -/
abbrev ak (c : Dev nD) : FVec Ideal S16x2304x8x96 .f32 := m ((c : Thread nD τ).loc main_arg1)

/-- The values, as given. -/
abbrev av (c : Dev nD) : FVec Ideal S16x2304x8x64 .f32 := m ((c : Thread nD τ).loc main_arg2)

/-- The queries as the call reads them. -/
abbrev qE (c : Dev nD) : FVec Ideal S16x2304x1024 .bf16 := V m c main_v9

/-- The keys as the call reads them. -/
abbrev kE (c : Dev nD) : FVec Ideal S16x2304x1024 .bf16 := V m c main_v12

/-- The values as the call reads them. -/
abbrev vE (c : Dev nD) : FVec Ideal S16x2304x1024 .bf16 := V m c main_v21

/-- The two constants of the scale. -/
theorem scale_consts : Ideal.div 1 (Ideal.sqrt (Ideal.ofBits FTy.f32 1119879168#32) * Ideal.log (Ideal.ofBits FTy.f32 1073741824#32))
    = ((1 / (Real.sqrt 96 * Real.log 2) : ℝ) : EReal) := by
  have h96 : Ideal.ofBits FTy.f32 1119879168#32 = ((96 : ℝ) : EReal) := by
    simp [Ideal.ofBits, Ideal.ieee]; rw [← EReal.coe_mul]; norm_num
  have h2 : Ideal.ofBits FTy.f32 1073741824#32 = ((2 : ℝ) : EReal) := by
    simp [Ideal.ofBits, Ideal.ieee]; rw [← EReal.coe_mul]; norm_num
  rw [h96, h2, Cert.Softmax.scale2_real]

/-- The queries the call reads: scaled on the 96 lanes of a head, zero on the other 32. -/
theorem q_entry (c : Dev nD) (b : Fin 16) (r : Fin 2304) (h : Fin 8) (d : Fin 128) (l : Fin 1024) (hl : (l : ℕ) = h * 128 + d) :
    qE m c (ix3 b r l) = if hd : (d : ℕ) < 96
      then aq m c (ix4 b r h ⟨d, hd⟩) * ((1 / (Real.sqrt 96 * Real.log 2) : ℝ) : EReal) else 0 := by
  have h1 : (l : ℕ) / 128 = h := by omega
  have h2 : (l : ℕ) % 128 = d := by omega
  unfold qE
  entry_read
  pointwise [scale_consts]
  simp only [h1, h2]

/-- The keys the call reads: as given on the 96 lanes of a head, zero on the other 32. -/
theorem k_entry (c : Dev nD) (b : Fin 16) (r : Fin 2304) (h : Fin 8) (d : Fin 128) (l : Fin 1024) (hl : (l : ℕ) = h * 128 + d) :
    kE m c (ix3 b r l) = if hd : (d : ℕ) < 96 then ak m c (ix4 b r h ⟨d, hd⟩) else 0 := by
  have h1 : (l : ℕ) / 128 = h := by omega
  have h2 : (l : ℕ) % 128 = d := by omega
  unfold kE
  entry_read
  pointwise
  simp only [h1, h2]

/-- Two reads of the values at equal coordinates. -/
theorem av_congr (c : Dev nD) (b : Fin 16) (r : Fin 2304) (h h' : Fin 8) (e e' : Fin 64) (hh : (h : ℕ) = h') (he : (e : ℕ) = e') :
    av m c (ix4 b r h e) = av m c (ix4 b r h' e') := by
  obtain rfl : h = h' := Fin.ext hh
  obtain rfl : e = e' := Fin.ext he
  rfl

/-- The lane of an even head, in a pair of slots. -/
theorem even_lane (p l e : ℕ) (he : e < 64) (hl : l = 2 * p * 128 + e) :
    l % 256 < 64 ∧ l / 256 * 2 + l % 256 / 64 = 2 * p ∧ l % 256 % 64 = e := by omega

/-- The lane of an odd head, in a pair of slots. -/
theorem odd_lane (p l e : ℕ) (he : e < 64) (hl : l = (2 * p + 1) * 128 + 64 + e) :
    ¬ l % 256 < 128 ∧ ¬ l % 256 - 128 < 64 ∧ l / 256 * 2 + (64 + (l % 256 - 128 - 64)) / 64 = 2 * p + 1
      ∧ (64 + (l % 256 - 128 - 64)) % 64 = e := by omega

/-- The values the call reads: those of an even head in the lower half of its slot. -/
theorem v_even (c : Dev nD) (b : Fin 16) (r : Fin 2304) (h : Fin 8) (e : Fin 64) (l : Fin 1024) (p : ℕ) (hp : (h : ℕ) = 2 * p)
    (hl : (l : ℕ) = 2 * p * 128 + e) : vE m c (ix3 b r l) = av m c (ix4 b r h e) := by
  obtain ⟨a1, a2, a3⟩ := even_lane p l e e.isLt hl
  unfold vE
  entry_read
  pointwise
  rw [dif_pos (show (l : ℕ) % 256 < 128 by omega), dif_pos a1]
  exact av_congr m c b r _ h _ e (a2.trans hp.symm) a3

/-- The values the call reads: those of an odd head in the upper half of its slot. -/
theorem v_odd (c : Dev nD) (b : Fin 16) (r : Fin 2304) (h : Fin 8) (e : Fin 64) (l : Fin 1024) (p : ℕ) (hp : (h : ℕ) = 2 * p + 1)
    (hl : (l : ℕ) = (2 * p + 1) * 128 + 64 + e) : vE m c (ix3 b r l) = av m c (ix4 b r h e) := by
  obtain ⟨a1, a2, a3, a4⟩ := odd_lane p l e e.isLt hl
  unfold vE
  entry_read
  pointwise
  rw [dif_neg a1, dif_neg a2]
  exact av_congr m c b r _ h _ e (a3.trans hp.symm) a4

/-- The upper half of an even head's slot holds ones. -/
theorem ones_even (c : Dev nD) (b : Fin 16) (r : Fin 2304) (e : Fin 64) (l : Fin 1024) (p : ℕ)
    (hl : (l : ℕ) = 2 * p * 128 + 64 + e) : vE m c (ix3 b r l) = (1 : EReal) := by
  have he := e.isLt
  have a1 : (l : ℕ) % 256 < 128 := by omega
  have a2 : ¬ (l : ℕ) % 256 < 64 := by omega
  unfold vE
  entry_read
  pointwise
  rw [dif_pos a1, dif_neg a2]

/-- The lower half of an odd head's slot holds ones. -/
theorem ones_odd (c : Dev nD) (b : Fin 16) (r : Fin 2304) (e : Fin 64) (l : Fin 1024) (p : ℕ)
    (hl : (l : ℕ) = (2 * p + 1) * 128 + e) : vE m c (ix3 b r l) = (1 : EReal) := by
  have he := e.isLt
  have a1 : ¬ (l : ℕ) % 256 < 128 := by omega
  have a2 : (l : ℕ) % 256 - 128 < 64 := by omega
  unfold vE
  entry_read
  pointwise
  rw [dif_neg a1, dif_pos a2]

end Cert.AttnIdeal.Value

end
-- ==== Proof.AttnBlocks.lean ====
/- The input blocks of the attention call, entry by entry: where each entry sits in the prepared operands. -/
module

public import proofs.«01_k».proof.Proof.AttnEntry

@[expose] public section

set_option maxRecDepth 16384

noncomputable section

namespace Cert.AttnIdeal.Value

open Cert.AttnIdeal Cert.AttnIdeal.Gen Idealize.ShloMosaic Idealize.ShloMosaic.TcCoe Idealize.SL.Sem
open Idealize.ShloMosaic.Pipeline (Dat)

variable (m : (ℓ : Loc nD τ sig) → Buf (Elt Ideal) ℓ)

/-- The blocks of grid point `t`: the windows' block indices. -/
theorem idx_val : ∀ t : Fin cfg0.N, win0_0.index t = ![t.val / 18, t.val % 9, t.val / 9 % 2] ∧ win0_1.index t = ![t.val / 18, 0, t.val / 9 % 2]
    ∧ win0_2.index t = ![t.val / 18, 0, t.val / 9 % 2] ∧ win0_3.index t = ![t.val / 18, t.val % 9, t.val / 9 % 2] :=
  (by decide +kernel : ∀ t : Fin grid0.N, _)

/-- The query block of a point, as an array. -/
abbrev qB (c : Dev nD) (t : Fin cfg0.N) : FVec Ideal S1x256x512 .bf16 := iblk m c 0 t

/-- The key block of a point, as an array. -/
abbrev kB (c : Dev nD) (t : Fin cfg0.N) : FVec Ideal S1x2304x512 .bf16 := iblk m c 1 t

/-- The value block of a point, as an array. -/
abbrev vB (c : Dev nD) (t : Fin cfg0.N) : FVec Ideal S1x2304x512 .bf16 := iblk m c 2 t

/-- Where the query block's entries sit. -/
theorem emb0 (t : Fin cfg0.N) (r : Fin 256) (l : Fin 512) (b : Fin 16) (r' : Fin 2304) (l' : Fin 1024)
    (hb : (b : ℕ) = t.val / 18) (hr : (r' : ℕ) = t.val % 9 * 256 + r) (hl : (l' : ℕ) = t.val / 9 % 2 * 512 + l) :
    ((cfg0.win 0).blk t).view.emb (ix3 0 r l) = ix3 b r' l' := by
  blk_ext [idx_val t]

/-- Where the key block's entries sit. -/
theorem emb1 (t : Fin cfg0.N) (r : Fin 2304) (l : Fin 512) (b : Fin 16) (l' : Fin 1024)
    (hb : (b : ℕ) = t.val / 18) (hl : (l' : ℕ) = t.val / 9 % 2 * 512 + l) :
    ((cfg0.win 1).blk t).view.emb (ix3 0 r l) = ix3 b r l' := by
  blk_ext [idx_val t]

/-- Where the value block's entries sit. -/
theorem emb2 (t : Fin cfg0.N) (r : Fin 2304) (l : Fin 512) (b : Fin 16) (l' : Fin 1024)
    (hb : (b : ℕ) = t.val / 18) (hl : (l' : ℕ) = t.val / 9 % 2 * 512 + l) :
    ((cfg0.win 2).blk t).view.emb (ix3 0 r l) = ix3 b r l' := by
  blk_ext [idx_val t]

/-- An entry of the query block is an entry of the prepared queries. -/
theorem qB_at (c : Dev nD) (t : Fin cfg0.N) (r : Fin 256) (l : Fin 512) (b : Fin 16) (r' : Fin 2304) (l' : Fin 1024)
    (hb : (b : ℕ) = t.val / 18) (hr : (r' : ℕ) = t.val % 9 * 256 + r) (hl : (l' : ℕ) = t.val / 9 % 2 * 512 + l) :
    qB m c t (ix3 0 r l) = qE m c (ix3 b r' l') := by
  unfold qB qE iblk
  rw [View.read, emb0 t r l b r' l' hb hr hl]
  generalize V m c = A
  exact cast_eq _ _

/-- An entry of the key block is an entry of the prepared keys. -/
theorem kB_at (c : Dev nD) (t : Fin cfg0.N) (r : Fin 2304) (l : Fin 512) (b : Fin 16) (l' : Fin 1024)
    (hb : (b : ℕ) = t.val / 18) (hl : (l' : ℕ) = t.val / 9 % 2 * 512 + l) :
    kB m c t (ix3 0 r l) = kE m c (ix3 b r l') := by
  unfold kB kE iblk
  rw [View.read, emb1 t r l b l' hb hl]
  generalize V m c = A
  exact cast_eq _ _

/-- An entry of the value block is an entry of the prepared values. -/
theorem vB_at (c : Dev nD) (t : Fin cfg0.N) (r : Fin 2304) (l : Fin 512) (b : Fin 16) (l' : Fin 1024)
    (hb : (b : ℕ) = t.val / 18) (hl : (l' : ℕ) = t.val / 9 % 2 * 512 + l) :
    vB m c t (ix3 0 r l) = vE m c (ix3 b r l') := by
  unfold vB vE iblk
  rw [View.read, emb2 t r l b l' hb hl]
  generalize V m c = A
  exact cast_eq _ _

end Cert.AttnIdeal.Value

end
-- ==== Proof.AttnValue.lean ====
/- The array the attention call leaves: softmax attention of every row, for finite queries and keys. -/
module

public import proofs.«01_k».proof.Proof.AttnBlocks

@[expose] public section

set_option maxRecDepth 16384

noncomputable section

namespace Cert.AttnIdeal.Value

open Cert.AttnIdeal Cert.AttnIdeal.Gen Idealize.ShloMosaic Idealize.ShloMosaic.TcCoe Idealize.SL.Sem
open Idealize.ShloMosaic.Pipeline (Dat)

variable (m : (ℓ : Loc nD τ sig) → Buf (Elt Ideal) ℓ)

/-- Every query and every key is a real number. -/
def Finite (c : Dev nD) : Prop :=
  (∀ i, aq m c i = ((aq m c i).toReal : EReal)) ∧ ∀ i, ak m c i = ((ak m c i).toReal : EReal)

/-- A query row's slot, for finite queries. -/
theorem q_slot (c : Dev nD) (hf : Finite m c) (t : Fin cfg0.N) (r n : Fin 256) (b : Fin 16) (r' : Fin 2304) (h : Fin 8)
    (hb : (b : ℕ) = t.val / 18) (hr : (r' : ℕ) = t.val % 9 * 256 + r) (hh : (h : ℕ) = t.val / 9 % 2 * 4 + n / 64) (d : Fin 128) :
    qB m c t (ix3 0 r (slot n d)) = if hd : (d : ℕ) < 96
      then (((aq m c (ix4 b r' h ⟨d, hd⟩)).toReal * (1 / (Real.sqrt 96 * Real.log 2)) : ℝ) : EReal) else 0 := by
  have hl : (h : ℕ) * 128 + d < 1024 := by omega
  rw [qB_at m c t r (slot n d) b r' ⟨h * 128 + d, hl⟩ hb hr (by show (h : ℕ) * 128 + d = _ + ((n : ℕ) / 64 * 128 + d); omega),
    q_entry m c b r' h d _ rfl]
  by_cases hd : (d : ℕ) < 96
  · rw [dif_pos hd, dif_pos hd, hf.1 (ix4 b r' h ⟨d, hd⟩), EReal.toReal_coe, EReal.coe_mul]
  · rw [dif_neg hd, dif_neg hd]

/-- A key row's slot, for finite keys. -/
theorem k_slot (c : Dev nD) (hf : Finite m c) (t : Fin cfg0.N) (j : Fin 2304) (n : Fin 256) (b : Fin 16) (h : Fin 8)
    (hb : (b : ℕ) = t.val / 18) (hh : (h : ℕ) = t.val / 9 % 2 * 4 + n / 64) (d : Fin 128) :
    kB m c t (ix3 0 j (slot n d)) = if hd : (d : ℕ) < 96 then (((ak m c (ix4 b j h ⟨d, hd⟩)).toReal : ℝ) : EReal) else 0 := by
  have hl : (h : ℕ) * 128 + d < 1024 := by omega
  rw [kB_at m c t j (slot n d) b ⟨h * 128 + d, hl⟩ hb (by show (h : ℕ) * 128 + d = _ + ((n : ℕ) / 64 * 128 + d); omega),
    k_entry m c b j h d _ rfl]
  by_cases hd : (d : ℕ) < 96
  · rw [dif_pos hd, dif_pos hd]; exact hf.2 _
  · rw [dif_neg hd, dif_neg hd]

/-- The value a column of the output weighs. -/
theorem v_slot (c : Dev nD) (t : Fin cfg0.N) (j : Fin 2304) (n : Fin 256) (b : Fin 16) (h : Fin 8) (e : Fin 64)
    (hb : (b : ℕ) = t.val / 18) (hh : (h : ℕ) = t.val / 9 % 2 * 4 + n / 64) (he : (e : ℕ) = n % 64) :
    vB m c t (ix3 0 j (slot n (lane n))) = av m c (ix4 b j h e) := by
  have hn := n.isLt
  have hl : (h : ℕ) * 128 + n % 128 < 1024 := by omega
  rw [vB_at m c t j (slot n (lane n)) b ⟨h * 128 + n % 128, hl⟩ hb
    (by show (h : ℕ) * 128 + n % 128 = _ + ((n : ℕ) / 64 * 128 + n % 128); omega)]
  rcases Nat.mod_two_eq_zero_or_one (h : ℕ) with h2 | h2
  · exact v_even m c b j h e _ ((h : ℕ) / 2) (by omega) (by show (h : ℕ) * 128 + n % 128 = _; omega)
  · exact v_odd m c b j h e _ ((h : ℕ) / 2) (by omega) (by show (h : ℕ) * 128 + n % 128 = _; omega)

/-- The partner lane of a column holds one. -/
theorem w_slot (c : Dev nD) (t : Fin cfg0.N) (j : Fin 2304) (n : Fin 256) (b : Fin 16)
    (hb : (b : ℕ) = t.val / 18) : vB m c t (ix3 0 j (slot n (partner (lane n)))) = (1 : EReal) := by
  have hn := n.isLt
  obtain ⟨h, hh⟩ : ∃ h : ℕ, h = t.val / 9 % 2 * 4 + n / 64 := ⟨_, rfl⟩
  have hl : h * 128 + (n % 128 + 128 - 64) % 128 < 1024 := by omega
  have he : (n : ℕ) % 64 < 64 := Nat.mod_lt _ (by norm_num)
  rw [vB_at m c t j (slot n (partner (lane n))) b ⟨h * 128 + (n % 128 + 128 - 64) % 128, hl⟩ hb
    (by show h * 128 + (n % 128 + 128 - 64) % 128 = _ + ((n : ℕ) / 64 * 128 + (n % 128 + 128 - 64) % 128); omega)]
  rcases Nat.mod_two_eq_zero_or_one h with h2 | h2
  · exact ones_even m c b j ⟨n % 64, he⟩ _ (h / 2) (by show h * 128 + (n % 128 + 128 - 64) % 128 = 2 * (h / 2) * 128 + 64 + n % 64; omega)
  · exact ones_odd m c b j ⟨n % 64, he⟩ _ (h / 2) (by show h * 128 + (n % 128 + 128 - 64) % 128 = (2 * (h / 2) + 1) * 128 + n % 64; omega)

/-- A point over a latent tile leaves the latent rows' attention. -/
theorem point_A (c : Dev nD) (hf : Finite m c) (t : Fin cfg0.N) (h0 : t.val % 9 ≤ 7) (h1 : ¬t.val % 9 = 8) (y : S1x256x256.Idx)
    (b : Fin 16) (r' : Fin 2304) (h : Fin 8) (e : Fin 64) (hb : (b : ℕ) = t.val / 18) (hr : (r' : ℕ) = t.val % 9 * 256 + y 1)
    (hh : (h : ℕ) = t.val / 9 % 2 * 4 + y 2 / 64) (he : (e : ℕ) = y 2 % 64) :
    outsAt0 m c t.val t.isLt y = latent (aq m c) (ak m c) (av m c) b r' h e := by
  rw [outsAt0_A m c t h0 h1]
  refine (block_A c _ _ _ _ _ _ _ _ _ _ _ (qB m c t) (kB m c t) (vB m c t) y).trans ?_
  refine (row_eq (n := 2304) (by norm_num) (fun d => (aq m c (ix4 b r' h d)).toReal) (fun j d => (ak m c (ix4 b j h d)).toReal)
    _ _ _ _ (fun d => q_slot m c hf t (y 1) (y 2) b r' h hb hr hh d) (fun j d => k_slot m c hf t j (y 2) b h hb hh d)
    (fun j => w_slot m c t j (y 2) b hb)).trans ?_
  refine Finset.sum_congr rfl fun j _ => ?_
  rw [v_slot m c t j (y 2) b h e hb hh he]
  rfl

/-- A point over the context tile leaves the context rows' attention. -/
theorem point_B (c : Dev nD) (hf : Finite m c) (t : Fin cfg0.N) (h0 : ¬t.val % 9 ≤ 7) (h1 : t.val % 9 = 8) (y : S1x256x256.Idx)
    (b : Fin 16) (r' : Fin 2304) (h : Fin 8) (e : Fin 64) (hb : (b : ℕ) = t.val / 18) (hr : (r' : ℕ) = t.val % 9 * 256 + y 1)
    (hh : (h : ℕ) = t.val / 9 % 2 * 4 + y 2 / 64) (he : (e : ℕ) = y 2 % 64) :
    outsAt0 m c t.val t.isLt y = context (aq m c) (ak m c) (av m c) b r' h e := by
  rw [outsAt0_B m c t h0 h1]
  refine (block_B c _ _ _ _ _ _ _ _ _ _ _ (qB m c t) (kB m c t) (vB m c t) y).trans ?_
  refine (row_eq (n := 256) (by norm_num) (fun d => (aq m c (ix4 b r' h d)).toReal) (fun j d => (ak m c (ix4 b (ctxRow j) h d)).toReal)
    _ _ _ _ (fun d => q_slot m c hf t (y 1) (y 2) b r' h hb hr hh d) (fun j d => k_slot m c hf t (ctxRow j) (y 2) b h hb hh d)
    (fun j => w_slot m c t (ctxRow j) (y 2) b hb)).trans ?_
  refine Finset.sum_congr rfl fun j _ => ?_
  rw [v_slot m c t (ctxRow j) (y 2) b h e hb hh he]
  rfl

/-- The attention at an index whose coordinates are known. -/
theorem attention_at (q k : FVec Ideal S16x2304x8x96 .f32) (v : FVec Ideal S16x2304x8x64 .f32) (i : S16x2304x512.Idx)
    (b : Fin 16) (r : Fin 2304) (h : Fin 8) (e : Fin 64) (hb : (i 0 : ℕ) = b) (hr : (i 1 : ℕ) = r) (hi : (i 2 : ℕ) = h * 64 + e) :
    attention q k v i = if (r : ℕ) < 2048 then latent q k v b r h e else context q k v b r h e := by
  have e0 : i 0 = b := Fin.ext hb
  have e1 : i 1 = r := Fin.ext hr
  have he := e.isLt
  have e2 : (⟨(i 2 : ℕ) / 64, by omega⟩ : Fin 8) = h := Fin.ext (by show (i 2 : ℕ) / 64 = h; omega)
  have e3 : (⟨(i 2 : ℕ) % 64, by omega⟩ : Fin 64) = e := Fin.ext (by show (i 2 : ℕ) % 64 = e; omega)
  unfold attention
  rw [e0, e1, e2, e3]

/-- What point `t` leaves in its block is the attention at the place the block has in the array. -/
theorem point (c : Dev nD) (hf : Finite m c) (t : Fin cfg0.N) (y : S1x256x256.Idx) :
    outsAt0 m c t.val t.isLt y = attention (aq m c) (ak m c) (av m c) (((cfg0.win 3).blk t).view.emb y) := by
  have ht : t.val < 288 := lt_of_lt_of_eq t.isLt N_0
  have y1 : (y 1 : ℕ) < 256 := (y 1).isLt
  have y2 : (y 2 : ℕ) < 256 := (y 2).isLt
  have y0 : (y 0 : ℕ) < 1 := (y 0).isLt
  have E0 : ((((cfg0.win 3).blk t).view.emb y) 0 : ℕ) = t.val / 18 := by blk_simp [idx_val t]
  have E1 : ((((cfg0.win 3).blk t).view.emb y) 1 : ℕ) = t.val % 9 * 256 + y 1 := by blk_simp [idx_val t]
  have E2 : ((((cfg0.win 3).blk t).view.emb y) 2 : ℕ) = t.val / 9 % 2 * 256 + y 2 := by blk_simp [idx_val t]
  have hb : t.val / 18 < 16 := by omega
  have hr : t.val % 9 * 256 + y 1 < 2304 := by omega
  have hh : t.val / 9 % 2 * 4 + y 2 / 64 < 8 := by omega
  have he : (y 2 : ℕ) % 64 < 64 := Nat.mod_lt _ (by norm_num)
  refine Eq.trans ?_ (attention_at _ _ _ _ ⟨_, hb⟩ ⟨_, hr⟩ ⟨_, hh⟩ ⟨_, he⟩ E0 E1
    (E2.trans (by show _ = (t.val / 9 % 2 * 4 + y 2 / 64) * 64 + y 2 % 64; omega))).symm
  by_cases h1 : t.val % 9 = 8
  · rw [if_neg (by show ¬ t.val % 9 * 256 + y 1 < 2048; omega)]
    exact point_B m c hf t (by omega) h1 y _ _ _ _ rfl rfl rfl rfl
  · rw [if_pos (by show t.val % 9 * 256 + y 1 < 2048; omega)]
    exact point_A m c hf t (by omega) h1 y _ _ _ _ rfl rfl rfl rfl

/-- THE RESULT ARRAY of the attention call: softmax attention of every row. -/
theorem final (c : Dev nD) (hf : Finite m c) :
    (dats m 0 c).arrAt 3 (cfgs 0).N = attention (aq m c) (ak m c) (av m c) := by
  refine (dats m 0 c).arrAt_eq_of_covers 3 _ (by decide +kernel) fun t _ y => ?_
  blk_simp
  rw [after0_3]
  exact point m c hf t y

end Cert.AttnIdeal.Value

end
-- ==== Proof.AttnRefAt.lean ====
/- The reference's result, entry by entry: softmax attention of every row, for finite queries and keys. -/
module

public import proofs.«01_k».proof.Proof.Gen.AttnRefIdeal.Run
public import proofs.«01_k».proof.Proof.AttnSpec
public import Idealize.ShloMosaic.Lib.Pointwise

@[expose] public section

set_option maxRecDepth 16384

noncomputable section

namespace Cert.AttnRefIdeal.Value

open Cert.AttnRefIdeal Cert.AttnRefIdeal.Gen Idealize.ShloMosaic Idealize.ShloMosaic.TcCoe Idealize.SL.Sem
open Cert.Softmax
open Cert.AttnIdeal.Value (latent context attention score ctxRow)

/-- The scale, as the reference takes it at run time. -/
def scale : FVec Ideal S_ .f32 := Host.divf (constant S_ .f32 0x3F800000#32) (Host.sqrt (constant S_ .f32 0x42C00000#32))

/-- It is one over the root of 96. -/
theorem scale_eq (i : S_.Idx) : scale i = ((1 / Real.sqrt 96 : ℝ) : EReal) := by
  have h96 : Ideal.ofBits FTy.f32 1119879168#32 = ((96 : ℝ) : EReal) := by
    simp [Ideal.ofBits, Ideal.ieee]; rw [← EReal.coe_mul]; norm_num
  pointwise [scale, h96]
  exact scale_real

/-- The scaled scores of the latent rows. -/
def latentScores (q k : FVec Ideal S16x2304x8x96 .f32) : FVec Ideal S16x8x2048x2304 .f32 :=
  mulf (Host.dotGeneral dot_S16x2048x8x96_S16x2304x8x96_S16x8x2048x2304_3_3_1_1_02_02 none (extractStridedSlice S16x2048x8x96 ![0, 0, 0, 0] q slices_S16x2304x8x96_S16x2048x8x96_0_0_0_0) k)
    (broadcastInDim S16x8x2048x2304 ![] bcast_S_S16x8x2048x2304 scale)

/-- The greatest score of a row. -/
def latentFold (s : FVec Ideal S16x8x2048x2304 .f32) : FVec Ideal S16x8x2048 .f32 :=
  Host.reduce FloatOps.maximumf s (constant S_ .f32 0xFF800000#32) reducesTo_S16x8x2048x2304_S16x8x2048_d3 h_S_

/-- The same, against minus infinity once more. -/
def latentMax (s : FVec Ideal S16x8x2048x2304 .f32) : FVec Ideal S16x8x2048 .f32 :=
  maximumf (broadcastInDim S16x8x2048 ![] bcast_S_S16x8x2048 (constant S_ .f32 0xFF800000#32)) (latentFold s)

/-- The scores shifted by the greatest of their row, exponentiated. -/
def latentExps (s : FVec Ideal S16x8x2048x2304 .f32) : FVec Ideal S16x8x2048x2304 .f32 :=
  Host.exp (subf s (broadcastInDim S16x8x2048x2304 ![0, 1, 2, 3] bcast_S16x8x2048x1_S16x8x2048x2304_0_1_2_3 (broadcastInDim S16x8x2048x1 ![0, 1, 2] bcast_S16x8x2048_S16x8x2048x1_0_1_2 (latentMax s))))

/-- The exponentials over their row's sum. -/
def latentWeights (p : FVec Ideal S16x8x2048x2304 .f32) : FVec Ideal S16x8x2048x2304 .f32 :=
  Host.divf p (broadcastInDim S16x8x2048x2304 ![0, 1, 2, 3] bcast_S16x8x2048x1_S16x8x2048x2304_0_1_2_3 (broadcastInDim S16x8x2048x1 ![0, 1, 2] bcast_S16x8x2048_S16x8x2048x1_0_1_2
    (Host.reduceAdd p (constant S_ .f32 0x00000000#32) reducesTo_S16x8x2048x2304_S16x8x2048_d3 h_S_)))

/-- The weighted values, heads side by side. -/
def latentOut (v : FVec Ideal S16x2304x8x64 .f32) (w : FVec Ideal S16x8x2048x2304 .f32) : FVec Ideal S16x2048x512 .f32 :=
  shapeCast S16x2048x512 (transpose S16x2048x8x64 [0, 3, 1, 2] (Host.dotGeneral dot_S16x2304x8x64_S16x8x2048x2304_S16x8x64x2048_1_3_3_2_02_01 none v w)
    transposes_S16x8x64x2048_S16x2048x8x64_0_3_1_2) shapeCasts_S16x2048x8x64_S16x2048x512

/-- A score of real queries and keys is the real score. -/
theorem latentScores_at (q k : FVec Ideal S16x2304x8x96 .f32) (hq : ∀ i, q i = ((q i).toReal : EReal)) (hk : ∀ i, k i = ((k i).toReal : EReal))
    (b : Fin 16) (h : Fin 8) (r : Fin 2048) (j : Fin 2304) :
    latentScores q k (ix4 b h r j) = (score q k b h ⟨(r : ℕ), by omega⟩ j : EReal) := by
  pointwise [latentScores, scale_eq]
  unfold score
  rw [EReal.coe_mul, ← coe_sum]
  refine congrArg (· * _) (Finset.sum_congr rfl fun d _ => ?_)
  rw [EReal.coe_mul, ← hq, ← hk]

/-- The greatest score of a row is the fold of `max` over the row. -/
theorem latentFold_at (s : FVec Ideal S16x8x2048x2304 .f32) (b : Fin 16) (h : Fin 8) (r : Fin 2048) :
    latentFold s (ix3 b h r) = (Finset.univ.fold max (⊥ : EReal) fun i => s (ix4 b h r i) : EReal) := by
  unfold latentFold
  rw [show (constant S_ .f32 0xFF800000#32 : FVec Ideal S_ .f32) = fun _ => (⊥ : EReal) from funext fun _ => Cert.AttnIdeal.Value.negInf]
  refine (Host.reduce_eq_fold (max : EReal → EReal → EReal) (s : S16x8x2048x2304.Idx → EReal) (fun _ => (⊥ : EReal)) reducesTo_S16x8x2048x2304_S16x8x2048_d3 h_S_ _).trans ?_
  exact Shape.ReducesTo.fold_fiber_r4_a3 _ _ _ _ _

/-- A maximum against minus infinity, at an entry. -/
theorem latent_bot (A : FVec Ideal S16x8x2048 .f32) (b : Fin 16) (h : Fin 8) (r : Fin 2048) :
    maximumf (broadcastInDim S16x8x2048 ![] bcast_S_S16x8x2048 (constant S_ .f32 0xFF800000#32)) A (ix3 b h r) = (max ⊥ (A (ix3 b h r)) : EReal) := by
  pointwise [Cert.AttnIdeal.Value.negInf]

/-- The greatest against minus infinity. -/
theorem latentMax_at (s : FVec Ideal S16x8x2048x2304 .f32) (b : Fin 16) (h : Fin 8) (r : Fin 2048) :
    latentMax s (ix3 b h r) = (max ⊥ (Finset.univ.fold max (⊥ : EReal) fun i => s (ix4 b h r i)) : EReal) := by
  unfold latentMax
  rw [latent_bot, latentFold_at]

/-- An exponential of a row of scores. -/
theorem latentExps_at (s : FVec Ideal S16x8x2048x2304 .f32) (b : Fin 16) (h : Fin 8) (r : Fin 2048) (j : Fin 2304) :
    latentExps s (ix4 b h r j) = Ideal.exp ((s (ix4 b h r j) : EReal) - max ⊥ (Finset.univ.fold max (⊥ : EReal) fun i => s (ix4 b h r i))) := by
  have e : latentExps s (ix4 b h r j) = Ideal.exp ((s (ix4 b h r j) : EReal) - latentMax s (ix3 b h r)) := by pointwise [latentExps]
  rw [e, latentMax_at]

/-- A weight of a row of exponentials. -/
theorem latentWeights_at (p : FVec Ideal S16x8x2048x2304 .f32) (b : Fin 16) (h : Fin 8) (r : Fin 2048) (j : Fin 2304) :
    latentWeights p (ix4 b h r j) = Ideal.div (p (ix4 b h r j)) (0 + ∑ i, p (ix4 b h r i)) := by
  pointwise [latentWeights]

/-- An entry of the weighted values. -/
theorem latentOut_at (v : FVec Ideal S16x2304x8x64 .f32) (w : FVec Ideal S16x8x2048x2304 .f32) (b : Fin 16) (r : Fin 2048) (n : Fin 512) (h : Fin 8) (e : Fin 64)
    (hn : (n : ℕ) = h * 64 + e) :
    latentOut v w (ix3 b r n) = ∑ j : Fin 2304, v (ix4 b j h e) * w (ix4 b h r j) := by
  have he := e.isLt
  have e2 : (n : ℕ) / 64 = h := by omega
  have e3 : (n : ℕ) % 64 = e := by omega
  pointwise [latentOut]
  simp only [e2, e3]

/-- The latent rows' attention. -/
theorem latent_eq (q k : FVec Ideal S16x2304x8x96 .f32) (v : FVec Ideal S16x2304x8x64 .f32)
    (hq : ∀ i, q i = ((q i).toReal : EReal)) (hk : ∀ i, k i = ((k i).toReal : EReal))
    (b : Fin 16) (r : Fin 2048) (n : Fin 512) (h : Fin 8) (e : Fin 64) (hn : (n : ℕ) = h * 64 + e) :
    latentOut v (latentWeights (latentExps (latentScores q k))) (ix3 b r n) = latent q k v b ⟨(r : ℕ), by omega⟩ h e := by
  rw [latentOut_at v _ b r n h e hn]
  simp only [latentWeights_at, latentExps_at, latentScores_at q k hq hk]
  exact reference_row (by norm_num) (fun j => score q k b h ⟨(r : ℕ), by omega⟩ j) _

/-- The scaled scores of the context rows. -/
def contextScores (q k : FVec Ideal S16x2304x8x96 .f32) : FVec Ideal S16x8x256x256 .f32 :=
  mulf (Host.dotGeneral dot_S16x256x8x96_S16x256x8x96_S16x8x256x256_3_3_1_1_02_02 none (extractStridedSlice S16x256x8x96 ![0, 2048, 0, 0] q slices_S16x2304x8x96_S16x256x8x96_0_2048_0_0) (extractStridedSlice S16x256x8x96 ![0, 2048, 0, 0] k slices_S16x2304x8x96_S16x256x8x96_0_2048_0_0))
    (broadcastInDim S16x8x256x256 ![] bcast_S_S16x8x256x256 scale)

/-- The greatest score of a row. -/
def contextFold (s : FVec Ideal S16x8x256x256 .f32) : FVec Ideal S16x8x256 .f32 :=
  Host.reduce FloatOps.maximumf s (constant S_ .f32 0xFF800000#32) reducesTo_S16x8x256x256_S16x8x256_d3 h_S_

/-- The same, against minus infinity once more. -/
def contextMax (s : FVec Ideal S16x8x256x256 .f32) : FVec Ideal S16x8x256 .f32 :=
  maximumf (broadcastInDim S16x8x256 ![] bcast_S_S16x8x256 (constant S_ .f32 0xFF800000#32)) (contextFold s)

/-- The scores shifted by the greatest of their row, exponentiated. -/
def contextExps (s : FVec Ideal S16x8x256x256 .f32) : FVec Ideal S16x8x256x256 .f32 :=
  Host.exp (subf s (broadcastInDim S16x8x256x256 ![0, 1, 2, 3] bcast_S16x8x256x1_S16x8x256x256_0_1_2_3 (broadcastInDim S16x8x256x1 ![0, 1, 2] bcast_S16x8x256_S16x8x256x1_0_1_2 (contextMax s))))

/-- The exponentials over their row's sum. -/
def contextWeights (p : FVec Ideal S16x8x256x256 .f32) : FVec Ideal S16x8x256x256 .f32 :=
  Host.divf p (broadcastInDim S16x8x256x256 ![0, 1, 2, 3] bcast_S16x8x256x1_S16x8x256x256_0_1_2_3 (broadcastInDim S16x8x256x1 ![0, 1, 2] bcast_S16x8x256_S16x8x256x1_0_1_2
    (Host.reduceAdd p (constant S_ .f32 0x00000000#32) reducesTo_S16x8x256x256_S16x8x256_d3 h_S_)))

/-- The weighted values, heads side by side. -/
def contextOut (v : FVec Ideal S16x2304x8x64 .f32) (w : FVec Ideal S16x8x256x256 .f32) : FVec Ideal S16x256x512 .f32 :=
  shapeCast S16x256x512 (transpose S16x256x8x64 [0, 3, 1, 2] (Host.dotGeneral dot_S16x256x8x64_S16x8x256x256_S16x8x64x256_1_3_3_2_02_01 none (extractStridedSlice S16x256x8x64 ![0, 2048, 0, 0] v slices_S16x2304x8x64_S16x256x8x64_0_2048_0_0) w)
    transposes_S16x8x64x256_S16x256x8x64_0_3_1_2) shapeCasts_S16x256x8x64_S16x256x512

/-- A score of real queries and keys is the real score. -/
theorem contextScores_at (q k : FVec Ideal S16x2304x8x96 .f32) (hq : ∀ i, q i = ((q i).toReal : EReal)) (hk : ∀ i, k i = ((k i).toReal : EReal))
    (b : Fin 16) (h : Fin 8) (r : Fin 256) (j : Fin 256) :
    contextScores q k (ix4 b h r j) = (score q k b h (ctxRow r) (ctxRow j) : EReal) := by
  pointwise [contextScores, scale_eq]
  unfold score
  rw [EReal.coe_mul, ← coe_sum]
  refine congrArg (· * _) (Finset.sum_congr rfl fun d _ => ?_)
  rw [EReal.coe_mul, ← hq, ← hk]
  rfl

/-- The greatest score of a row is the fold of `max` over the row. -/
theorem contextFold_at (s : FVec Ideal S16x8x256x256 .f32) (b : Fin 16) (h : Fin 8) (r : Fin 256) :
    contextFold s (ix3 b h r) = (Finset.univ.fold max (⊥ : EReal) fun i => s (ix4 b h r i) : EReal) := by
  unfold contextFold
  rw [show (constant S_ .f32 0xFF800000#32 : FVec Ideal S_ .f32) = fun _ => (⊥ : EReal) from funext fun _ => Cert.AttnIdeal.Value.negInf]
  refine (Host.reduce_eq_fold (max : EReal → EReal → EReal) (s : S16x8x256x256.Idx → EReal) (fun _ => (⊥ : EReal)) reducesTo_S16x8x256x256_S16x8x256_d3 h_S_ _).trans ?_
  exact Shape.ReducesTo.fold_fiber_r4_a3 _ _ _ _ _

/-- A maximum against minus infinity, at an entry. -/
theorem context_bot (A : FVec Ideal S16x8x256 .f32) (b : Fin 16) (h : Fin 8) (r : Fin 256) :
    maximumf (broadcastInDim S16x8x256 ![] bcast_S_S16x8x256 (constant S_ .f32 0xFF800000#32)) A (ix3 b h r) = (max ⊥ (A (ix3 b h r)) : EReal) := by
  pointwise [Cert.AttnIdeal.Value.negInf]

/-- The greatest against minus infinity. -/
theorem contextMax_at (s : FVec Ideal S16x8x256x256 .f32) (b : Fin 16) (h : Fin 8) (r : Fin 256) :
    contextMax s (ix3 b h r) = (max ⊥ (Finset.univ.fold max (⊥ : EReal) fun i => s (ix4 b h r i)) : EReal) := by
  unfold contextMax
  rw [context_bot, contextFold_at]

/-- An exponential of a row of scores. -/
theorem contextExps_at (s : FVec Ideal S16x8x256x256 .f32) (b : Fin 16) (h : Fin 8) (r : Fin 256) (j : Fin 256) :
    contextExps s (ix4 b h r j) = Ideal.exp ((s (ix4 b h r j) : EReal) - max ⊥ (Finset.univ.fold max (⊥ : EReal) fun i => s (ix4 b h r i))) := by
  have e : contextExps s (ix4 b h r j) = Ideal.exp ((s (ix4 b h r j) : EReal) - contextMax s (ix3 b h r)) := by pointwise [contextExps]
  rw [e, contextMax_at]

/-- A weight of a row of exponentials. -/
theorem contextWeights_at (p : FVec Ideal S16x8x256x256 .f32) (b : Fin 16) (h : Fin 8) (r : Fin 256) (j : Fin 256) :
    contextWeights p (ix4 b h r j) = Ideal.div (p (ix4 b h r j)) (0 + ∑ i, p (ix4 b h r i)) := by
  pointwise [contextWeights]

/-- An entry of the weighted values. -/
theorem contextOut_at (v : FVec Ideal S16x2304x8x64 .f32) (w : FVec Ideal S16x8x256x256 .f32) (b : Fin 16) (r : Fin 256) (n : Fin 512) (h : Fin 8) (e : Fin 64)
    (hn : (n : ℕ) = h * 64 + e) :
    contextOut v w (ix3 b r n) = ∑ j : Fin 256, v (ix4 b (ctxRow j) h e) * w (ix4 b h r j) := by
  have he := e.isLt
  have e2 : (n : ℕ) / 64 = h := by omega
  have e3 : (n : ℕ) % 64 = e := by omega
  pointwise [contextOut]
  simp only [e2, e3]
  rfl

/-- The context rows' attention. -/
theorem context_eq (q k : FVec Ideal S16x2304x8x96 .f32) (v : FVec Ideal S16x2304x8x64 .f32)
    (hq : ∀ i, q i = ((q i).toReal : EReal)) (hk : ∀ i, k i = ((k i).toReal : EReal))
    (b : Fin 16) (r : Fin 256) (n : Fin 512) (h : Fin 8) (e : Fin 64) (hn : (n : ℕ) = h * 64 + e) :
    contextOut v (contextWeights (contextExps (contextScores q k))) (ix3 b r n) = context q k v b (ctxRow r) h e := by
  rw [contextOut_at v _ b r n h e hn]
  simp only [contextWeights_at, contextExps_at, contextScores_at q k hq hk]
  exact reference_row (by norm_num) (fun j => score q k b h (ctxRow r) (ctxRow j)) _

variable (m : (ℓ : Loc nD τ sig) → Buf (Elt Ideal) ℓ)

/-- The queries, as given to the reference. -/
abbrev rq (c : Dev nD) : FVec Ideal S16x2304x8x96 .f32 := m ((c : Thread nD τ).loc main_arg0)

/-- The keys, as given to the reference. -/
abbrev rk (c : Dev nD) : FVec Ideal S16x2304x8x96 .f32 := m ((c : Thread nD τ).loc main_arg1)

/-- The values, as given to the reference. -/
abbrev rv (c : Dev nD) : FVec Ideal S16x2304x8x64 .f32 := m ((c : Thread nD τ).loc main_arg2)

/-- The reference's result: latent rows above context rows. -/
def stacked (a : FVec Ideal S16x2048x512 .f32) (b : FVec Ideal S16x256x512 .f32) : FVec Ideal S16x2304x512 .bf16 :=
  truncf .bf16 (concatenate S16x2304x512 1 [⟨S16x2048x512, a⟩, ⟨S16x256x512, b⟩] concatenates_S16x2048x512_S16x256x512_S16x2304x512_d1) bitsLt_bf16_f32

/-- An entry of the stack. -/
theorem stacked_at (a : FVec Ideal S16x2048x512 .f32) (b : FVec Ideal S16x256x512 .f32) (i : S16x2304x512.Idx) :
    stacked a b i = if h : (i 1 : ℕ) < 2048 then a (ix3 (i 0) ⟨i 1, h⟩ (i 2))
      else b (ix3 (i 0) ⟨(i 1 : ℕ) - 2048, by have := (i 1).isLt; simp at this; omega⟩ (i 2)) := by
  pointwise [stacked]

/-- The run's composed term, in those parts. -/
theorem res_eq (c : Dev nD) : res_out0 m c = stacked (latentOut (rv m c) (latentWeights (latentExps (latentScores (rq m c) (rk m c)))))
    (contextOut (rv m c) (contextWeights (contextExps (contextScores (rq m c) (rk m c))))) := rfl

/-- THE REFERENCE'S RESULT: softmax attention of every row. -/
theorem result (c : Dev nD) (hq : ∀ i, rq m c i = ((rq m c i).toReal : EReal)) (hk : ∀ i, rk m c i = ((rk m c i).toReal : EReal)) :
    res_out0 m c = attention (rq m c) (rk m c) (rv m c) := by
  rw [res_eq]
  funext i
  have i2 : (i 2 : ℕ) < 512 := (i 2).isLt
  have i1 : (i 1 : ℕ) < 2304 := (i 1).isLt
  rw [stacked_at]
  unfold attention
  by_cases h : (i 1 : ℕ) < 2048
  · rw [dif_pos h, if_pos h]
    exact latent_eq _ _ _ hq hk (i 0) ⟨i 1, h⟩ (i 2) ⟨(i 2 : ℕ) / 64, by omega⟩ ⟨(i 2 : ℕ) % 64, by omega⟩ (by show (i 2 : ℕ) = (i 2 : ℕ) / 64 * 64 + (i 2 : ℕ) % 64; omega)
  · rw [dif_neg h, if_neg h]
    have e : ctxRow ⟨(i 1 : ℕ) - 2048, by omega⟩ = i 1 := Fin.ext (by show 2048 + ((i 1 : ℕ) - 2048) = i 1; omega)
    refine (context_eq _ _ _ hq hk (i 0) ⟨(i 1 : ℕ) - 2048, by omega⟩ (i 2) ⟨(i 2 : ℕ) / 64, by omega⟩ ⟨(i 2 : ℕ) % 64, by omega⟩
      (by show (i 2 : ℕ) = (i 2 : ℕ) / 64 * 64 + (i 2 : ℕ) % 64; omega)).trans ?_
    rw [e]

end Cert.AttnRefIdeal.Value

end
-- ==== Proof.AttnPre.lean ====
/- What the precondition says: every query and every key is a real number. -/
module

public import proofs.«01_k».proof.Proof.Gen.Pre_finite_qk
public import proofs.«01_k».proof.Pre_finite_qk
public import Idealize.ShloMosaic.Lib.ReduceAll
public import Idealize.ShloMosaic.Lib.Pointwise

@[expose] public section

set_option maxRecDepth 16384

noncomputable section

namespace Cert.FiniteQK

open Idealize.ShloMosaic Cert.Pre_finite_qk Cert.Pre_finite_qk.Facts

variable [Cert.Pre_finite_qk.Facts]

/-- The test of one array: every absolute value is below infinity. -/
def below (x : FVec Ideal S16x2304x8x96 .f32) : IVec S16x2304x8x96 1 :=
  cmpf .olt (Host.absf x) (broadcastInDim S16x2304x8x96 ![] bcast_S_S16x2304x8x96 (constant S_ .f32 0x7F800000#32))

/-- The bits of infinity. -/
theorem posInf : Ideal.ofBits FTy.f32 2139095040#32 = (⊤ : EReal) := by simp [Ideal.ofBits, Ideal.ieee]

/-- A one-bit comparison that is one holds. -/
theorem of_bit {p : Bool} (h : BitVec.ofBool p = 1#1) : p = true := by
  cases p
  · exact absurd h (by decide)
  · rfl

/-- An entry that passes the test is a real number. -/
theorem real_of_below (x : FVec Ideal S16x2304x8x96 .f32) (i : S16x2304x8x96.Idx) (h : below x i = 1#1) :
    x i = (((x i : EReal)).toReal : EReal) := by
  have h2 : (max (x i : EReal) (-(x i : EReal))) < ⊤ := by
    rw [← posInf]
    exact of_decide_eq_true (of_bit h)
  have ht : (x i : EReal) ≠ ⊤ := fun e => by
    rw [e] at h2
    simp at h2
  have hb : (x i : EReal) ≠ ⊥ := fun e => by
    rw [e] at h2
    simp at h2
  exact (EReal.coe_toReal ht hb).symm

/-- A conjunction of two bits that is one has both bits one. -/
theorem both {a b : BitVec 1} (h : IntOp.andi a b = 1#1) : a = 1#1 ∧ b = 1#1 := by
  revert h; revert a b; decide

/-- The result of the reduction over all the axes has one index. -/
instance : Subsingleton S_.Idx := ⟨fun a b => funext fun i => i.elim0⟩

/-- The precondition makes every query and every key a real number. -/
theorem real (q k : FVec Ideal S16x2304x8x96 .f32) (v : FVec Ideal S16x2304x8x64 .f32) (h : fn (F := Ideal) q k v = fun _ => 1#1) :
    (∀ i, q i = (((q i : EReal)).toReal : EReal)) ∧ ∀ i, k i = (((k i : EReal)).toReal : EReal) := by
  have h0 := both (congrFun h (Shape.Idx.first h_S_))
  exact ⟨fun i => real_of_below q i (Host.reduce_andi_all (below q) _ _ _ _ h0.1 i),
    fun i => real_of_below k i (Host.reduce_andi_all (below k) _ _ _ _ h0.2 i)⟩

end Cert.FiniteQK

end
-- ==== Proof.InProjSpec.lean ====
/- The input projection as a formula: a row is brought to unit root mean square, scaled by the norm's weight, modulated,
   and multiplied by the projection's matrix. -/
module

public import proofs.«01_k».proof.Proof.Gen.InProjIdeal.Value
public import Idealize.ShloMosaic.Lib.Pipeline.ValueKit
public import Idealize.ShloMosaic.Lib.Pointwise
public import Idealize.ShloMosaic.Lib.Claim

@[expose] public section

set_option maxRecDepth 16384

noncomputable section

namespace Cert.InProjIdeal.Value

open Cert.InProjIdeal Cert.InProjIdeal.Gen Idealize.ShloMosaic Idealize.ShloMosaic.TcCoe Idealize.SL.Sem
open Idealize.ShloMosaic.Pipeline (Dat)

/-- Entry `k` of a row after the norm and the modulation: the row over the root of its mean square (the mean over 1024
    entries, a small constant added), times the norm's weight, times one plus the modulation's scale, plus its shift. -/
def modRow (x g shift scale : Fin 1024 → EReal) (k : Fin 1024) : EReal :=
  x k * Ideal.rsqrt (Ideal.div (∑ l, x l * x l) (Ideal.ofBits FTy.f32 1149239296#32) + Ideal.ofBits FTy.f32 897988541#32)
    * g k * (1 + scale k) + shift k

/-- Entry `k` of the shift in a row of 3072 modulation entries. -/
def shiftAt (k : Fin 1024) : Fin 3072 := ⟨(k : ℕ), by omega⟩

/-- Entry `k` of the scale in a row of 3072 modulation entries. -/
def scaleAt (k : Fin 1024) : Fin 3072 := ⟨1024 + (k : ℕ), by omega⟩

/-- Row `r` of a batch's sequence of latent rows followed by context rows, normed and modulated: the latent rows by the
    modulation of their batch, the context rows by modulation row 16. -/
def modulated (x : FVec Ideal S16x2048x1024 .f32) (cx : FVec Ideal S16x256x1024 .f32) (mod : FVec Ideal S24x3072 .f32)
    (g : FVec Ideal S1024 .f32) (b : Fin 16) (r : Fin 2304) (k : Fin 1024) : EReal :=
  if h : (r : ℕ) < 2048 then
    modRow (fun l => x (ix3 b ⟨r, h⟩ l)) (fun l => g (ix1 l)) (fun l => mod (ix2 ⟨b, by omega⟩ (shiftAt l)))
      (fun l => mod (ix2 ⟨b, by omega⟩ (scaleAt l))) k
  else
    modRow (fun l => cx (ix3 b ⟨r - 2048, by omega⟩ l)) (fun l => g (ix1 l)) (fun l => mod (ix2 16 (shiftAt l)))
      (fun l => mod (ix2 16 (scaleAt l))) k

/-- The projection: every modulated row times the matrix. -/
def projected (x : FVec Ideal S16x2048x1024 .f32) (cx : FVec Ideal S16x256x1024 .f32) (mod : FVec Ideal S24x3072 .f32)
    (g : FVec Ideal S1024 .f32) (w : FVec Ideal S1024x10752 .f32) : FVec Ideal S16x2304x10752 .bf16 :=
  fun i => ∑ k : Fin 1024, modulated x cx mod g (i 0) (i 1) k * w (ix2 k (i 2))

end Cert.InProjIdeal.Value

end
-- ==== Proof.InProjPoint.lean ====
/- What one grid point of the projection call leaves: at the first column block of a batch the modulated rows in the
   carried scratch, at every point the scratch's rows times the point's columns of the matrix. -/
module

public import proofs.«01_k».proof.Proof.InProjSpec
public import Idealize.ShloMosaic.Lib.VecWindow

@[expose] public section

set_option maxRecDepth 16384

noncomputable section

namespace Cert.InProjIdeal.Value

open Cert.InProjIdeal Cert.InProjIdeal.Gen Idealize.ShloMosaic Idealize.ShloMosaic.TcCoe Idealize.SL.Sem
open Idealize.ShloMosaic.Pipeline (Dat)

/-- The modulated rows of a batch from its blocks: the latent rows, the context rows, the two modulation rows and the
    norm's weight. -/
def rows (x0 : FVec Ideal S1x2048x1024 .f32) (x1 : FVec Ideal S1x256x1024 .f32) (x2 x3 : FVec Ideal S1x1x3072 .f32)
    (x4 : FVec Ideal S1x1024 .f32) (r : Fin 2304) (k : Fin 1024) : EReal :=
  if h : (r : ℕ) < 2048 then
    modRow (fun l => x0 (ix3 0 ⟨r, h⟩ l)) (fun l => x4 (ix2 0 l)) (fun l => x2 (ix3 0 0 (shiftAt l))) (fun l => x2 (ix3 0 0 (scaleAt l))) k
  else
    modRow (fun l => x1 (ix3 0 ⟨r - 2048, by omega⟩ l)) (fun l => x4 (ix2 0 l)) (fun l => x3 (ix3 0 0 (shiftAt l))) (fun l => x3 (ix3 0 0 (scaleAt l))) k

/-- A product of the scratch's rows with a block of the matrix's columns. -/
theorem product_at (h : FVec Ideal S2304x1024 .bf16) (w : FVec Ideal S1024x1536 .bf16) (j : S1x2304x1536.Idx) :
    k0_pay2 (F := Ideal) h w j = ∑ k : Fin 1024, h (ix2 (j 1) k) * w (ix2 k (j 2)) := by
  pointwise [k0_pay2]

/-- The modulated rows of a tile of the latent rows. -/
theorem rows_latent (x0 : FVec Ideal S1x2048x1024 .f32) (x1 : FVec Ideal S1x256x1024 .f32) (x2 x3 : FVec Ideal S1x1x3072 .f32)
    (x4 : FVec Ideal S1x1024 .f32) (r : Fin 2304) (k k' : Fin 1024) (r' : Fin 2048) (hr : (r : ℕ) = r') (hk : (k : ℕ) = k') :
    rows x0 x1 x2 x3 x4 r k = modRow (fun l => x0 (ix3 0 r' l)) (fun l => x4 (ix2 0 l)) (fun l => x2 (ix3 0 0 (shiftAt l))) (fun l => x2 (ix3 0 0 (scaleAt l))) k' := by
  obtain rfl : k = k' := Fin.ext hk
  have h : (r : ℕ) < 2048 := by omega
  unfold rows
  rw [dif_pos h]
  rw [show (⟨r, h⟩ : Fin 2048) = r' from Fin.ext hr]

/-- The modulated rows of the context tile. -/
theorem rows_context (x0 : FVec Ideal S1x2048x1024 .f32) (x1 : FVec Ideal S1x256x1024 .f32) (x2 x3 : FVec Ideal S1x1x3072 .f32)
    (x4 : FVec Ideal S1x1024 .f32) (r : Fin 2304) (k k' : Fin 1024) (r' : Fin 256) (hr : (r : ℕ) = 2048 + r') (hk : (k : ℕ) = k') :
    rows x0 x1 x2 x3 x4 r k = modRow (fun l => x1 (ix3 0 r' l)) (fun l => x4 (ix2 0 l)) (fun l => x3 (ix3 0 0 (shiftAt l))) (fun l => x3 (ix3 0 0 (scaleAt l))) k' := by
  obtain rfl : k = k' := Fin.ext hk
  have h : ¬ (r : ℕ) < 2048 := by omega
  unfold rows
  rw [dif_neg h]
  rw [show (⟨(r : ℕ) - 2048, by omega⟩ : Fin 256) = r' from Fin.ext (by show (r : ℕ) - 2048 = r'; omega)]

set_option maxHeartbeats 3200000 in
/-- What the first column block's point leaves in the carried scratch: the batch's modulated rows. -/
theorem scratch_A (c : Dev nD) (i : grid0.Coords) (arg2 : Memref sig .tc .vmem S1x2048x1024 .f32) (harg2 : arg2.IsWhole) (arg3 : Memref sig .tc .vmem S1x256x1024 .f32) (harg3 : arg3.IsWhole) (arg4 : Memref sig .tc .vmem S1x1x3072 .f32) (harg4 : arg4.IsWhole) (arg5 : Memref sig .tc .vmem S1x1x3072 .f32) (harg5 : arg5.IsWhole) (arg6 : Memref sig .tc .vmem S1x1024 .f32) (harg6 : arg6.IsWhole) (arg7 : Memref sig .tc .vmem S1024x1536 .bf16) (harg7 : arg7.IsWhole) (arg8 : Memref sig .tc .vmem S1x2304x1536 .bf16) (harg8 : arg8.IsWhole) (arg9 : Memref sig .tc .vmem S2304x1024 .bf16) (harg9 : arg9.IsWhole) (hc0 : cond0_0 i)
    (x0 : FVec Ideal S1x2048x1024 .f32) (x1 : FVec Ideal S1x256x1024 .f32) (x2 x3 : FVec Ideal S1x1x3072 .f32) (x4 : FVec Ideal S1x1024 .f32) (x5 : FVec Ideal S1024x1536 .bf16) (y : S2304x1024.Idx) :
    sout0_A_0 (F := Ideal) c i arg2 harg2 arg3 harg3 arg4 harg4 arg5 harg5 arg6 harg6 arg7 harg7 arg8 harg8 arg9 harg9 hc0 x0 x1 x2 x3 x4 x5 y
      = rows x0 x1 x2 x3 x4 (y 0) (y 1) := by
  frame_out
  canon_tiles x h
  case piece0 =>
    rw [rows_context x0 x1 x2 x3 x4 (y 0) (y 1) (x 1) (x 0) h0 h1]
    pointwise [k0_pay1, k0_pay3, modRow, shiftAt, scaleAt]
  case piece1 =>
    rw [rows_latent x0 x1 x2 x3 x4 (y 0) (y 1) (x 1) ⟨1792 + x 0, by omega⟩ h0 h1]
    pointwise [k0_pay18, k0_pay3, k0_pay4, modRow, shiftAt, scaleAt]
  case piece2 =>
    rw [rows_latent x0 x1 x2 x3 x4 (y 0) (y 1) (x 1) ⟨1536 + x 0, by omega⟩ h0 h1]
    pointwise [k0_pay17, k0_pay15, k0_pay16, k0_pay3, k0_pay4, modRow, shiftAt, scaleAt]
  case piece3 =>
    rw [rows_latent x0 x1 x2 x3 x4 (y 0) (y 1) (x 1) ⟨1280 + x 0, by omega⟩ h0 h1]
    pointwise [k0_pay14, k0_pay3, k0_pay4, modRow, shiftAt, scaleAt]
  case piece4 =>
    rw [rows_latent x0 x1 x2 x3 x4 (y 0) (y 1) (x 1) ⟨1024 + x 0, by omega⟩ h0 h1]
    pointwise [k0_pay13, k0_pay11, k0_pay12, k0_pay3, k0_pay4, modRow, shiftAt, scaleAt]
  case piece5 =>
    rw [rows_latent x0 x1 x2 x3 x4 (y 0) (y 1) (x 1) ⟨768 + x 0, by omega⟩ h0 h1]
    pointwise [k0_pay10, k0_pay3, k0_pay4, modRow, shiftAt, scaleAt]
  case piece6 =>
    rw [rows_latent x0 x1 x2 x3 x4 (y 0) (y 1) (x 1) ⟨512 + x 0, by omega⟩ h0 h1]
    pointwise [k0_pay9, k0_pay3, k0_pay4, modRow, shiftAt, scaleAt]
  case piece7 =>
    rw [rows_latent x0 x1 x2 x3 x4 (y 0) (y 1) (x 1) ⟨256 + x 0, by omega⟩ h0 h1]
    pointwise [k0_pay8, k0_pay6, k0_pay7, k0_pay3, k0_pay4, modRow, shiftAt, scaleAt]
  case piece8 =>
    rw [rows_latent x0 x1 x2 x3 x4 (y 0) (y 1) (x 1) ⟨0 + x 0, by omega⟩ (by show _ = 0 + (x 0 : ℕ); omega) h1]
    pointwise [k0_pay5, k0_pay3, k0_pay4, modRow, shiftAt, scaleAt]

set_option maxHeartbeats 3200000 in
/-- What that point leaves in its output block: the modulated rows times its columns. -/
theorem block_A (c : Dev nD) (i : grid0.Coords) (arg2 : Memref sig .tc .vmem S1x2048x1024 .f32) (harg2 : arg2.IsWhole) (arg3 : Memref sig .tc .vmem S1x256x1024 .f32) (harg3 : arg3.IsWhole) (arg4 : Memref sig .tc .vmem S1x1x3072 .f32) (harg4 : arg4.IsWhole) (arg5 : Memref sig .tc .vmem S1x1x3072 .f32) (harg5 : arg5.IsWhole) (arg6 : Memref sig .tc .vmem S1x1024 .f32) (harg6 : arg6.IsWhole) (arg7 : Memref sig .tc .vmem S1024x1536 .bf16) (harg7 : arg7.IsWhole) (arg8 : Memref sig .tc .vmem S1x2304x1536 .bf16) (harg8 : arg8.IsWhole) (arg9 : Memref sig .tc .vmem S2304x1024 .bf16) (harg9 : arg9.IsWhole) (hc0 : cond0_0 i)
    (x0 : FVec Ideal S1x2048x1024 .f32) (x1 : FVec Ideal S1x256x1024 .f32) (x2 x3 : FVec Ideal S1x1x3072 .f32) (x4 : FVec Ideal S1x1024 .f32) (x5 : FVec Ideal S1024x1536 .bf16) (y : S1x2304x1536.Idx) :
    out0_A_6 (F := Ideal) c i arg2 harg2 arg3 harg3 arg4 harg4 arg5 harg5 arg6 harg6 arg7 harg7 arg8 harg8 arg9 harg9 hc0 x0 x1 x2 x3 x4 x5 y = ∑ k : Fin 1024, rows x0 x1 x2 x3 x4 (y 1) k * x5 (ix2 k (y 2)) := by
  have hs := scratch_A c i arg2 harg2 arg3 harg3 arg4 harg4 arg5 harg5 arg6 harg6 arg7 harg7 arg8 harg8 arg9 harg9 hc0 x0 x1 x2 x3 x4 x5
  revert hs
  frame_out
  intro hs
  refine (product_at _ _ y).trans ?_
  refine Finset.sum_congr rfl fun k _ => congrArg (· * x5 (ix2 k (y 2))) ?_
  rw [View.readCov_eq_canon']
  refine Eq.trans ?_ (hs (ix2 (y 1) k))
  refine congrArg _ ?_
  exact Rect.emb_unit_full _ _

/-- What another column block's point leaves in its output block: the scratch's rows times its columns. -/
theorem block_B (c : Dev nD) (i : grid0.Coords) (arg2 : Memref sig .tc .vmem S1x2048x1024 .f32) (harg2 : arg2.IsWhole) (arg3 : Memref sig .tc .vmem S1x256x1024 .f32) (harg3 : arg3.IsWhole) (arg4 : Memref sig .tc .vmem S1x1x3072 .f32) (harg4 : arg4.IsWhole) (arg5 : Memref sig .tc .vmem S1x1x3072 .f32) (harg5 : arg5.IsWhole) (arg6 : Memref sig .tc .vmem S1x1024 .f32) (harg6 : arg6.IsWhole) (arg7 : Memref sig .tc .vmem S1024x1536 .bf16) (harg7 : arg7.IsWhole) (arg8 : Memref sig .tc .vmem S1x2304x1536 .bf16) (harg8 : arg8.IsWhole) (arg9 : Memref sig .tc .vmem S2304x1024 .bf16) (harg9 : arg9.IsWhole) (hc0 : ¬cond0_0 i)
    (x0 : FVec Ideal S1x2048x1024 .f32) (x1 : FVec Ideal S1x256x1024 .f32) (x2 x3 : FVec Ideal S1x1x3072 .f32) (x4 : FVec Ideal S1x1024 .f32) (x5 : FVec Ideal S1024x1536 .bf16) (xs0 : FVec Ideal S2304x1024 .bf16) (y : S1x2304x1536.Idx) :
    out0_B_6 (F := Ideal) c i arg2 harg2 arg3 harg3 arg4 harg4 arg5 harg5 arg6 harg6 arg7 harg7 arg8 harg8 arg9 harg9 hc0 x0 x1 x2 x3 x4 x5 xs0 y = ∑ k : Fin 1024, xs0 (ix2 (y 1) k) * x5 (ix2 k (y 2)) := by
  frame_out
  exact product_at _ _ y

end Cert.InProjIdeal.Value

end
-- ==== Proof.InProjValue.lean ====
/- The array the projection call leaves: the modulated rows of every batch times the projection's matrix. -/
module

public import proofs.«01_k».proof.Proof.InProjPoint

@[expose] public section

set_option maxRecDepth 16384

noncomputable section

namespace Cert.InProjIdeal.Value

open Cert.InProjIdeal Cert.InProjIdeal.Gen Idealize.ShloMosaic Idealize.ShloMosaic.TcCoe Idealize.SL.Sem
open Idealize.ShloMosaic.Pipeline (Dat)

variable (m : (ℓ : Loc nD τ sig) → Buf (Elt Ideal) ℓ)

/-- The latent rows, as given. -/
abbrev ax (c : Dev nD) : FVec Ideal S16x2048x1024 .f32 := m ((c : Thread nD τ).loc main_arg0)

/-- The context rows, as given. -/
abbrev acx (c : Dev nD) : FVec Ideal S16x256x1024 .f32 := m ((c : Thread nD τ).loc main_arg1)

/-- The modulation, as given. -/
abbrev amod (c : Dev nD) : FVec Ideal S24x3072 .f32 := m ((c : Thread nD τ).loc main_arg2)

/-- The norm's weight, as given. -/
abbrev ag (c : Dev nD) : FVec Ideal S1024 .f32 := m ((c : Thread nD τ).loc main_arg3)

/-- The projection's matrix, as given. -/
abbrev aw (c : Dev nD) : FVec Ideal S1024x10752 .f32 := m ((c : Thread nD τ).loc main_arg4)

/-- The modulation as the call reads it: each row under an axis of one. -/
abbrev modE (c : Dev nD) : FVec Ideal S24x1x3072 .f32 := V m c main_v0

/-- The matrix as the call reads it. -/
abbrev wE (c : Dev nD) : FVec Ideal S1024x10752 .bf16 := V m c main_v1

/-- The norm's weight as the call reads it. -/
abbrev gE (c : Dev nD) : FVec Ideal S1x1024 .f32 := V m c main_v2

/-- An entry of the modulation the call reads. -/
theorem mod_entry (c : Dev nD) (r : Fin 24) (l : Fin 3072) : modE m c (ix3 r 0 l) = amod m c (ix2 r l) := by
  unfold modE
  entry_read
  pointwise

/-- An entry of the matrix the call reads. -/
theorem w_entry (c : Dev nD) (k : Fin 1024) (n : Fin 10752) : wE m c (ix2 k n) = aw m c (ix2 k n) := by
  unfold wE
  entry_read
  pointwise

/-- An entry of the weight the call reads. -/
theorem g_entry (c : Dev nD) (l : Fin 1024) : gE m c (ix2 0 l) = ag m c (ix1 l) := by
  unfold gE
  entry_read
  pointwise

/-- The blocks of grid point `t`: the windows' block indices. -/
theorem idx_val : ∀ t : Fin cfg0.N, win0_0.index t = ![t.val / 7, 0, 0] ∧ win0_1.index t = ![t.val / 7, 0, 0]
    ∧ win0_2.index t = ![t.val / 7, 0, 0] ∧ win0_3.index t = ![16, 0, 0] ∧ win0_4.index t = ![0, 0]
    ∧ win0_5.index t = ![0, t.val % 7] ∧ win0_6.index t = ![t.val / 7, 0, t.val % 7] :=
  (by decide +kernel : ∀ t : Fin grid0.N, _)

/-- The latent block of a point. -/
abbrev xB (c : Dev nD) (t : Fin cfg0.N) : FVec Ideal S1x2048x1024 .f32 := iblk m c 0 t

/-- The context block of a point. -/
abbrev cxB (c : Dev nD) (t : Fin cfg0.N) : FVec Ideal S1x256x1024 .f32 := iblk m c 1 t

/-- The latent rows' modulation at a point. -/
abbrev mlB (c : Dev nD) (t : Fin cfg0.N) : FVec Ideal S1x1x3072 .f32 := iblk m c 2 t

/-- The context rows' modulation at a point. -/
abbrev mcB (c : Dev nD) (t : Fin cfg0.N) : FVec Ideal S1x1x3072 .f32 := iblk m c 3 t

/-- The norm's weight at a point. -/
abbrev gB (c : Dev nD) (t : Fin cfg0.N) : FVec Ideal S1x1024 .f32 := iblk m c 4 t

/-- The matrix's columns at a point. -/
abbrev wB (c : Dev nD) (t : Fin cfg0.N) : FVec Ideal S1024x1536 .bf16 := iblk m c 5 t

/-- Where the latent block's entries sit. -/
theorem emb0 (t : Fin cfg0.N) (r : Fin 2048) (l : Fin 1024) (b : Fin 16) (hb : (b : ℕ) = t.val / 7) :
    ((cfg0.win 0).blk t).view.emb (ix3 0 r l) = ix3 b r l := by
  blk_ext [idx_val t]

/-- Where the context block's entries sit. -/
theorem emb1 (t : Fin cfg0.N) (r : Fin 256) (l : Fin 1024) (b : Fin 16) (hb : (b : ℕ) = t.val / 7) :
    ((cfg0.win 1).blk t).view.emb (ix3 0 r l) = ix3 b r l := by
  blk_ext [idx_val t]

/-- Where the latent rows' modulation sits. -/
theorem emb2 (t : Fin cfg0.N) (l : Fin 3072) (b : Fin 24) (hb : (b : ℕ) = t.val / 7) :
    ((cfg0.win 2).blk t).view.emb (ix3 0 0 l) = ix3 b 0 l := by
  blk_ext [idx_val t]

/-- Where the context rows' modulation sits. -/
theorem emb3 (t : Fin cfg0.N) (l : Fin 3072) : ((cfg0.win 3).blk t).view.emb (ix3 0 0 l) = ix3 16 0 l := by
  blk_ext [idx_val t]

/-- Where the weight sits. -/
theorem emb4 (t : Fin cfg0.N) (l : Fin 1024) : ((cfg0.win 4).blk t).view.emb (ix2 0 l) = ix2 0 l := by
  blk_ext [idx_val t]

/-- Where the matrix's columns sit. -/
theorem emb5 (t : Fin cfg0.N) (k : Fin 1024) (l : Fin 1536) (n : Fin 10752) (hn : (n : ℕ) = t.val % 7 * 1536 + l) :
    ((cfg0.win 5).blk t).view.emb (ix2 k l) = ix2 k n := by
  blk_ext [idx_val t]

/-- An entry of the latent block. -/
theorem xB_at (c : Dev nD) (t : Fin cfg0.N) (r : Fin 2048) (l : Fin 1024) (b : Fin 16) (hb : (b : ℕ) = t.val / 7) :
    xB m c t (ix3 0 r l) = ax m c (ix3 b r l) := by
  unfold xB ax iblk
  rw [View.read, emb0 t r l b hb, show V m c (Pipeline.arrRef spec0 0) = m ((c : Thread nD τ).loc main_arg0) from V_main_arg0 m c]
  exact cast_eq _ _

/-- An entry of the context block. -/
theorem cxB_at (c : Dev nD) (t : Fin cfg0.N) (r : Fin 256) (l : Fin 1024) (b : Fin 16) (hb : (b : ℕ) = t.val / 7) :
    cxB m c t (ix3 0 r l) = acx m c (ix3 b r l) := by
  unfold cxB acx iblk
  rw [View.read, emb1 t r l b hb, show V m c (Pipeline.arrRef spec0 1) = m ((c : Thread nD τ).loc main_arg1) from V_main_arg1 m c]
  exact cast_eq _ _

/-- An entry of the latent rows' modulation. -/
theorem mlB_at (c : Dev nD) (t : Fin cfg0.N) (l : Fin 3072) (b : Fin 24) (hb : (b : ℕ) = t.val / 7) :
    mlB m c t (ix3 0 0 l) = amod m c (ix2 b l) := by
  rw [← mod_entry]
  unfold mlB modE iblk
  rw [View.read, emb2 t l b hb]
  generalize V m c = A
  exact cast_eq _ _

/-- An entry of the context rows' modulation. -/
theorem mcB_at (c : Dev nD) (t : Fin cfg0.N) (l : Fin 3072) : mcB m c t (ix3 0 0 l) = amod m c (ix2 16 l) := by
  rw [← mod_entry]
  unfold mcB modE iblk
  rw [View.read, emb3 t l]
  generalize V m c = A
  exact cast_eq _ _

/-- An entry of the weight. -/
theorem gB_at (c : Dev nD) (t : Fin cfg0.N) (l : Fin 1024) : gB m c t (ix2 0 l) = ag m c (ix1 l) := by
  rw [← g_entry]
  unfold gB gE iblk
  rw [View.read, emb4 t l]
  generalize V m c = A
  exact cast_eq _ _

/-- An entry of the matrix's columns. -/
theorem wB_at (c : Dev nD) (t : Fin cfg0.N) (k : Fin 1024) (l : Fin 1536) (n : Fin 10752) (hn : (n : ℕ) = t.val % 7 * 1536 + l) :
    wB m c t (ix2 k l) = aw m c (ix2 k n) := by
  rw [← w_entry]
  unfold wB wE iblk
  rw [View.read, emb5 t k l n hn]
  generalize V m c = A
  exact cast_eq _ _

/-- The modulated rows from a point's blocks are those of the point's batch. -/
theorem rows_at (c : Dev nD) (t : Fin cfg0.N) (b : Fin 16) (hb : (b : ℕ) = t.val / 7) (r : Fin 2304) (k : Fin 1024) :
    rows (xB m c t) (cxB m c t) (mlB m c t) (mcB m c t) (gB m c t) r k = modulated (ax m c) (acx m c) (amod m c) (ag m c) b r k := by
  unfold rows modulated
  simp only [gB_at, mcB_at]
  by_cases h : (r : ℕ) < 2048
  · rw [dif_pos h, dif_pos h]
    have e0 : (fun l => xB m c t (ix3 0 ⟨r, h⟩ l)) = fun l => ax m c (ix3 b ⟨r, h⟩ l) := funext fun l => xB_at m c t _ l b hb
    have e1 : ∀ l, mlB m c t (ix3 0 0 l) = amod m c (ix2 ⟨b, by omega⟩ l) := fun l => mlB_at m c t l ⟨b, by omega⟩ hb
    rw [e0, funext fun l => e1 (shiftAt l), funext fun l => e1 (scaleAt l)]
  · rw [dif_neg h, dif_neg h]
    have e0 : (fun l => cxB m c t (ix3 0 ⟨(r : ℕ) - 2048, by omega⟩ l)) = fun l => acx m c (ix3 b ⟨(r : ℕ) - 2048, by omega⟩ l) :=
      funext fun l => cxB_at m c t _ l b hb
    rw [e0]

/-- After every point the carried scratch holds the modulated rows of the point's batch. -/
theorem scratch_at (c : Dev nD) : ∀ (n : ℕ) (hn : n < cfg0.N) (b : Fin 16) (hb : (b : ℕ) = n / 7) (r : Fin 2304) (k : Fin 1024),
    (outsAt0 m c n hn).2 (ix2 r k) = modulated (ax m c) (acx m c) (amod m c) (ag m c) b r k := by
  intro n
  induction n with
  | zero =>
    intro hn b hb r k
    rw [outsAt0_A m c ⟨0, hn⟩ rfl]
    dsimp only
    exact (scratch_A c _ _ _ _ _ _ _ _ _ _ _ _ _ _ _ _ _ _ (xB m c ⟨0, hn⟩) (cxB m c ⟨0, hn⟩) (mlB m c ⟨0, hn⟩) (mcB m c ⟨0, hn⟩) (gB m c ⟨0, hn⟩)
      (wB m c ⟨0, hn⟩) (ix2 r k)).trans (rows_at m c ⟨0, hn⟩ b hb r k)
  | succ n ih =>
    intro hn b hb r k
    by_cases h0 : (n + 1) % 7 = 0
    · rw [outsAt0_A m c ⟨n + 1, hn⟩ h0]
      dsimp only
      exact (scratch_A c _ _ _ _ _ _ _ _ _ _ _ _ _ _ _ _ _ _ (xB m c ⟨n + 1, hn⟩) (cxB m c ⟨n + 1, hn⟩) (mlB m c ⟨n + 1, hn⟩) (mcB m c ⟨n + 1, hn⟩)
        (gB m c ⟨n + 1, hn⟩) (wB m c ⟨n + 1, hn⟩) (ix2 r k)).trans (rows_at m c ⟨n + 1, hn⟩ b hb r k)
    · rw [outsAt0_B m c ⟨n + 1, hn⟩ h0]
      dsimp only
      unfold sout0_B_0
      exact ih (Nat.lt_of_succ_lt hn) b (by omega) r k

/-- What point `t` leaves in its block is the projection at the place the block has in the array. -/
theorem point (c : Dev nD) (t : Fin cfg0.N) (y : S1x2304x1536.Idx) (b : Fin 16) (hb : (b : ℕ) = t.val / 7) (n : Fin 10752)
    (hn : (n : ℕ) = t.val % 7 * 1536 + y 2) :
    (outsAt0 m c t.val t.isLt).1 y
      = ∑ k : Fin 1024, modulated (ax m c) (acx m c) (amod m c) (ag m c) b (y 1) k * aw m c (ix2 k n) := by
  by_cases h0 : t.val % 7 = 0
  · rw [outsAt0_A m c t h0]
    dsimp only
    refine (block_A c _ _ _ _ _ _ _ _ _ _ _ _ _ _ _ _ _ _ (xB m c t) (cxB m c t) (mlB m c t) (mcB m c t) (gB m c t) (wB m c t) y).trans ?_
    exact Finset.sum_congr rfl fun k _ => congrArg₂ (· * ·) (rows_at m c t b hb (y 1) k) (wB_at m c t k (y 2) n hn)
  · rw [outsAt0_B m c t h0]
    dsimp only
    refine (block_B c _ _ _ _ _ _ _ _ _ _ _ _ _ _ _ _ _ _ (xB m c t) (cxB m c t) (mlB m c t) (mcB m c t) (gB m c t) (wB m c t) _ y).trans ?_
    exact Finset.sum_congr rfl fun k _ => congrArg₂ (· * ·)
      (scratch_at m c (t.val - 1) _ b (by omega) (y 1) k) (wB_at m c t k (y 2) n hn)

/-- The projection at an index whose coordinates are known. -/
theorem projected_at (x : FVec Ideal S16x2048x1024 .f32) (cx : FVec Ideal S16x256x1024 .f32) (mod : FVec Ideal S24x3072 .f32)
    (g : FVec Ideal S1024 .f32) (w : FVec Ideal S1024x10752 .f32) (i : S16x2304x10752.Idx) (b : Fin 16) (r : Fin 2304) (n : Fin 10752)
    (hb : (i 0 : ℕ) = b) (hr : (i 1 : ℕ) = r) (hn : (i 2 : ℕ) = n) :
    projected x cx mod g w i = ∑ k : Fin 1024, modulated x cx mod g b r k * w (ix2 k n) := by
  have e0 : i 0 = b := Fin.ext hb
  have e1 : i 1 = r := Fin.ext hr
  have e2 : i 2 = n := Fin.ext hn
  unfold projected
  rw [e0, e1, e2]

/-- THE RESULT ARRAY of the projection call: every modulated row times the matrix. -/
theorem final (c : Dev nD) :
    (dats m 0 c).arrAt 6 (cfgs 0).N = projected (ax m c) (acx m c) (amod m c) (ag m c) (aw m c) := by
  refine (dats m 0 c).arrAt_eq_of_covers 6 _ (by decide +kernel) fun t _ y => ?_
  blk_simp
  rw [after0_6]
  have ht : t.val < 112 := lt_of_lt_of_eq t.isLt N_0
  have y2 : (y 2 : ℕ) < 1536 := (y 2).isLt
  have y0 : (y 0 : ℕ) < 1 := (y 0).isLt
  have E0 : ((((cfg0.win 6).blk t).view.emb y) 0 : ℕ) = t.val / 7 := by blk_simp [idx_val t]
  have E1 : ((((cfg0.win 6).blk t).view.emb y) 1 : ℕ) = y 1 := by blk_simp [idx_val t]
  have E2 : ((((cfg0.win 6).blk t).view.emb y) 2 : ℕ) = t.val % 7 * 1536 + y 2 := by blk_simp [idx_val t]
  have hb : t.val / 7 < 16 := by omega
  have hn : t.val % 7 * 1536 + y 2 < 10752 := by omega
  exact (point m c t y ⟨_, hb⟩ rfl ⟨_, hn⟩ rfl).trans (projected_at _ _ _ _ _ _ ⟨_, hb⟩ (y 1) ⟨_, hn⟩ E0 E1 E2).symm

end Cert.InProjIdeal.Value

end
-- ==== Proof.InProjRefAt.lean ====
/- The reference's projection, entry by entry: the modulated rows of every batch times the matrix. -/
module

public import proofs.«01_k».proof.Proof.Gen.InProjRefIdeal.Run
public import proofs.«01_k».proof.Proof.InProjSpec
public import Idealize.ShloMosaic.Lib.Pointwise

@[expose] public section

set_option maxRecDepth 16384

noncomputable section

namespace Cert.InProjRefIdeal.Value

open Cert.InProjRefIdeal Cert.InProjRefIdeal.Gen Idealize.ShloMosaic Idealize.ShloMosaic.TcCoe Idealize.SL.Sem
open Cert.InProjIdeal.Value (modRow modulated projected shiftAt scaleAt)

/-- The latent rows, normed and modulated. -/
def latentRows (x : FVec Ideal S16x2048x1024 .f32) (mod : FVec Ideal S24x3072 .f32) (g : FVec Ideal S1024 .f32) : FVec Ideal S16x2048x1024 .f32 :=
  addf (mulf (mulf (mulf x (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf x x) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 g))) (broadcastInDim S16x2048x1024 ![0, 1, 2] bcast_S16x1x1024_S16x2048x1024_0_1_2 (addf (broadcastInDim S16x1x1024 ![] bcast_S_S16x1x1024 (constant S_ .f32 0x3F800000#32)) (broadcastInDim S16x1x1024 ![0, 2] bcast_S16x1024_S16x1x1024_0_2 (extractStridedSlice S16x1024 ![0, 1024] (extractStridedSlice S16x3072 ![0, 0] mod slices_S24x3072_S16x3072_0_0) slices_S16x3072_S16x1024_0_1024))))) (broadcastInDim S16x2048x1024 ![0, 1, 2] bcast_S16x1x1024_S16x2048x1024_0_1_2 (broadcastInDim S16x1x1024 ![0, 2] bcast_S16x1024_S16x1x1024_0_2 (extractStridedSlice S16x1024 ![0, 0] (extractStridedSlice S16x3072 ![0, 0] mod slices_S24x3072_S16x3072_0_0) slices_S16x3072_S16x1024_0_0)))

/-- The context rows, normed and modulated. -/
def contextRows (cx : FVec Ideal S16x256x1024 .f32) (mod : FVec Ideal S24x3072 .f32) (g : FVec Ideal S1024 .f32) : FVec Ideal S16x256x1024 .f32 :=
  addf (mulf (mulf (mulf cx (broadcastInDim S16x256x1024 ![0, 1, 2] bcast_S16x256x1_S16x256x1024_0_1_2 (Host.rsqrt (addf (Host.divf (broadcastInDim S16x256x1 ![0, 1] bcast_S16x256_S16x256x1_0_1 (Host.reduceAdd (mulf cx cx) (constant S_ .f32 0x00000000#32) reducesTo_S16x256x1024_S16x256_d2 h_S_)) (broadcastInDim S16x256x1 ![] bcast_S_S16x256x1 (constant S_ .f32 0x44800000#32))) (broadcastInDim S16x256x1 ![] bcast_S_S16x256x1 (constant S_ .f32 0x358637BD#32)))))) (broadcastInDim S16x256x1024 ![0, 1, 2] bcast_S1x1x1024_S16x256x1024_0_1_2 (broadcastInDim S1x1x1024 ![2] bcast_S1024_S1x1x1024_2 g))) (broadcastInDim S16x256x1024 ![0, 1, 2] bcast_S1x1x1024_S16x256x1024_0_1_2 (broadcastInDim S1x1x1024 ![2] bcast_S1024_S1x1x1024_2 (addf (broadcastInDim S1024 ![] bcast_S_S1024 (constant S_ .f32 0x3F800000#32)) (extractStridedSlice S1024 ![1024] (shapeCast S3072 (extractStridedSlice S1x3072 ![16, 0] mod slices_S24x3072_S1x3072_16_0) shapeCasts_S1x3072_S3072) slices_S3072_S1024_1024))))) (broadcastInDim S16x256x1024 ![0, 1, 2] bcast_S1x1x1024_S16x256x1024_0_1_2 (broadcastInDim S1x1x1024 ![2] bcast_S1024_S1x1x1024_2 (extractStridedSlice S1024 ![0] (shapeCast S3072 (extractStridedSlice S1x3072 ![16, 0] mod slices_S24x3072_S1x3072_16_0) shapeCasts_S1x3072_S3072) slices_S3072_S1024_0)))

/-- The two streams' products with the matrix, the latent rows above the context rows. -/
def product (a : FVec Ideal S16x2048x1024 .f32) (b : FVec Ideal S16x256x1024 .f32) (w : FVec Ideal S1024x10752 .f32) : FVec Ideal S16x2304x10752 .bf16 :=
  truncf .bf16 (concatenate S16x2304x10752 1 [⟨S16x2048x10752, Host.dotGeneral dot_S16x2048x1024_S1024x10752_S16x2048x10752_2_0_01_1_n_n none a w⟩,
    ⟨S16x256x10752, Host.dotGeneral dot_S16x256x1024_S1024x10752_S16x256x10752_2_0_01_1_n_n none b w⟩] concatenates_S16x2048x10752_S16x256x10752_S16x2304x10752_d1) bitsLt_bf16_f32

/-- An entry of the latent rows. -/
theorem latentRows_at (x : FVec Ideal S16x2048x1024 .f32) (mod : FVec Ideal S24x3072 .f32) (g : FVec Ideal S1024 .f32) (b : Fin 16) (r : Fin 2048) (k : Fin 1024) :
    latentRows x mod g (ix3 b r k) = modRow (fun l => x (ix3 b r l)) (fun l => g (ix1 l)) (fun l => mod (ix2 ⟨b, by omega⟩ (shiftAt l)))
      (fun l => mod (ix2 ⟨b, by omega⟩ (scaleAt l))) k := by
  pointwise [latentRows, modRow, shiftAt, scaleAt]

/-- An entry of the context rows. -/
theorem contextRows_at (cx : FVec Ideal S16x256x1024 .f32) (mod : FVec Ideal S24x3072 .f32) (g : FVec Ideal S1024 .f32) (b : Fin 16) (r : Fin 256) (k : Fin 1024) :
    contextRows cx mod g (ix3 b r k) = modRow (fun l => cx (ix3 b r l)) (fun l => g (ix1 l)) (fun l => mod (ix2 16 (shiftAt l)))
      (fun l => mod (ix2 16 (scaleAt l))) k := by
  pointwise [contextRows, modRow, shiftAt, scaleAt]

/-- An entry of the products. -/
theorem product_at (a : FVec Ideal S16x2048x1024 .f32) (b : FVec Ideal S16x256x1024 .f32) (w : FVec Ideal S1024x10752 .f32) (i : S16x2304x10752.Idx) :
    product a b w i = if h : (i 1 : ℕ) < 2048 then ∑ k : Fin 1024, a (ix3 (i 0) ⟨i 1, h⟩ k) * w (ix2 k (i 2))
      else ∑ k : Fin 1024, b (ix3 (i 0) ⟨(i 1 : ℕ) - 2048, by have := (i 1).isLt; simp at this; omega⟩ k) * w (ix2 k (i 2)) := by
  pointwise [product]

/-- THE REFERENCE'S RESULT: every modulated row times the matrix. -/
theorem result (x : FVec Ideal S16x2048x1024 .f32) (cx : FVec Ideal S16x256x1024 .f32) (mod : FVec Ideal S24x3072 .f32) (g : FVec Ideal S1024 .f32)
    (w : FVec Ideal S1024x10752 .f32) : product (latentRows x mod g) (contextRows cx mod g) w = projected x cx mod g w := by
  funext i
  have i1 : (i 1 : ℕ) < 2304 := (i 1).isLt
  rw [product_at]
  unfold projected modulated
  by_cases h : (i 1 : ℕ) < 2048
  · simp only [dif_pos h]
    exact Finset.sum_congr rfl fun k _ => congrArg (· * w (ix2 k (i 2))) (latentRows_at x mod g (i 0) ⟨(i 1 : ℕ), h⟩ k)
  · simp only [dif_neg h]
    exact Finset.sum_congr rfl fun k _ => congrArg (· * w (ix2 k (i 2))) (contextRows_at cx mod g (i 0) ⟨(i 1 : ℕ) - 2048, by omega⟩ k)

end Cert.InProjRefIdeal.Value

end
-- ==== Proof.InProjClaim.lean ====
/- The claims about the input projection: it and its reference run, keep their arguments, and
   compute one array. -/
module

public import proofs.«01_k».proof.Proof.InProjValue
public import proofs.«01_k».proof.Proof.InProjRefAt
public import proofs.«01_k».proof.Defs
public import proofs.«01_k».proof.Proof.Gen.InProj.Frame
public import Idealize.ShloMosaic.Lib.Claim
public import Idealize.ShloMosaic.Lib.Quiescent

@[expose] public section

noncomputable section

namespace Cert.Proof

open Idealize.ShloMosaic Idealize.SL.Sem

/-- The printed projection runs, keeps its arguments and ends with every counter at zero. -/
theorem frame_inproj : Cert.quiescent_InProj := fun m g _ => Cert.InProj.Gen.frame m g

/-- The idealized projection runs, keeps its arguments and ends with every counter at zero. -/
theorem frame_inprojIdeal : Cert.quiescent_InProjIdeal := fun m g _ => Cert.InProjIdeal.Gen.frame m g

/-- The reference of the projection runs, keeps its arguments and ends with every counter at zero. -/
theorem frame_inprojRef : Cert.quiescent_InProjRefIdeal := by
  intro m g _
  refine θ_run_mono (Cert.InProjRefIdeal.Value.run m g) fun r h => ⟨fun c => (h c).2, ?_⟩
  exact sem_eq_zero_of_no_sems rfl _

/-- The projection and its reference compute one array. -/
theorem algebraic_inproj : Cert.algebraic_InProjIdeal_InProjRefIdeal := by
  pair_intro
  · run_from Cert.InProjIdeal.Value.run_blocks m g
  · run_from Cert.InProjRefIdeal.Value.run m' g'
    refine (Cert.InProjRefIdeal.Value.result _ _ _ _ _).trans ?_
    refine Eq.trans ?_ (Cert.InProjIdeal.Value.final m c).symm
    exact congrArg (Cert.InProjIdeal.Value.projected _ _ _ _) (hagree c).2.2.2.2

end Cert.Proof

end
-- ==== Proof.HalfGate.lean ====
/- A gate through the hyperbolic tangent is a gate through the logistic function: one plus the tangent of half of `x` is
   twice the logistic of `x`, at every extended real; and a branch gated that way, its weights halved, is the branch. -/
module

public import Idealize.ShloMosaic.Lib.Pointwise

@[expose] public section

noncomputable section

namespace Cert.HalfGate

open Idealize.ShloMosaic

/-- The logistic function. -/
def logis (x : EReal) : EReal := Ideal.div 1 (1 + Ideal.exp (-x))

/-- Half of an entry, the half as a printed constant. -/
def half (x : EReal) : EReal := Ideal.ofBits FTy.f32 0x3F000000#32 * x

/-- The printed constant is a half. -/
theorem half_eq (x : EReal) : half x = ((1 / 2 : ℝ) : EReal) * x := by
  unfold half
  have h : Ideal.ofBits FTy.f32 0x3F000000#32 = ((1 / 2 : ℝ) : EReal) := by
    simp [Ideal.ofBits, Ideal.ieee]
    rw [← EReal.coe_mul]
    norm_num
  rw [h]

/-- A half of twice a product. -/
theorem half_mul_two (x s : EReal) : half x * (2 * s) = x * s := by
  rw [half_eq, mul_mul_mul_comm]
  have h : ((1 / 2 : ℝ) : EReal) * 2 = 1 := by
    rw [show (2 : EReal) = ((2 : ℝ) : EReal) from rfl, ← EReal.coe_mul]
    norm_num
  rw [h, one_mul]

/-- One plus the tangent of a half is twice the logistic. -/
theorem tanh_half (x : EReal) : Ideal.tanh (half x) + 1 = 2 * logis x := by
  rw [half_eq]
  unfold logis
  induction x with
  | bot =>
    rw [EReal.coe_mul_bot_of_pos (by norm_num : (0 : ℝ) < 1 / 2)]
    have h0 : Ideal.exp (-⊥) = ⊤ := rfl
    have h1 : (1 : EReal) + ⊤ = ⊤ := rfl
    rw [h0, h1]
    have h2 : Ideal.tanh ⊥ + 1 = 0 := by
      show (-1 : EReal) + 1 = 0
      rw [show (-1 : EReal) = ((-1 : ℝ) : EReal) from rfl, ← EReal.coe_one, ← EReal.coe_add]
      norm_num
    rw [h2]
    simp [Ideal.div]
  | top =>
    rw [EReal.coe_mul_top_of_pos (by norm_num : (0 : ℝ) < 1 / 2)]
    have h0 : Ideal.exp (-⊤) = 0 := rfl
    rw [h0, add_zero]
    have h2 : Ideal.tanh ⊤ + 1 = 2 := by
      show (1 : EReal) + 1 = 2
      norm_num
    rw [h2]
    simp [Ideal.div]
  | coe r =>
    rw [← EReal.coe_mul]
    have h0 : Ideal.exp (-(r : EReal)) = ((Real.exp (-r) : ℝ) : EReal) := rfl
    have h1 : Ideal.tanh (((1 / 2 * r : ℝ)) : EReal) = ((Real.tanh (1 / 2 * r) : ℝ) : EReal) := rfl
    rw [h0, h1]
    have hp : (0 : ℝ) < 1 + Real.exp (-r) := by positivity
    have hd : Ideal.div 1 (1 + ((Real.exp (-r) : ℝ) : EReal)) = (((1 + Real.exp (-r))⁻¹ : ℝ) : EReal) := by
      rw [← EReal.coe_one, ← EReal.coe_add]
      unfold Ideal.div
      rw [if_neg (by exact_mod_cast hp.ne'), EReal.coe_one, one_mul, ← EReal.coe_inv]
    rw [hd, show (2 : EReal) = ((2 : ℝ) : EReal) from rfl, ← EReal.coe_mul, ← EReal.coe_one, ← EReal.coe_add]
    congr 1
    rw [Real.tanh_eq_sinh_div_cosh, Real.sinh_eq, Real.cosh_eq]
    have e : Real.exp (-r) = Real.exp (-(1 / 2 * r)) * Real.exp (-(1 / 2 * r)) := by rw [← Real.exp_add]; congr 1; ring
    have e1 : Real.exp (1 / 2 * r) * Real.exp (-(1 / 2 * r)) = 1 := by rw [← Real.exp_add]; simp
    have pa : 0 < Real.exp (1 / 2 * r) := Real.exp_pos _
    have pb : 0 < Real.exp (-(1 / 2 * r)) := Real.exp_pos _
    rw [e]
    generalize Real.exp (1 / 2 * r) = a at *
    generalize Real.exp (-(1 / 2 * r)) = b at *
    have hs : a + b ≠ 0 := by positivity
    have hq : 1 + b * b ≠ 0 := by positivity
    field_simp
    linear_combination (2 * b) * e1

/-- Halves come out of a sum. -/
theorem sum_half {n : ℕ} (t w : Fin n → EReal) : ∑ l, t l * half (w l) = half (∑ l, t l * w l) := by
  have h : ∀ s : Finset (Fin n), ∑ l ∈ s, t l * half (w l) = half (∑ l ∈ s, t l * w l) := by
    intro s
    induction s using Finset.induction_on with
    | empty => simp [half_eq]
    | insert a s ha ih =>
      rw [Finset.sum_insert ha, Finset.sum_insert ha, ih]
      simp only [half_eq]
      rw [EReal.left_distrib_of_nonneg_of_ne_top (by exact_mod_cast (by norm_num : (0 : ℝ) ≤ 1 / 2)) (EReal.coe_ne_top _), mul_left_comm]
  exact h _

/-- A branch: the rows `y`, gated by `z` times its logistic, times the weights, times the logistic of the branch's gate. -/
def branch (y z w : Fin 512 → EReal) (g : EReal) : EReal := logis g * ∑ l, y l * (z l * logis (z l)) * w l

/-- A branch through the tangent. -/
def tanhBranch (y z w : Fin 512 → EReal) (g : EReal) : EReal :=
  (∑ l, y l * (z l * (Ideal.tanh (z l) + 1)) * w l) * (Ideal.tanh g + 1)

/-- At halved gates and weights the two are one. -/
theorem tanhBranch_half (y z w : Fin 512 → EReal) (g : EReal) :
    tanhBranch y (fun l => half (z l)) (fun l => half (w l)) (half g) = branch y z w g := by
  unfold tanhBranch branch
  simp only [tanh_half, half_mul_two]
  rw [sum_half, half_mul_two, mul_comm]

end Cert.HalfGate

end
-- ==== Proof.MergeSpec.lean ====
/- The merge of the branches as a formula: the four gated branches summed, projected, normed and added to the stream. -/
module

public import proofs.«01_k».proof.Proof.HalfGate
public import proofs.«01_k».proof.Proof.Gen.MergeIdeal.Value
public import Idealize.ShloMosaic.Lib.Pipeline.ValueKit
public import Idealize.ShloMosaic.Lib.Pointwise
public import Idealize.ShloMosaic.Lib.Claim

@[expose] public section

set_option maxRecDepth 16384

noncomputable section

namespace Cert.MergeIdeal.Value

open Cert.MergeIdeal Cert.MergeIdeal.Gen Idealize.ShloMosaic Idealize.ShloMosaic.TcCoe Idealize.SL.Sem
open Cert.HalfGate

/-- Entry `k` of a row after the norm: the row over the root of its mean square (the mean over 1024 entries, a small
    constant added), times the norm's weight. -/
def normRow (o g : Fin 1024 → EReal) (k : Fin 1024) : EReal :=
  o k * Ideal.rsqrt (Ideal.div (∑ l, o l * o l) (Ideal.ofBits FTy.f32 1149239296#32) + Ideal.ofBits FTy.f32 897988541#32) * g k

/-- Entry `k` of the gate in a row of 3072 modulation entries. -/
def gateAt (k : Fin 1024) : Fin 3072 := ⟨2048 + (k : ℕ), by omega⟩

/-- Entry `n` of branch `i`'s gate among the projection's columns. -/
def mixAt (i : Fin 4) (n : Fin 1024) : Fin 10752 := ⟨(i : ℕ) * 1024 + n, by omega⟩

/-- Entry `l` of the first branch's gate among the projection's columns. -/
def zaAt (l : Fin 512) : Fin 10752 := ⟨4608 + (l : ℕ), by omega⟩

/-- Entry `l` of the second branch's gate among the projection's columns. -/
def zbAt (l : Fin 512) : Fin 10752 := ⟨6656 + (l : ℕ), by omega⟩

/-- Entry `l` of the third branch's gate among the projection's columns. -/
def zhAt (l : Fin 512) : Fin 10752 := ⟨8704 + (l : ℕ), by omega⟩

/-- Entry `l` of the fourth branch's gate among the projection's columns. -/
def zgAt (l : Fin 512) : Fin 10752 := ⟨10240 + (l : ℕ), by omega⟩

/-- A latent row's place among all rows. -/
def latent (r : Fin 2048) : Fin 2304 := ⟨(r : ℕ), by omega⟩

/-- The sum of a latent row's four branches. -/
def mixed (p : FVec Ideal S16x2304x10752 .f32) (ya yb : FVec Ideal S16x2304x512 .f32) (yh : FVec Ideal S16x2048x512 .f32)
    (yg : FVec Ideal S16x2304x512 .f32) (wb : FVec Ideal S4x512x1024 .f32) (b : Fin 16) (r : Fin 2048) (n : Fin 1024) : EReal :=
  branch (fun l => ya (ix3 b (latent r) l)) (fun l => p (ix3 b (latent r) (zaAt l))) (fun l => wb (ix3 0 l n)) (p (ix3 b (latent r) (mixAt 0 n)))
    + branch (fun l => yb (ix3 b (latent r) l)) (fun l => p (ix3 b (latent r) (zbAt l))) (fun l => wb (ix3 1 l n)) (p (ix3 b (latent r) (mixAt 1 n)))
    + branch (fun l => yh (ix3 b r l)) (fun l => p (ix3 b (latent r) (zhAt l))) (fun l => wb (ix3 2 l n)) (p (ix3 b (latent r) (mixAt 2 n)))
    + branch (fun l => yg (ix3 b (latent r) l)) (fun l => p (ix3 b (latent r) (zgAt l))) (fun l => wb (ix3 3 l n)) (p (ix3 b (latent r) (mixAt 3 n)))

/-- The merge: the sum of the branches projected, normed, times the gate of the batch, added to the stream. -/
def merged (x : FVec Ideal S16x2048x1024 .f32) (p : FVec Ideal S16x2304x10752 .f32) (ya yb : FVec Ideal S16x2304x512 .f32)
    (yh : FVec Ideal S16x2048x512 .f32) (yg : FVec Ideal S16x2304x512 .f32) (mod : FVec Ideal S24x3072 .f32) (g : FVec Ideal S1024 .f32)
    (wb : FVec Ideal S4x512x1024 .f32) (wo : FVec Ideal S1024x1024 .f32) : FVec Ideal S16x2048x1024 .f32 :=
  fun i => x i + mod (ix2 ⟨(i 0 : ℕ), lt_of_lt_of_le (i 0).isLt (by decide)⟩ (gateAt (i 2)))
    * normRow (fun k => ∑ n : Fin 1024, mixed p ya yb yh yg wb (i 0) (i 1) n * wo (ix2 n k)) (fun l => g (ix1 l)) (i 2)

end Cert.MergeIdeal.Value

end
-- ==== Proof.MergeValue.lean ====
/- The array the merge call leaves: the branches of every latent row summed, projected, normed, gated and added to the stream. -/
module

public import proofs.«01_k».proof.Proof.MergePoint

@[expose] public section

set_option maxRecDepth 16384

noncomputable section

namespace Cert.MergeIdeal.Value

open Cert.MergeIdeal Cert.MergeIdeal.Gen Idealize.ShloMosaic Idealize.ShloMosaic.TcCoe Idealize.SL.Sem
open Idealize.ShloMosaic.Pipeline (Dat)
open Cert.HalfGate

variable (m : (ℓ : Loc nD τ sig) → Buf (Elt Ideal) ℓ)

/-- The stream, as given. -/
abbrev ax (c : Dev nD) : FVec Ideal S16x2048x1024 .f32 := m ((c : Thread nD τ).loc main_arg0)

/-- The projection, as given. -/
abbrev ap (c : Dev nD) : FVec Ideal S16x2304x10752 .f32 := m ((c : Thread nD τ).loc main_arg1)

/-- The first branch's output, as given. -/
abbrev aya (c : Dev nD) : FVec Ideal S16x2304x512 .f32 := m ((c : Thread nD τ).loc main_arg2)

/-- The second branch's output, as given. -/
abbrev ayb (c : Dev nD) : FVec Ideal S16x2304x512 .f32 := m ((c : Thread nD τ).loc main_arg3)

/-- The third branch's output, as given. -/
abbrev ayh (c : Dev nD) : FVec Ideal S16x2048x512 .f32 := m ((c : Thread nD τ).loc main_arg4)

/-- The fourth branch's output, as given. -/
abbrev ayg (c : Dev nD) : FVec Ideal S16x2304x512 .f32 := m ((c : Thread nD τ).loc main_arg5)

/-- The modulation, as given. -/
abbrev amod (c : Dev nD) : FVec Ideal S24x3072 .f32 := m ((c : Thread nD τ).loc main_arg6)

/-- The norm's weight, as given. -/
abbrev ag (c : Dev nD) : FVec Ideal S1024 .f32 := m ((c : Thread nD τ).loc main_arg7)

/-- The branches' weights, as given. -/
abbrev awb (c : Dev nD) : FVec Ideal S4x512x1024 .f32 := m ((c : Thread nD τ).loc main_arg8)

/-- The output matrix, as given. -/
abbrev awo (c : Dev nD) : FVec Ideal S1024x1024 .f32 := m ((c : Thread nD τ).loc main_arg9)

/-- The projection as the call reads it: halved. -/
abbrev pE (c : Dev nD) : FVec Ideal S16x2304x10752 .bf16 := V m c main_v2

/-- The first branch's output as the call reads it. -/
abbrev yaE (c : Dev nD) : FVec Ideal S16x2304x512 .bf16 := V m c main_v3

/-- The second branch's output as the call reads it. -/
abbrev ybE (c : Dev nD) : FVec Ideal S16x2304x512 .bf16 := V m c main_v4

/-- The third branch's output as the call reads it. -/
abbrev yhE (c : Dev nD) : FVec Ideal S16x2048x512 .bf16 := V m c main_v5

/-- The fourth branch's output as the call reads it. -/
abbrev ygE (c : Dev nD) : FVec Ideal S16x2304x512 .bf16 := V m c main_v6

/-- The modulation as the call reads it: each row under an axis of one. -/
abbrev modE (c : Dev nD) : FVec Ideal S24x1x3072 .f32 := V m c main_v7

/-- The norm's weight as the call reads it. -/
abbrev gE (c : Dev nD) : FVec Ideal S1x1024 .f32 := V m c main_v12

/-- The branches' weights as the call reads them: halved. -/
abbrev wbE (c : Dev nD) : FVec Ideal S4x512x1024 .bf16 := V m c main_v10

/-- The output matrix as the call reads it. -/
abbrev woE (c : Dev nD) : FVec Ideal S1024x1024 .bf16 := V m c main_v11

/-- An entry of it: the projection as the call reads it: halved. -/
theorem pE_at (c : Dev nD) (i : S16x2304x10752.Idx) : pE m c i = half (ap m c i) := by
  unfold pE
  entry_read
  pointwise [half]

/-- An entry of it: the first branch's output as the call reads it. -/
theorem yaE_at (c : Dev nD) (i : S16x2304x512.Idx) : yaE m c i = aya m c i := by
  unfold yaE
  entry_read
  pointwise

/-- An entry of it: the second branch's output as the call reads it. -/
theorem ybE_at (c : Dev nD) (i : S16x2304x512.Idx) : ybE m c i = ayb m c i := by
  unfold ybE
  entry_read
  pointwise

/-- An entry of it: the third branch's output as the call reads it. -/
theorem yhE_at (c : Dev nD) (i : S16x2048x512.Idx) : yhE m c i = ayh m c i := by
  unfold yhE
  entry_read
  pointwise

/-- An entry of it: the fourth branch's output as the call reads it. -/
theorem ygE_at (c : Dev nD) (i : S16x2304x512.Idx) : ygE m c i = ayg m c i := by
  unfold ygE
  entry_read
  pointwise

/-- An entry of it: the modulation as the call reads it: each row under an axis of one. -/
theorem modE_at (c : Dev nD) (r : Fin 24) (l : Fin 3072) : modE m c (ix3 r 0 l) = amod m c (ix2 r l) := by
  unfold modE
  entry_read
  pointwise

/-- An entry of it: the norm's weight as the call reads it. -/
theorem gE_at (c : Dev nD) (l : Fin 1024) : gE m c (ix2 0 l) = ag m c (ix1 l) := by
  unfold gE
  entry_read
  pointwise

/-- An entry of it: the branches' weights as the call reads them: halved. -/
theorem wbE_at (c : Dev nD) (i : S4x512x1024.Idx) : wbE m c i = half (awb m c i) := by
  unfold wbE
  entry_read
  pointwise [half]

/-- An entry of it: the output matrix as the call reads it. -/
theorem woE_at (c : Dev nD) (i : S1024x1024.Idx) : woE m c i = awo m c i := by
  unfold woE
  entry_read
  pointwise

/-- The blocks of grid point `t`: the windows' block indices. -/
theorem idx_val : ∀ t : Fin cfg0.N, win0_0.index t = ![t.val / 8, t.val % 8, 0]
    ∧ win0_1.index t = ![t.val / 8, t.val % 8, 0]
    ∧ win0_2.index t = ![t.val / 8, t.val % 8, 0]
    ∧ win0_3.index t = ![t.val / 8, t.val % 8, 0]
    ∧ win0_4.index t = ![t.val / 8, t.val % 8, 9]
    ∧ win0_5.index t = ![t.val / 8, t.val % 8, 13]
    ∧ win0_6.index t = ![t.val / 8, t.val % 8, 17]
    ∧ win0_7.index t = ![t.val / 8, t.val % 8, 20]
    ∧ win0_8.index t = ![t.val / 8, t.val % 8, 0]
    ∧ win0_9.index t = ![t.val / 8, t.val % 8, 0]
    ∧ win0_10.index t = ![t.val / 8, 0, 0]
    ∧ win0_11.index t = ![0, 0]
    ∧ win0_12.index t = ![0, 0, 0]
    ∧ win0_13.index t = ![0, 0]
    ∧ win0_14.index t = ![t.val / 8, t.val % 8, 0] :=
  (by decide +kernel : ∀ t : Fin grid0.N, _)

/-- The first branch's output at a point. -/
abbrev yaB (c : Dev nD) (t : Fin cfg0.N) : FVec Ideal S1x256x512 .bf16 := iblk m c 0 t

/-- Where its entries sit: the first branch's output at a point. -/
theorem emb0 (t : Fin cfg0.N) (r : Fin 256) (l : Fin 512) (b : Fin 16) (hb : (b : ℕ) = t.val / 8) (R : Fin 2304) (hR : (R : ℕ) = t.val % 8 * 256 + r) :
    ((cfg0.win 0).blk t).view.emb (ix3 0 r l) = (ix3 b R l) := by
  blk_ext [idx_val t]

/-- An entry of it: the first branch's output at a point. -/
theorem yaB_at (c : Dev nD) (t : Fin cfg0.N) (r : Fin 256) (l : Fin 512) (b : Fin 16) (hb : (b : ℕ) = t.val / 8) (R : Fin 2304) (hR : (R : ℕ) = t.val % 8 * 256 + r) :
    yaB m c t (ix3 0 r l) = yaE m c (ix3 b R l) := by
  unfold yaB yaE iblk
  rw [View.read, emb0 t r l b hb R hR]
  generalize V m c = A
  exact cast_eq _ _

/-- The second branch's output at a point. -/
abbrev ybB (c : Dev nD) (t : Fin cfg0.N) : FVec Ideal S1x256x512 .bf16 := iblk m c 1 t

/-- Where its entries sit: the second branch's output at a point. -/
theorem emb1 (t : Fin cfg0.N) (r : Fin 256) (l : Fin 512) (b : Fin 16) (hb : (b : ℕ) = t.val / 8) (R : Fin 2304) (hR : (R : ℕ) = t.val % 8 * 256 + r) :
    ((cfg0.win 1).blk t).view.emb (ix3 0 r l) = (ix3 b R l) := by
  blk_ext [idx_val t]

/-- An entry of it: the second branch's output at a point. -/
theorem ybB_at (c : Dev nD) (t : Fin cfg0.N) (r : Fin 256) (l : Fin 512) (b : Fin 16) (hb : (b : ℕ) = t.val / 8) (R : Fin 2304) (hR : (R : ℕ) = t.val % 8 * 256 + r) :
    ybB m c t (ix3 0 r l) = ybE m c (ix3 b R l) := by
  unfold ybB ybE iblk
  rw [View.read, emb1 t r l b hb R hR]
  generalize V m c = A
  exact cast_eq _ _

/-- The third branch's output at a point. -/
abbrev yhB (c : Dev nD) (t : Fin cfg0.N) : FVec Ideal S1x256x512 .bf16 := iblk m c 2 t

/-- Where its entries sit: the third branch's output at a point. -/
theorem emb2 (t : Fin cfg0.N) (r : Fin 256) (l : Fin 512) (b : Fin 16) (hb : (b : ℕ) = t.val / 8) (R : Fin 2048) (hR : (R : ℕ) = t.val % 8 * 256 + r) :
    ((cfg0.win 2).blk t).view.emb (ix3 0 r l) = (ix3 b R l) := by
  blk_ext [idx_val t]

/-- An entry of it: the third branch's output at a point. -/
theorem yhB_at (c : Dev nD) (t : Fin cfg0.N) (r : Fin 256) (l : Fin 512) (b : Fin 16) (hb : (b : ℕ) = t.val / 8) (R : Fin 2048) (hR : (R : ℕ) = t.val % 8 * 256 + r) :
    yhB m c t (ix3 0 r l) = yhE m c (ix3 b R l) := by
  unfold yhB yhE iblk
  rw [View.read, emb2 t r l b hb R hR]
  generalize V m c = A
  exact cast_eq _ _

/-- The fourth branch's output at a point. -/
abbrev ygB (c : Dev nD) (t : Fin cfg0.N) : FVec Ideal S1x256x512 .bf16 := iblk m c 3 t

/-- Where its entries sit: the fourth branch's output at a point. -/
theorem emb3 (t : Fin cfg0.N) (r : Fin 256) (l : Fin 512) (b : Fin 16) (hb : (b : ℕ) = t.val / 8) (R : Fin 2304) (hR : (R : ℕ) = t.val % 8 * 256 + r) :
    ((cfg0.win 3).blk t).view.emb (ix3 0 r l) = (ix3 b R l) := by
  blk_ext [idx_val t]

/-- An entry of it: the fourth branch's output at a point. -/
theorem ygB_at (c : Dev nD) (t : Fin cfg0.N) (r : Fin 256) (l : Fin 512) (b : Fin 16) (hb : (b : ℕ) = t.val / 8) (R : Fin 2304) (hR : (R : ℕ) = t.val % 8 * 256 + r) :
    ygB m c t (ix3 0 r l) = ygE m c (ix3 b R l) := by
  unfold ygB ygE iblk
  rw [View.read, emb3 t r l b hb R hR]
  generalize V m c = A
  exact cast_eq _ _

/-- The first branch's gate at a point. -/
abbrev zaB (c : Dev nD) (t : Fin cfg0.N) : FVec Ideal S1x256x512 .bf16 := iblk m c 4 t

/-- Where its entries sit: the first branch's gate at a point. -/
theorem emb4 (t : Fin cfg0.N) (r : Fin 256) (l : Fin 512) (b : Fin 16) (hb : (b : ℕ) = t.val / 8) (R : Fin 2304) (hR : (R : ℕ) = t.val % 8 * 256 + r) :
    ((cfg0.win 4).blk t).view.emb (ix3 0 r l) = (ix3 b R (zaAt l)) := by
  unfold zaAt
  blk_ext [idx_val t]

/-- An entry of it: the first branch's gate at a point. -/
theorem zaB_at (c : Dev nD) (t : Fin cfg0.N) (r : Fin 256) (l : Fin 512) (b : Fin 16) (hb : (b : ℕ) = t.val / 8) (R : Fin 2304) (hR : (R : ℕ) = t.val % 8 * 256 + r) :
    zaB m c t (ix3 0 r l) = pE m c (ix3 b R (zaAt l)) := by
  unfold zaB pE iblk
  rw [View.read, emb4 t r l b hb R hR]
  generalize V m c = A
  exact cast_eq _ _

/-- The second branch's gate at a point. -/
abbrev zbB (c : Dev nD) (t : Fin cfg0.N) : FVec Ideal S1x256x512 .bf16 := iblk m c 5 t

/-- Where its entries sit: the second branch's gate at a point. -/
theorem emb5 (t : Fin cfg0.N) (r : Fin 256) (l : Fin 512) (b : Fin 16) (hb : (b : ℕ) = t.val / 8) (R : Fin 2304) (hR : (R : ℕ) = t.val % 8 * 256 + r) :
    ((cfg0.win 5).blk t).view.emb (ix3 0 r l) = (ix3 b R (zbAt l)) := by
  unfold zbAt
  blk_ext [idx_val t]

/-- An entry of it: the second branch's gate at a point. -/
theorem zbB_at (c : Dev nD) (t : Fin cfg0.N) (r : Fin 256) (l : Fin 512) (b : Fin 16) (hb : (b : ℕ) = t.val / 8) (R : Fin 2304) (hR : (R : ℕ) = t.val % 8 * 256 + r) :
    zbB m c t (ix3 0 r l) = pE m c (ix3 b R (zbAt l)) := by
  unfold zbB pE iblk
  rw [View.read, emb5 t r l b hb R hR]
  generalize V m c = A
  exact cast_eq _ _

/-- The third branch's gate at a point. -/
abbrev zhB (c : Dev nD) (t : Fin cfg0.N) : FVec Ideal S1x256x512 .bf16 := iblk m c 6 t

/-- Where its entries sit: the third branch's gate at a point. -/
theorem emb6 (t : Fin cfg0.N) (r : Fin 256) (l : Fin 512) (b : Fin 16) (hb : (b : ℕ) = t.val / 8) (R : Fin 2304) (hR : (R : ℕ) = t.val % 8 * 256 + r) :
    ((cfg0.win 6).blk t).view.emb (ix3 0 r l) = (ix3 b R (zhAt l)) := by
  unfold zhAt
  blk_ext [idx_val t]

/-- An entry of it: the third branch's gate at a point. -/
theorem zhB_at (c : Dev nD) (t : Fin cfg0.N) (r : Fin 256) (l : Fin 512) (b : Fin 16) (hb : (b : ℕ) = t.val / 8) (R : Fin 2304) (hR : (R : ℕ) = t.val % 8 * 256 + r) :
    zhB m c t (ix3 0 r l) = pE m c (ix3 b R (zhAt l)) := by
  unfold zhB pE iblk
  rw [View.read, emb6 t r l b hb R hR]
  generalize V m c = A
  exact cast_eq _ _

/-- The fourth branch's gate at a point. -/
abbrev zgB (c : Dev nD) (t : Fin cfg0.N) : FVec Ideal S1x256x512 .bf16 := iblk m c 7 t

/-- Where its entries sit: the fourth branch's gate at a point. -/
theorem emb7 (t : Fin cfg0.N) (r : Fin 256) (l : Fin 512) (b : Fin 16) (hb : (b : ℕ) = t.val / 8) (R : Fin 2304) (hR : (R : ℕ) = t.val % 8 * 256 + r) :
    ((cfg0.win 7).blk t).view.emb (ix3 0 r l) = (ix3 b R (zgAt l)) := by
  unfold zgAt
  blk_ext [idx_val t]

/-- An entry of it: the fourth branch's gate at a point. -/
theorem zgB_at (c : Dev nD) (t : Fin cfg0.N) (r : Fin 256) (l : Fin 512) (b : Fin 16) (hb : (b : ℕ) = t.val / 8) (R : Fin 2304) (hR : (R : ℕ) = t.val % 8 * 256 + r) :
    zgB m c t (ix3 0 r l) = pE m c (ix3 b R (zgAt l)) := by
  unfold zgB pE iblk
  rw [View.read, emb7 t r l b hb R hR]
  generalize V m c = A
  exact cast_eq _ _

/-- The rows of the stream at a point. -/
abbrev xB (c : Dev nD) (t : Fin cfg0.N) : FVec Ideal S1x256x1024 .f32 := iblk m c 9 t

/-- Where its entries sit: the rows of the stream at a point. -/
theorem emb9 (t : Fin cfg0.N) (r : Fin 256) (l : Fin 1024) (b : Fin 16) (hb : (b : ℕ) = t.val / 8) (R : Fin 2048) (hR : (R : ℕ) = t.val % 8 * 256 + r) :
    ((cfg0.win 9).blk t).view.emb (ix3 0 r l) = (ix3 b R l) := by
  blk_ext [idx_val t]

/-- An entry of it: the rows of the stream at a point. -/
theorem xB_at (c : Dev nD) (t : Fin cfg0.N) (r : Fin 256) (l : Fin 1024) (b : Fin 16) (hb : (b : ℕ) = t.val / 8) (R : Fin 2048) (hR : (R : ℕ) = t.val % 8 * 256 + r) :
    xB m c t (ix3 0 r l) = ax m c (ix3 b R l) := by
  unfold xB ax iblk
  rw [View.read, emb9 t r l b hb R hR, show V m c (Pipeline.arrRef spec0 9) = m ((c : Thread nD τ).loc main_arg0) from V_main_arg0 m c]
  exact cast_eq _ _

/-- The modulation at a point. -/
abbrev modB (c : Dev nD) (t : Fin cfg0.N) : FVec Ideal S1x1x3072 .f32 := iblk m c 10 t

/-- Where its entries sit: the modulation at a point. -/
theorem emb10 (t : Fin cfg0.N) (l : Fin 3072) (b : Fin 24) (hb : (b : ℕ) = t.val / 8) :
    ((cfg0.win 10).blk t).view.emb (ix3 0 0 l) = (ix3 b 0 l) := by
  blk_ext [idx_val t]

/-- An entry of it: the modulation at a point. -/
theorem modB_at (c : Dev nD) (t : Fin cfg0.N) (l : Fin 3072) (b : Fin 24) (hb : (b : ℕ) = t.val / 8) :
    modB m c t (ix3 0 0 l) = modE m c (ix3 b 0 l) := by
  unfold modB modE iblk
  rw [View.read, emb10 t l b hb]
  generalize V m c = A
  exact cast_eq _ _

/-- The norm's weight at a point. -/
abbrev gB (c : Dev nD) (t : Fin cfg0.N) : FVec Ideal S1x1024 .f32 := iblk m c 11 t

/-- Where its entries sit: the norm's weight at a point. -/
theorem emb11 (t : Fin cfg0.N) (l : Fin 1024) :
    ((cfg0.win 11).blk t).view.emb (ix2 0 l) = (ix2 0 l) := by
  blk_ext [idx_val t]

/-- An entry of it: the norm's weight at a point. -/
theorem gB_at (c : Dev nD) (t : Fin cfg0.N) (l : Fin 1024) :
    gB m c t (ix2 0 l) = gE m c (ix2 0 l) := by
  unfold gB gE iblk
  rw [View.read, emb11 t l]
  generalize V m c = A
  exact cast_eq _ _

/-- The branches' weights at a point. -/
abbrev wbB (c : Dev nD) (t : Fin cfg0.N) : FVec Ideal S4x512x1024 .bf16 := iblk m c 12 t

/-- Where its entries sit: the branches' weights at a point. -/
theorem emb12 (t : Fin cfg0.N) (i : Fin 4) (l : Fin 512) (n : Fin 1024) :
    ((cfg0.win 12).blk t).view.emb (ix3 i l n) = (ix3 i l n) := by
  blk_ext [idx_val t]

/-- An entry of it: the branches' weights at a point. -/
theorem wbB_at (c : Dev nD) (t : Fin cfg0.N) (i : Fin 4) (l : Fin 512) (n : Fin 1024) :
    wbB m c t (ix3 i l n) = wbE m c (ix3 i l n) := by
  unfold wbB wbE iblk
  rw [View.read, emb12 t i l n]
  generalize V m c = A
  exact cast_eq _ _

/-- The output matrix at a point. -/
abbrev woB (c : Dev nD) (t : Fin cfg0.N) : FVec Ideal S1024x1024 .bf16 := iblk m c 13 t

/-- Where its entries sit: the output matrix at a point. -/
theorem emb13 (t : Fin cfg0.N) (n k : Fin 1024) :
    ((cfg0.win 13).blk t).view.emb (ix2 n k) = (ix2 n k) := by
  blk_ext [idx_val t]

/-- An entry of it: the output matrix at a point. -/
theorem woB_at (c : Dev nD) (t : Fin cfg0.N) (n k : Fin 1024) :
    woB m c t (ix2 n k) = woE m c (ix2 n k) := by
  unfold woB woE iblk
  rw [View.read, emb13 t n k]
  generalize V m c = A
  exact cast_eq _ _

/-- Where the mixing gates' entries sit. -/
theorem emb8 (t : Fin cfg0.N) (j : ((cfg0.win 8).xblock (cfg0.grid.coords t)).Idx) (b : Fin 16) (hb : (b : ℕ) = t.val / 8) (R : Fin 2304)
    (hR : (R : ℕ) = t.val % 8 * 256 + (j 1).val) (n : Fin 10752) (hn : (n : ℕ) = (j 2).val) (h0 : (j 0).val = 0) :
    ((cfg0.win 8).blk t).view.emb j = ix3 b R n := by
  blk_ext [idx_val t]

/-- The mixing gates at a point. -/
abbrev qB (c : Dev nD) (t : Fin cfg0.N) : FVec Ideal S1x256x4096 .bf16 := X0_8 m c t

/-- An entry of the mixing gates at a point. -/
theorem qB_at (c : Dev nD) (t : Fin cfg0.N) (r : Fin 256) (i : Fin 4) (n : Fin 1024) (b : Fin 16) (hb : (b : ℕ) = t.val / 8) (R : Fin 2304)
    (hR : (R : ℕ) = t.val % 8 * 256 + r) : qB m c t (ix3 0 r (colAt i n)) = pE m c (ix3 b R (mixAt i n)) := by
  unfold qB pE X0_8 Pipeline.Window.fill
  rw [dif_pos (moved0_8 t _)]
  unfold iblk
  rw [View.read, emb8 t _ b hb R hR (mixAt i n) rfl rfl]
  generalize V m c = A
  exact cast_eq _ _

/-- The sum of the branches from a point's blocks is that of the point's batch and row. -/
theorem rowMix_at (c : Dev nD) (t : Fin cfg0.N) (b : Fin 16) (hb : (b : ℕ) = t.val / 8) (r : Fin 256) (R : Fin 2048)
    (hR : (R : ℕ) = t.val % 8 * 256 + r) (n : Fin 1024) :
    rowMix (yaB m c t) (ybB m c t) (yhB m c t) (ygB m c t) (zaB m c t) (zbB m c t) (zhB m c t) (zgB m c t) (qB m c t) (wbB m c t) r n
      = mixed (ap m c) (aya m c) (ayb m c) (ayh m c) (ayg m c) (awb m c) b R n := by
  unfold rowMix mixed
  have e : ∀ i l, wbB m c t (ix3 i l n) = half (awb m c (ix3 i l n)) := fun i l => (wbB_at m c t i l n).trans (wbE_at m c _)
  have q : ∀ i, qB m c t (ix3 0 r (colAt i n)) = half (ap m c (ix3 b (latent R) (mixAt i n))) := fun i =>
    (qB_at m c t r i n b hb (latent R) hR).trans (pE_at m c _)
  rw [q 0, q 1, q 2, q 3, funext (e 0), funext (e 1), funext (e 2), funext (e 3),
    funext fun l => (zaB_at m c t r l b hb (latent R) hR).trans (pE_at m c _), funext fun l => (zbB_at m c t r l b hb (latent R) hR).trans (pE_at m c _),
    funext fun l => (zhB_at m c t r l b hb (latent R) hR).trans (pE_at m c _), funext fun l => (zgB_at m c t r l b hb (latent R) hR).trans (pE_at m c _),
    funext fun l => (yaB_at m c t r l b hb (latent R) hR).trans (yaE_at m c _), funext fun l => (ybB_at m c t r l b hb (latent R) hR).trans (ybE_at m c _),
    funext fun l => (yhB_at m c t r l b hb R hR).trans (yhE_at m c _), funext fun l => (ygB_at m c t r l b hb (latent R) hR).trans (ygE_at m c _)]
  refine congrArg₂ (· + ·) (congrArg₂ (· + ·) (congrArg₂ (· + ·) ?_ ?_) ?_) ?_
  all_goals exact tanhBranch_half _ _ _ _

/-- What point `t` leaves in its block is the merge at the place the block has in the array. -/
theorem point (c : Dev nD) (t : Fin cfg0.N) (y : S1x256x1024.Idx) (b : Fin 16) (hb : (b : ℕ) = t.val / 8) (R : Fin 2048)
    (hR : (R : ℕ) = t.val % 8 * 256 + y 1) :
    outsAt0 m c t y = ax m c (ix3 b R (y 2)) + amod m c (ix2 ⟨(b : ℕ), lt_of_lt_of_le b.isLt (by decide)⟩ (gateAt (y 2)))
      * normRow (fun k => ∑ n : Fin 1024, mixed (ap m c) (aya m c) (ayb m c) (ayh m c) (ayg m c) (awb m c) b R n * awo m c (ix2 n k))
        (fun l => ag m c (ix1 l)) (y 2) := by
  unfold outsAt0
  refine (block_A c _ _ _ _ _ _ _ _ _ _ _ _ _ _ _ _ _ _ _ _ _ _ _ _ _ _ _ _ _ _ _ (yaB m c t) (ybB m c t) (yhB m c t) (ygB m c t) (zaB m c t) (zbB m c t)
    (zhB m c t) (zgB m c t) (qB m c t) (xB m c t) (modB m c t) (gB m c t) (wbB m c t) (woB m c t) y).trans ?_
  refine congrArg₂ (· + ·) (xB_at m c t (y 1) (y 2) b hb R hR) (congrArg₂ (· * ·) ((modB_at m c t _ ⟨(b : ℕ), lt_of_lt_of_le b.isLt (by decide)⟩ hb).trans (modE_at m c _ _)) ?_)
  refine congrArg₂ (fun o g => normRow o g (y 2)) (funext fun k => Finset.sum_congr rfl fun n _ => congrArg₂ (· * ·) (rowMix_at m c t b hb (y 1) R hR n) ?_) (funext fun l => ?_)
  · exact (woB_at m c t n k).trans (woE_at m c _)
  · exact (gB_at m c t l).trans (gE_at m c l)

/-- The merge at an index whose coordinates are known. -/
theorem merged_at (x : FVec Ideal S16x2048x1024 .f32) (p : FVec Ideal S16x2304x10752 .f32) (ya yb : FVec Ideal S16x2304x512 .f32)
    (yh : FVec Ideal S16x2048x512 .f32) (yg : FVec Ideal S16x2304x512 .f32) (mod : FVec Ideal S24x3072 .f32) (g : FVec Ideal S1024 .f32)
    (wb : FVec Ideal S4x512x1024 .f32) (wo : FVec Ideal S1024x1024 .f32) (i : S16x2048x1024.Idx) (b : Fin 16) (R : Fin 2048) (k : Fin 1024)
    (hb : (i 0 : ℕ) = b) (hR : (i 1 : ℕ) = R) (hk : (i 2 : ℕ) = k) :
    merged x p ya yb yh yg mod g wb wo i = x (ix3 b R k) + mod (ix2 ⟨(b : ℕ), lt_of_lt_of_le b.isLt (by decide)⟩ (gateAt k))
      * normRow (fun k => ∑ n : Fin 1024, mixed p ya yb yh yg wb b R n * wo (ix2 n k)) (fun l => g (ix1 l)) k := by
  obtain rfl : i = ix3 b R k := by
    funext a
    match a with
    | 0 => exact Fin.ext hb
    | 1 => exact Fin.ext hR
    | 2 => exact Fin.ext hk
  rfl

/-- THE RESULT ARRAY of the merge call. -/
theorem final (c : Dev nD) :
    (dats m 0 c).arrAt 14 (cfgs 0).N = merged (ax m c) (ap m c) (aya m c) (ayb m c) (ayh m c) (ayg m c) (amod m c) (ag m c) (awb m c) (awo m c) := by
  refine (dats m 0 c).arrAt_eq_of_covers 14 _ (by decide +kernel) fun t _ y => ?_
  blk_simp
  rw [after0_14]
  have ht : t.val < 128 := lt_of_lt_of_eq t.isLt N_0
  have y0 : (y 0 : ℕ) < 1 := (y 0).isLt
  have y1 : (y 1 : ℕ) < 256 := (y 1).isLt
  have E0 : ((((cfg0.win 14).blk t).view.emb y) 0 : ℕ) = t.val / 8 := by blk_simp [idx_val t]
  have E1 : ((((cfg0.win 14).blk t).view.emb y) 1 : ℕ) = t.val % 8 * 256 + y 1 := by blk_simp [idx_val t]
  have E2 : ((((cfg0.win 14).blk t).view.emb y) 2 : ℕ) = y 2 := by blk_simp [idx_val t]
  have hb : t.val / 8 < 16 := by omega
  have hR : t.val % 8 * 256 + y 1 < 2048 := by omega
  exact (point m c t y ⟨_, hb⟩ rfl ⟨_, hR⟩ rfl).trans (merged_at _ _ _ _ _ _ _ _ _ _ _ ⟨_, hb⟩ ⟨_, hR⟩ (y 2) E0 E1 E2).symm

end Cert.MergeIdeal.Value

end
-- ==== Proof.MergeRefAt.lean ====
/- The reference's merge, entry by entry: the gated branches summed, projected, normed and added to the stream. -/
module

public import proofs.«01_k».proof.Proof.Gen.MergeRefIdeal.Run
public import proofs.«01_k».proof.Proof.MergeSpec
public import Idealize.ShloMosaic.Lib.Pointwise

@[expose] public section

set_option maxRecDepth 16384

noncomputable section

namespace Cert.MergeRefIdeal.Value

open Cert.MergeRefIdeal Cert.MergeRefIdeal.Gen Idealize.ShloMosaic Idealize.ShloMosaic.TcCoe Idealize.SL.Sem
open Cert.HalfGate
open Cert.MergeIdeal.Value (normRow gateAt mixAt zaAt zbAt zhAt zgAt latent mixed merged)

/-- The latent rows of the projection. -/
def latentP (p : FVec Ideal S16x2304x10752 .f32) : FVec Ideal S16x2048x10752 .f32 :=
  extractStridedSlice S16x2048x10752 ![0, 0, 0] p slices_S16x2304x10752_S16x2048x10752_0_0_0

/-- The four branches' mixing gates. -/
def gates (q : FVec Ideal S16x2048x10752 .f32) : FVec Ideal S16x2048x4x1024 .f32 :=
  shapeCast _ (Host.divf (broadcastInDim S16x2048x4096 ![] bcast_S_S16x2048x4096 (constant S_ .f32 0x3F800000#32)) (addf (broadcastInDim S16x2048x4096 ![] bcast_S_S16x2048x4096 (constant S_ .f32 0x3F800000#32)) (Host.exp (Host.negf (extractStridedSlice S16x2048x4096 ![0, 0, 0] q slices_S16x2048x10752_S16x2048x4096_0_0_0))))) shapeCasts_S16x2048x4096_S16x2048x4x1024

/-- One branch: its rows gated, times its weights, times its mixing gate. -/
def term (s : FVec Ideal S16x2048x1x1024 .f32) (y z : FVec Ideal S16x2048x512 .f32) (w : FVec Ideal S1x512x1024 .f32) : FVec Ideal S16x2048x1024 .f32 :=
  mulf (shapeCast _ s shapeCasts_S16x2048x1x1024_S16x2048x1024) (Host.dotGeneral dot_S16x2048x512_S512x1024_S16x2048x1024_2_0_01_1_n_n none (mulf y (mulf z (Host.divf (broadcastInDim S16x2048x512 ![] bcast_S_S16x2048x512 (constant S_ .f32 0x3F800000#32)) (addf (broadcastInDim S16x2048x512 ![] bcast_S_S16x2048x512 (constant S_ .f32 0x3F800000#32)) (Host.exp (Host.negf z)))))) (shapeCast _ w shapeCasts_S1x512x1024_S512x1024))

/-- The first branch. -/
def term0 (q : FVec Ideal S16x2048x10752 .f32) (y : FVec Ideal S16x2304x512 .f32) (w : FVec Ideal S4x512x1024 .f32) : FVec Ideal S16x2048x1024 .f32 :=
  term (extractStridedSlice S16x2048x1x1024 ![0, 0, 0, 0] (gates q) slices_S16x2048x4x1024_S16x2048x1x1024_0_0_0_0)
    (extractStridedSlice S16x2048x512 ![0, 0, 0] y slices_S16x2304x512_S16x2048x512_0_0_0)
    (extractStridedSlice S16x2048x512 ![0, 0, 4608] q slices_S16x2048x10752_S16x2048x512_0_0_4608)
    (extractStridedSlice S1x512x1024 ![0, 0, 0] w slices_S4x512x1024_S1x512x1024_0_0_0)

/-- The second branch. -/
def term1 (q : FVec Ideal S16x2048x10752 .f32) (y : FVec Ideal S16x2304x512 .f32) (w : FVec Ideal S4x512x1024 .f32) : FVec Ideal S16x2048x1024 .f32 :=
  term (extractStridedSlice S16x2048x1x1024 ![0, 0, 1, 0] (gates q) slices_S16x2048x4x1024_S16x2048x1x1024_0_0_1_0)
    (extractStridedSlice S16x2048x512 ![0, 0, 0] y slices_S16x2304x512_S16x2048x512_0_0_0)
    (extractStridedSlice S16x2048x512 ![0, 0, 6656] q slices_S16x2048x10752_S16x2048x512_0_0_6656)
    (extractStridedSlice S1x512x1024 ![1, 0, 0] w slices_S4x512x1024_S1x512x1024_1_0_0)

/-- The third branch. -/
def term2 (q : FVec Ideal S16x2048x10752 .f32) (y : FVec Ideal S16x2048x512 .f32) (w : FVec Ideal S4x512x1024 .f32) : FVec Ideal S16x2048x1024 .f32 :=
  term (extractStridedSlice S16x2048x1x1024 ![0, 0, 2, 0] (gates q) slices_S16x2048x4x1024_S16x2048x1x1024_0_0_2_0)
    y
    (extractStridedSlice S16x2048x512 ![0, 0, 8704] q slices_S16x2048x10752_S16x2048x512_0_0_8704)
    (extractStridedSlice S1x512x1024 ![2, 0, 0] w slices_S4x512x1024_S1x512x1024_2_0_0)

/-- The fourth branch. -/
def term3 (q : FVec Ideal S16x2048x10752 .f32) (y : FVec Ideal S16x2304x512 .f32) (w : FVec Ideal S4x512x1024 .f32) : FVec Ideal S16x2048x1024 .f32 :=
  term (extractStridedSlice S16x2048x1x1024 ![0, 0, 3, 0] (gates q) slices_S16x2048x4x1024_S16x2048x1x1024_0_0_3_0)
    (extractStridedSlice S16x2048x512 ![0, 0, 0] y slices_S16x2304x512_S16x2048x512_0_0_0)
    (extractStridedSlice S16x2048x512 ![0, 0, 10240] q slices_S16x2048x10752_S16x2048x512_0_0_10240)
    (extractStridedSlice S1x512x1024 ![3, 0, 0] w slices_S4x512x1024_S1x512x1024_3_0_0)

/-- The sum of the branches, projected. -/
def outs (a : FVec Ideal S16x2048x1024 .f32) (wo : FVec Ideal S1024x1024 .f32) : FVec Ideal S16x2048x1024 .f32 :=
  Host.dotGeneral dot_S16x2048x1024_S1024x1024_S16x2048x1024_2_0_01_1_n_n none a wo

/-- The projected rows normed, times the batch's gate, added to the stream. -/
def finish (x o : FVec Ideal S16x2048x1024 .f32) (mod : FVec Ideal S24x3072 .f32) (g : FVec Ideal S1024 .f32) : FVec Ideal S16x2048x1024 .f32 :=
  addf x (mulf (broadcastInDim S16x2048x1024 ![0, 1, 2] bcast_S16x1x1024_S16x2048x1024_0_1_2 (broadcastInDim S16x1x1024 ![0, 2] bcast_S16x1024_S16x1x1024_0_2 (extractStridedSlice S16x1024 ![0, 2048] (extractStridedSlice S16x3072 ![0, 0] mod slices_S24x3072_S16x3072_0_0) slices_S16x3072_S16x1024_0_2048))) (mulf (mulf o (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf o o) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 g))))

/-- An entry of the latent rows. -/
theorem latentP_at (p : FVec Ideal S16x2304x10752 .f32) (b : Fin 16) (r : Fin 2048) (n : Fin 10752) :
    latentP p (ix3 b r n) = p (ix3 b (latent r) n) := by
  pointwise [latentP, latent]

/-- An entry of the mixing gates. -/
theorem gates_at (q : FVec Ideal S16x2048x10752 .f32) (b : Fin 16) (r : Fin 2048) (i : Fin 4) (n : Fin 1024) :
    gates q (ix4 b r i n) = logis (q (ix3 b r (mixAt i n))) := by
  pointwise [gates, logis, mixAt]

/-- An entry of a branch. -/
theorem term_at (s : FVec Ideal S16x2048x1x1024 .f32) (y z : FVec Ideal S16x2048x512 .f32) (w : FVec Ideal S1x512x1024 .f32)
    (b : Fin 16) (r : Fin 2048) (n : Fin 1024) :
    term s y z w (ix3 b r n) = s (ix4 b r 0 n) * ∑ l : Fin 512, y (ix3 b r l) * (z (ix3 b r l) * logis (z (ix3 b r l))) * w (ix3 0 l n) := by
  pointwise [term, logis]

/-- An entry of the first branch. -/
theorem term0_at (q : FVec Ideal S16x2048x10752 .f32) (y : FVec Ideal S16x2304x512 .f32) (w : FVec Ideal S4x512x1024 .f32) (b : Fin 16) (r : Fin 2048) (n : Fin 1024) :
    term0 q y w (ix3 b r n) = branch (fun l => y (ix3 b (latent r) l)) (fun l => q (ix3 b r (zaAt l))) (fun l => w (ix3 0 l n)) (q (ix3 b r (mixAt 0 n))) := by
  unfold term0 branch
  have hg := gates_at q b r 0 n
  rw [term_at, ← hg]
  clear hg
  generalize gates q = s
  pointwise [zaAt, latent]

/-- An entry of the second branch. -/
theorem term1_at (q : FVec Ideal S16x2048x10752 .f32) (y : FVec Ideal S16x2304x512 .f32) (w : FVec Ideal S4x512x1024 .f32) (b : Fin 16) (r : Fin 2048) (n : Fin 1024) :
    term1 q y w (ix3 b r n) = branch (fun l => y (ix3 b (latent r) l)) (fun l => q (ix3 b r (zbAt l))) (fun l => w (ix3 1 l n)) (q (ix3 b r (mixAt 1 n))) := by
  unfold term1 branch
  have hg := gates_at q b r 1 n
  rw [term_at, ← hg]
  clear hg
  generalize gates q = s
  pointwise [zbAt, latent]

/-- An entry of the third branch. -/
theorem term2_at (q : FVec Ideal S16x2048x10752 .f32) (y : FVec Ideal S16x2048x512 .f32) (w : FVec Ideal S4x512x1024 .f32) (b : Fin 16) (r : Fin 2048) (n : Fin 1024) :
    term2 q y w (ix3 b r n) = branch (fun l => y (ix3 b r l)) (fun l => q (ix3 b r (zhAt l))) (fun l => w (ix3 2 l n)) (q (ix3 b r (mixAt 2 n))) := by
  unfold term2 branch
  have hg := gates_at q b r 2 n
  rw [term_at, ← hg]
  clear hg
  generalize gates q = s
  pointwise [zhAt]

/-- An entry of the fourth branch. -/
theorem term3_at (q : FVec Ideal S16x2048x10752 .f32) (y : FVec Ideal S16x2304x512 .f32) (w : FVec Ideal S4x512x1024 .f32) (b : Fin 16) (r : Fin 2048) (n : Fin 1024) :
    term3 q y w (ix3 b r n) = branch (fun l => y (ix3 b (latent r) l)) (fun l => q (ix3 b r (zgAt l))) (fun l => w (ix3 3 l n)) (q (ix3 b r (mixAt 3 n))) := by
  unfold term3 branch
  have hg := gates_at q b r 3 n
  rw [term_at, ← hg]
  clear hg
  generalize gates q = s
  pointwise [zgAt, latent]

/-- An entry of the projected sum. -/
theorem outs_at (a : FVec Ideal S16x2048x1024 .f32) (wo : FVec Ideal S1024x1024 .f32) (b : Fin 16) (r : Fin 2048) (k : Fin 1024) :
    outs a wo (ix3 b r k) = ∑ n : Fin 1024, a (ix3 b r n) * wo (ix2 n k) := by
  pointwise [outs]

/-- An entry of the last step. -/
theorem finish_at (x o : FVec Ideal S16x2048x1024 .f32) (mod : FVec Ideal S24x3072 .f32) (g : FVec Ideal S1024 .f32) (i : S16x2048x1024.Idx) :
    finish x o mod g i = x i + mod (ix2 ⟨(i 0 : ℕ), lt_of_lt_of_le (i 0).isLt (by decide)⟩ (gateAt (i 2)))
      * normRow (fun k => o (ix3 (i 0) (i 1) k)) (fun l => g (ix1 l)) (i 2) := by
  pointwise [finish, normRow, gateAt]

/-- An entry of the sum of the branches. -/
theorem sum_at (p : FVec Ideal S16x2304x10752 .f32) (ya yb : FVec Ideal S16x2304x512 .f32) (yh : FVec Ideal S16x2048x512 .f32)
    (yg : FVec Ideal S16x2304x512 .f32) (wb : FVec Ideal S4x512x1024 .f32) (b : Fin 16) (r : Fin 2048) (n : Fin 1024) :
    addf (addf (addf (term0 (latentP p) ya wb) (term1 (latentP p) yb wb)) (term2 (latentP p) yh wb)) (term3 (latentP p) yg wb) (ix3 b r n)
      = mixed p ya yb yh yg wb b r n := by
  have e0 := term0_at (latentP p) ya wb b r n
  have e1 := term1_at (latentP p) yb wb b r n
  have e2 := term2_at (latentP p) yh wb b r n
  have e3 := term3_at (latentP p) yg wb b r n
  simp only [latentP_at] at e0 e1 e2 e3
  unfold mixed
  rw [← e0, ← e1, ← e2, ← e3]
  rfl

/-- THE REFERENCE'S RESULT over its arguments: the merge. -/
theorem finish_eq (x : FVec Ideal S16x2048x1024 .f32) (p : FVec Ideal S16x2304x10752 .f32) (ya yb : FVec Ideal S16x2304x512 .f32)
    (yh : FVec Ideal S16x2048x512 .f32) (yg : FVec Ideal S16x2304x512 .f32) (mod : FVec Ideal S24x3072 .f32) (g : FVec Ideal S1024 .f32)
    (wb : FVec Ideal S4x512x1024 .f32) (wo : FVec Ideal S1024x1024 .f32) :
    finish x (outs (addf (addf (addf (term0 (latentP p) ya wb) (term1 (latentP p) yb wb)) (term2 (latentP p) yh wb)) (term3 (latentP p) yg wb)) wo) mod g
      = merged x p ya yb yh yg mod g wb wo := by
  funext i
  rw [finish_at]
  unfold merged
  have h : ∀ k, outs (addf (addf (addf (term0 (latentP p) ya wb) (term1 (latentP p) yb wb)) (term2 (latentP p) yh wb)) (term3 (latentP p) yg wb)) wo (ix3 (i 0) (i 1) k)
      = ∑ n : Fin 1024, mixed p ya yb yh yg wb (i 0) (i 1) n * wo (ix2 n k) := fun k =>
    (outs_at _ _ _ _ _).trans (Finset.sum_congr rfl fun n _ => congrArg (· * wo (ix2 n k)) (sum_at p ya yb yh yg wb (i 0) (i 1) n))
  exact congrArg (fun o => x i + mod (ix2 ⟨(i 0 : ℕ), lt_of_lt_of_le (i 0).isLt (by decide)⟩ (gateAt (i 2))) * normRow o (fun l => g (ix1 l)) (i 2)) (funext h)

/-- THE REFERENCE'S RESULT of its arguments in memory. -/
theorem result (m : (ℓ : Loc nD τ sig) → Buf (Elt Ideal) ℓ) (c : Dev nD) :
    res_out0 m c = merged (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) (m ((c.tc : Thread nD τ).loc main_arg9)) := by
  refine Eq.trans ?_ (finish_eq _ _ _ _ _ _ _ _ _ _)
  rfl

end Cert.MergeRefIdeal.Value

end
-- ==== Proof.MergeClaim.lean ====
/- The claims about the merge of the latent rows: it and its reference run, keep their arguments, and
   compute one array. -/
module

public import proofs.«01_k».proof.Proof.MergeValue
public import proofs.«01_k».proof.Proof.MergeRefAt
public import proofs.«01_k».proof.Defs
public import proofs.«01_k».proof.Proof.Gen.Merge.Frame
public import Idealize.ShloMosaic.Lib.Claim
public import Idealize.ShloMosaic.Lib.Quiescent

@[expose] public section

noncomputable section

namespace Cert.Proof

open Idealize.ShloMosaic Idealize.SL.Sem

/-- The printed merge runs, keeps its arguments and ends with every counter at zero. -/
theorem frame_merge : Cert.quiescent_Merge := fun m g _ => Cert.Merge.Gen.frame m g

/-- The idealized merge runs, keeps its arguments and ends with every counter at zero. -/
theorem frame_mergeIdeal : Cert.quiescent_MergeIdeal := fun m g _ => Cert.MergeIdeal.Gen.frame m g

/-- The reference of the merge runs, keeps its arguments and ends with every counter at zero. -/
theorem frame_mergeRef : Cert.quiescent_MergeRefIdeal := by
  intro m g _
  refine θ_run_mono (Cert.MergeRefIdeal.Value.run m g) fun r h => ⟨fun c => (h c).2, ?_⟩
  exact sem_eq_zero_of_no_sems rfl _

/-- The merge and its reference compute one array. -/
theorem algebraic_merge : Cert.algebraic_MergeIdeal_MergeRefIdeal := by
  pair_intro
  · run_from Cert.MergeIdeal.Value.run_blocks m g
  · run_from Cert.MergeRefIdeal.Value.run m' g'
    refine (Cert.MergeRefIdeal.Value.result _ _).trans ?_
    refine Eq.trans ?_ (Cert.MergeIdeal.Value.final m c).symm
    obtain ⟨h0, h1, h2, h3, h4, h5, h6, h7, h8, h9⟩ := hagree c
    rw [h0, h1, h2, h3, h4, h5, h6, h7, h8, h9]

end Cert.Proof

end
-- ==== Proof.MergeCtxSpec.lean ====
/- The merge of the context rows as a formula: their four gated branches summed, projected, normed and added to the stream. -/
module

public import proofs.«01_k».proof.Proof.MergeSpec
public import proofs.«01_k».proof.Proof.Gen.MergeCtxIdeal.Value
public import Idealize.ShloMosaic.Lib.Pipeline.ValueKit
public import Idealize.ShloMosaic.Lib.Pointwise
public import Idealize.ShloMosaic.Lib.Claim

@[expose] public section

set_option maxRecDepth 16384

noncomputable section

namespace Cert.MergeCtxIdeal.Value

open Cert.MergeCtxIdeal Cert.MergeCtxIdeal.Gen Idealize.ShloMosaic Idealize.ShloMosaic.TcCoe Idealize.SL.Sem
open Cert.HalfGate
open Cert.MergeIdeal.Value (normRow gateAt mixAt zaAt zbAt zhAt zgAt)

/-- A context row's place among all rows. -/
def context (r : Fin 256) : Fin 2304 := ⟨2048 + (r : ℕ), by omega⟩

/-- The sum of a context row's four branches. -/
def mixed (p : FVec Ideal S16x2304x10752 .f32) (ya yb : FVec Ideal S16x2304x512 .f32) (yh : FVec Ideal S16x256x512 .f32)
    (yg : FVec Ideal S16x2304x512 .f32) (wb : FVec Ideal S4x512x1024 .f32) (b : Fin 16) (r : Fin 256) (n : Fin 1024) : EReal :=
  branch (fun l => ya (ix3 b (context r) l)) (fun l => p (ix3 b (context r) (zaAt l))) (fun l => wb (ix3 0 l n)) (p (ix3 b (context r) (mixAt 0 n)))
    + branch (fun l => yb (ix3 b (context r) l)) (fun l => p (ix3 b (context r) (zbAt l))) (fun l => wb (ix3 1 l n)) (p (ix3 b (context r) (mixAt 1 n)))
    + branch (fun l => yh (ix3 b r l)) (fun l => p (ix3 b (context r) (zhAt l))) (fun l => wb (ix3 2 l n)) (p (ix3 b (context r) (mixAt 2 n)))
    + branch (fun l => yg (ix3 b (context r) l)) (fun l => p (ix3 b (context r) (zgAt l))) (fun l => wb (ix3 3 l n)) (p (ix3 b (context r) (mixAt 3 n)))

/-- The merge: the sum of the branches projected, normed, times the context's gate, added to the stream. -/
def merged (x : FVec Ideal S16x256x1024 .f32) (p : FVec Ideal S16x2304x10752 .f32) (ya yb : FVec Ideal S16x2304x512 .f32)
    (yh : FVec Ideal S16x256x512 .f32) (yg : FVec Ideal S16x2304x512 .f32) (mod : FVec Ideal S24x3072 .f32) (g : FVec Ideal S1024 .f32)
    (wb : FVec Ideal S4x512x1024 .f32) (wo : FVec Ideal S1024x1024 .f32) : FVec Ideal S16x256x1024 .f32 :=
  fun i => x i + mod (ix2 16 (gateAt (i 2)))
    * normRow (fun k => ∑ n : Fin 1024, mixed p ya yb yh yg wb (i 0) (i 1) n * wo (ix2 n k)) (fun l => g (ix1 l)) (i 2)

end Cert.MergeCtxIdeal.Value

end
-- ==== Proof.MergeCtxPoint.lean ====
/- What one grid point of the merge call of the context rows leaves: its rows' branches summed, projected, normed, gated and added to the stream. -/
module

public import proofs.«01_k».proof.Proof.MergeCtxSpec
public import Idealize.ShloMosaic.Lib.VecWindow

@[expose] public section

set_option maxRecDepth 16384

noncomputable section

namespace Cert.MergeCtxIdeal.Value

open Cert.MergeCtxIdeal Cert.MergeCtxIdeal.Gen Idealize.ShloMosaic Idealize.ShloMosaic.TcCoe Idealize.SL.Sem
open Cert.HalfGate
open Cert.MergeIdeal.Value (normRow gateAt mixAt zaAt zbAt zhAt zgAt)

/-- Entry `n` of branch `i`'s gate among the gates' columns. -/
def colAt (i : Fin 4) (n : Fin 1024) : Fin 4096 := ⟨(i : ℕ) * 1024 + n, by omega⟩

/-- The first branch. -/
theorem first_at (z y : FVec Ideal S1x256x512 .bf16) (w : FVec Ideal S1x512x1024 .bf16) (g : FVec Ideal S1x256x1024 .bf16) (j : S256x1024.Idx) :
    k0_pay2 (F := Ideal) z y w g j
      = tanhBranch (fun l => y (ix3 0 (j 0) l)) (fun l => z (ix3 0 (j 0) l)) (fun l => w (ix3 0 l (j 1))) (g (ix3 0 (j 0) (j 1))) := by
  pointwise [k0_pay2, tanhBranch]

/-- The second branch before its gate. -/
theorem second_at (z y : FVec Ideal S1x256x512 .bf16) (w : FVec Ideal S1x512x1024 .bf16) (j : S256x1024.Idx) :
    k0_pay3 (F := Ideal) z y w j
      = ∑ l : Fin 512, y (ix3 0 (j 0) l) * (z (ix3 0 (j 0) l) * (Ideal.tanh (z (ix3 0 (j 0) l)) + 1)) * w (ix3 0 l (j 1)) := by
  pointwise [k0_pay3]

/-- The first three branches. -/
theorem three_at (a s : FVec Ideal S256x1024 .f32) (g1 : FVec Ideal S1x256x1024 .bf16) (z y : FVec Ideal S1x256x512 .bf16)
    (w : FVec Ideal S1x512x1024 .bf16) (g2 : FVec Ideal S1x256x1024 .bf16) (j : S256x1024.Idx) :
    k0_pay4 (F := Ideal) a s g1 z y w g2 j
      = a j + s j * (Ideal.tanh (g1 (ix3 0 (j 0) (j 1))) + 1)
        + tanhBranch (fun l => y (ix3 0 (j 0) l)) (fun l => z (ix3 0 (j 0) l)) (fun l => w (ix3 0 l (j 1))) (g2 (ix3 0 (j 0) (j 1))) := by
  pointwise [k0_pay4, tanhBranch]

/-- The fourth branch added, the sum projected and normed, times the gate. -/
theorem gated_at (a : FVec Ideal S256x1024 .f32) (z y : FVec Ideal S1x256x512 .bf16) (w : FVec Ideal S1x512x1024 .bf16)
    (g : FVec Ideal S1x256x1024 .bf16) (wo : FVec Ideal S1024x1024 .bf16) (pg : FVec Ideal S1x1024 .f32) (md : FVec Ideal S1x1x3072 .f32)
    (j : S256x1024.Idx) :
    k0_pay9 (F := Ideal) a (k0_pay5 z) (k0_pay6 y) (k0_pay7 z) w g wo pg md j
      = md (ix3 0 0 (gateAt (j 1))) * normRow (fun k => ∑ n : Fin 1024,
          (a (ix2 (j 0) n) + tanhBranch (fun l => y (ix3 0 (j 0) l)) (fun l => z (ix3 0 (j 0) l)) (fun l => w (ix3 0 l n)) (g (ix3 0 (j 0) n)))
            * wo (ix2 n k)) (fun l => pg (ix2 0 l)) (j 1) := by
  pointwise [k0_pay9, k0_pay5, k0_pay6, k0_pay7, tanhBranch, normRow, gateAt]

/-- The stored block. -/
theorem stored_at (x : FVec Ideal S1x256x1024 .f32) (d : FVec Ideal S256x1024 .f32) (j : S1x256x1024.Idx) :
    k0_pay1 (F := Ideal) (k0_pay8 x) d j = x (ix3 0 (j 1) (j 2)) + d (ix2 (j 1) (j 2)) := by
  have hj : j = ix3 0 (j 1) (j 2) := by
    funext a
    match a with
    | 0 => exact Fin.ext (by have h : (j 0 : ℕ) < 1 := (j 0).isLt; show (j 0 : ℕ) = 0; omega)
    | 1 => rfl
    | 2 => rfl
  refine Eq.trans (b := x j + d (ix2 (j 1) (j 2))) ?_ (congrArg (x · + d (ix2 (j 1) (j 2))) hj)
  pointwise [k0_pay1, k0_pay8]

/-- The first branch's weights. -/
theorem weights0_at (w : FVec Ideal S4x512x1024 .bf16) (l : Fin 512) (n : Fin 1024) :
    View.ld (Val := Elt Ideal) (e' := .bf16) w (Rect.unit ![0, 0, 0] ![1, 512, 1024] inb_S4x512x1024_S1x512x1024_0_0_0) (ix3 0 l n) = w (ix3 0 l n) := by
  pointwise

/-- The first branch's mixing gate. -/
theorem gate0_at (g : FVec Ideal S1x256x4096 .bf16) (r : Fin 256) (n : Fin 1024) :
    View.ld (Val := Elt Ideal) (e' := .bf16) g (Rect.unit ![0, 0, 0] ![1, 256, 1024] inb_S1x256x4096_S1x256x1024_0_0_0) (ix3 0 r n) = g (ix3 0 r (colAt 0 n)) := by
  pointwise [colAt]

/-- The second branch's weights. -/
theorem weights1_at (w : FVec Ideal S4x512x1024 .bf16) (l : Fin 512) (n : Fin 1024) :
    View.ld (Val := Elt Ideal) (e' := .bf16) w (Rect.unit ![1, 0, 0] ![1, 512, 1024] inb_S4x512x1024_S1x512x1024_1_0_0) (ix3 0 l n) = w (ix3 1 l n) := by
  pointwise

/-- The second branch's mixing gate. -/
theorem gate1_at (g : FVec Ideal S1x256x4096 .bf16) (r : Fin 256) (n : Fin 1024) :
    View.ld (Val := Elt Ideal) (e' := .bf16) g (Rect.unit ![0, 0, 1024] ![1, 256, 1024] inb_S1x256x4096_S1x256x1024_0_0_1024) (ix3 0 r n) = g (ix3 0 r (colAt 1 n)) := by
  pointwise [colAt]

/-- The third branch's weights. -/
theorem weights2_at (w : FVec Ideal S4x512x1024 .bf16) (l : Fin 512) (n : Fin 1024) :
    View.ld (Val := Elt Ideal) (e' := .bf16) w (Rect.unit ![2, 0, 0] ![1, 512, 1024] inb_S4x512x1024_S1x512x1024_2_0_0) (ix3 0 l n) = w (ix3 2 l n) := by
  pointwise

/-- The third branch's mixing gate. -/
theorem gate2_at (g : FVec Ideal S1x256x4096 .bf16) (r : Fin 256) (n : Fin 1024) :
    View.ld (Val := Elt Ideal) (e' := .bf16) g (Rect.unit ![0, 0, 2048] ![1, 256, 1024] inb_S1x256x4096_S1x256x1024_0_0_2048) (ix3 0 r n) = g (ix3 0 r (colAt 2 n)) := by
  pointwise [colAt]

/-- The fourth branch's weights. -/
theorem weights3_at (w : FVec Ideal S4x512x1024 .bf16) (l : Fin 512) (n : Fin 1024) :
    View.ld (Val := Elt Ideal) (e' := .bf16) w (Rect.unit ![3, 0, 0] ![1, 512, 1024] inb_S4x512x1024_S1x512x1024_3_0_0) (ix3 0 l n) = w (ix3 3 l n) := by
  pointwise

/-- The fourth branch's mixing gate. -/
theorem gate3_at (g : FVec Ideal S1x256x4096 .bf16) (r : Fin 256) (n : Fin 1024) :
    View.ld (Val := Elt Ideal) (e' := .bf16) g (Rect.unit ![0, 0, 3072] ![1, 256, 1024] inb_S1x256x4096_S1x256x1024_0_0_3072) (ix3 0 r n) = g (ix3 0 r (colAt 3 n)) := by
  pointwise [colAt]

/-- The sum of the four branches of a tile's row, from the point's blocks. -/
def rowMix (x0 x1 x2 x3 x4 x5 x6 x7 : FVec Ideal S1x256x512 .bf16) (x8 : FVec Ideal S1x256x4096 .bf16) (x12 : FVec Ideal S4x512x1024 .bf16)
    (r : Fin 256) (n : Fin 1024) : EReal :=
  tanhBranch (fun l => x0 (ix3 0 r l)) (fun l => x4 (ix3 0 r l)) (fun l => x12 (ix3 0 l n)) (x8 (ix3 0 r (colAt 0 n)))
    + tanhBranch (fun l => x1 (ix3 0 r l)) (fun l => x5 (ix3 0 r l)) (fun l => x12 (ix3 1 l n)) (x8 (ix3 0 r (colAt 1 n)))
    + tanhBranch (fun l => x2 (ix3 0 r l)) (fun l => x6 (ix3 0 r l)) (fun l => x12 (ix3 2 l n)) (x8 (ix3 0 r (colAt 2 n)))
    + tanhBranch (fun l => x3 (ix3 0 r l)) (fun l => x7 (ix3 0 r l)) (fun l => x12 (ix3 3 l n)) (x8 (ix3 0 r (colAt 3 n)))

/-- The sum the body forms is the sum of the four branches. -/
theorem mix_at (x0 x1 x2 x3 x4 x5 x6 x7 : FVec Ideal S1x256x512 .bf16) (x8 : FVec Ideal S1x256x4096 .bf16) (x12 : FVec Ideal S4x512x1024 .bf16)
    (r : Fin 256) (n : Fin 1024) :
    k0_pay4 (F := Ideal)
          (k0_pay2 x4 x0 (View.ld (Val := Elt Ideal) (e' := .bf16) x12 (Rect.unit ![0, 0, 0] ![1, 512, 1024] inb_S4x512x1024_S1x512x1024_0_0_0))
            (View.ld (Val := Elt Ideal) (e' := .bf16) x8 (Rect.unit ![0, 0, 0] ![1, 256, 1024] inb_S1x256x4096_S1x256x1024_0_0_0)))
          (k0_pay3 x5 x1 (View.ld (Val := Elt Ideal) (e' := .bf16) x12 (Rect.unit ![1, 0, 0] ![1, 512, 1024] inb_S4x512x1024_S1x512x1024_1_0_0)))
          (View.ld (Val := Elt Ideal) (e' := .bf16) x8 (Rect.unit ![0, 0, 1024] ![1, 256, 1024] inb_S1x256x4096_S1x256x1024_0_0_1024)) x6 x2
          (View.ld (Val := Elt Ideal) (e' := .bf16) x12 (Rect.unit ![2, 0, 0] ![1, 512, 1024] inb_S4x512x1024_S1x512x1024_2_0_0))
          (View.ld (Val := Elt Ideal) (e' := .bf16) x8 (Rect.unit ![0, 0, 2048] ![1, 256, 1024] inb_S1x256x4096_S1x256x1024_0_0_2048)) (ix2 r n)
      + tanhBranch (fun l => x3 (ix3 0 r l)) (fun l => x7 (ix3 0 r l))
        (fun l => View.ld (Val := Elt Ideal) (e' := .bf16) x12 (Rect.unit ![3, 0, 0] ![1, 512, 1024] inb_S4x512x1024_S1x512x1024_3_0_0) (ix3 0 l n))
        (View.ld (Val := Elt Ideal) (e' := .bf16) x8 (Rect.unit ![0, 0, 3072] ![1, 256, 1024] inb_S1x256x4096_S1x256x1024_0_0_3072) (ix3 0 r n))
      = rowMix x0 x1 x2 x3 x4 x5 x6 x7 x8 x12 r n := by
  rw [funext fun l => weights3_at x12 l n, gate3_at x8 r n]
  refine congrArg (· + _) ?_
  refine (three_at _ _ _ _ _ _ _ (ix2 r n)).trans ?_
  refine congrArg₂ (· + ·) (congrArg₂ (· + ·) ?_ ?_) ?_
  · refine (first_at _ _ _ _ (ix2 r n)).trans ?_
    exact congrArg₂ (tanhBranch _ _) (funext fun l => weights0_at x12 l n) (gate0_at x8 r n)
  · refine (congrArg (· * _) (second_at _ _ _ (ix2 r n))).trans ?_
    show tanhBranch _ _ _ _ = _
    exact congrArg₂ (tanhBranch _ _) (funext fun l => weights1_at x12 l n) (gate1_at x8 r n)
  · exact congrArg₂ (tanhBranch _ _) (funext fun l => weights2_at x12 l n) (gate2_at x8 r n)

set_option maxHeartbeats 3200000 in
/-- What a point leaves in its output block. -/
theorem block_A (c : Dev nD) (i : grid0.Coords) (arg2 : Memref sig .tc .vmem S1x256x512 .bf16) (harg2 : arg2.IsWhole) (arg3 : Memref sig .tc .vmem S1x256x512 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x256x512 .bf16) (harg6 : arg6.IsWhole) (arg7 : Memref sig .tc .vmem S1x256x512 .bf16) (harg7 : arg7.IsWhole) (arg8 : Memref sig .tc .vmem S1x256x512 .bf16) (harg8 : arg8.IsWhole) (arg9 : Memref sig .tc .vmem S1x256x512 .bf16) (harg9 : arg9.IsWhole) (arg10 : Memref sig .tc .vmem S1x256x4096 .bf16) (harg10 : arg10.IsWhole) (arg11 : Memref sig .tc .vmem S1x256x1024 .f32) (harg11 : arg11.IsWhole) (arg12 : Memref sig .tc .vmem S1x1x3072 .f32) (harg12 : arg12.IsWhole) (arg13 : Memref sig .tc .vmem S1x1024 .f32) (harg13 : arg13.IsWhole) (arg14 : Memref sig .tc .vmem S4x512x1024 .bf16) (harg14 : arg14.IsWhole) (arg15 : Memref sig .tc .vmem S1024x1024 .bf16) (harg15 : arg15.IsWhole) (arg16 : Memref sig .tc .vmem S1x256x1024 .f32) (harg16 : arg16.IsWhole)
    (x0 x1 x2 x3 x4 x5 x6 x7 : FVec Ideal S1x256x512 .bf16) (x8 : FVec Ideal S1x256x4096 .bf16) (x9 : FVec Ideal S1x256x1024 .f32)
    (x10 : FVec Ideal S1x1x3072 .f32) (x11 : FVec Ideal S1x1024 .f32) (x12 : FVec Ideal S4x512x1024 .bf16) (x13 : FVec Ideal S1024x1024 .bf16) (y : S1x256x1024.Idx) :
    out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 y
      = x9 (ix3 0 (y 1) (y 2)) + x10 (ix3 0 0 (gateAt (y 2)))
        * normRow (fun k => ∑ n : Fin 1024, rowMix x0 x1 x2 x3 x4 x5 x6 x7 x8 x12 (y 1) n * x13 (ix2 n k)) (fun l => x11 (ix2 0 l)) (y 2) := by
  frame_out
  refine (stored_at _ _ y).trans (congrArg (x9 (ix3 0 (y 1) (y 2)) + ·) ?_)
  refine (gated_at _ _ _ _ _ _ _ _ _).trans (congrArg (fun o => x10 (ix3 0 0 (gateAt (y 2))) * normRow o (fun l => x11 (ix2 0 l)) (y 2)) ?_)
  refine funext fun k => Finset.sum_congr rfl fun n _ => congrArg (· * x13 (ix2 n k)) ?_
  exact mix_at x0 x1 x2 x3 x4 x5 x6 x7 x8 x12 (y 1) n

end Cert.MergeCtxIdeal.Value

end
-- ==== Proof.MergeCtxValue.lean ====
/- The array the merge call of the context rows leaves: the branches of every context row summed, projected, normed, gated and added to the stream. -/
module

public import proofs.«01_k».proof.Proof.MergeCtxPoint

@[expose] public section

set_option maxRecDepth 16384

noncomputable section

namespace Cert.MergeCtxIdeal.Value

open Cert.MergeCtxIdeal Cert.MergeCtxIdeal.Gen Idealize.ShloMosaic Idealize.ShloMosaic.TcCoe Idealize.SL.Sem
open Idealize.ShloMosaic.Pipeline (Dat)
open Cert.HalfGate
open Cert.MergeIdeal.Value (normRow gateAt mixAt zaAt zbAt zhAt zgAt)

variable (m : (ℓ : Loc nD τ sig) → Buf (Elt Ideal) ℓ)

/-- The stream, as given. -/
abbrev ax (c : Dev nD) : FVec Ideal S16x256x1024 .f32 := m ((c : Thread nD τ).loc main_arg0)

/-- The projection, as given. -/
abbrev ap (c : Dev nD) : FVec Ideal S16x2304x10752 .f32 := m ((c : Thread nD τ).loc main_arg1)

/-- The first branch's output, as given. -/
abbrev aya (c : Dev nD) : FVec Ideal S16x2304x512 .f32 := m ((c : Thread nD τ).loc main_arg2)

/-- The second branch's output, as given. -/
abbrev ayb (c : Dev nD) : FVec Ideal S16x2304x512 .f32 := m ((c : Thread nD τ).loc main_arg3)

/-- The third branch's output, as given. -/
abbrev ayh (c : Dev nD) : FVec Ideal S16x256x512 .f32 := m ((c : Thread nD τ).loc main_arg4)

/-- The fourth branch's output, as given. -/
abbrev ayg (c : Dev nD) : FVec Ideal S16x2304x512 .f32 := m ((c : Thread nD τ).loc main_arg5)

/-- The modulation, as given. -/
abbrev amod (c : Dev nD) : FVec Ideal S24x3072 .f32 := m ((c : Thread nD τ).loc main_arg6)

/-- The norm's weight, as given. -/
abbrev ag (c : Dev nD) : FVec Ideal S1024 .f32 := m ((c : Thread nD τ).loc main_arg7)

/-- The branches' weights, as given. -/
abbrev awb (c : Dev nD) : FVec Ideal S4x512x1024 .f32 := m ((c : Thread nD τ).loc main_arg8)

/-- The output matrix, as given. -/
abbrev awo (c : Dev nD) : FVec Ideal S1024x1024 .f32 := m ((c : Thread nD τ).loc main_arg9)

/-- The projection as the call reads it: halved. -/
abbrev pE (c : Dev nD) : FVec Ideal S16x2304x10752 .bf16 := V m c main_v2

/-- The first branch's output as the call reads it. -/
abbrev yaE (c : Dev nD) : FVec Ideal S16x2304x512 .bf16 := V m c main_v3

/-- The second branch's output as the call reads it. -/
abbrev ybE (c : Dev nD) : FVec Ideal S16x2304x512 .bf16 := V m c main_v4

/-- The third branch's output as the call reads it. -/
abbrev yhE (c : Dev nD) : FVec Ideal S16x256x512 .bf16 := V m c main_v5

/-- The fourth branch's output as the call reads it. -/
abbrev ygE (c : Dev nD) : FVec Ideal S16x2304x512 .bf16 := V m c main_v6

/-- The modulation as the call reads it: each row under an axis of one. -/
abbrev modE (c : Dev nD) : FVec Ideal S24x1x3072 .f32 := V m c main_v7

/-- The norm's weight as the call reads it. -/
abbrev gE (c : Dev nD) : FVec Ideal S1x1024 .f32 := V m c main_v12

/-- The branches' weights as the call reads them: halved. -/
abbrev wbE (c : Dev nD) : FVec Ideal S4x512x1024 .bf16 := V m c main_v10

/-- The output matrix as the call reads it. -/
abbrev woE (c : Dev nD) : FVec Ideal S1024x1024 .bf16 := V m c main_v11

/-- An entry of it: the projection as the call reads it: halved. -/
theorem pE_at (c : Dev nD) (i : S16x2304x10752.Idx) : pE m c i = half (ap m c i) := by
  unfold pE
  entry_read
  pointwise [half]

/-- An entry of it: the first branch's output as the call reads it. -/
theorem yaE_at (c : Dev nD) (i : S16x2304x512.Idx) : yaE m c i = aya m c i := by
  unfold yaE
  entry_read
  pointwise

/-- An entry of it: the second branch's output as the call reads it. -/
theorem ybE_at (c : Dev nD) (i : S16x2304x512.Idx) : ybE m c i = ayb m c i := by
  unfold ybE
  entry_read
  pointwise

/-- An entry of it: the third branch's output as the call reads it. -/
theorem yhE_at (c : Dev nD) (i : S16x256x512.Idx) : yhE m c i = ayh m c i := by
  unfold yhE
  entry_read
  pointwise

/-- An entry of it: the fourth branch's output as the call reads it. -/
theorem ygE_at (c : Dev nD) (i : S16x2304x512.Idx) : ygE m c i = ayg m c i := by
  unfold ygE
  entry_read
  pointwise

/-- An entry of it: the modulation as the call reads it: each row under an axis of one. -/
theorem modE_at (c : Dev nD) (r : Fin 24) (l : Fin 3072) : modE m c (ix3 r 0 l) = amod m c (ix2 r l) := by
  unfold modE
  entry_read
  pointwise

/-- An entry of it: the norm's weight as the call reads it. -/
theorem gE_at (c : Dev nD) (l : Fin 1024) : gE m c (ix2 0 l) = ag m c (ix1 l) := by
  unfold gE
  entry_read
  pointwise

/-- An entry of it: the branches' weights as the call reads them: halved. -/
theorem wbE_at (c : Dev nD) (i : S4x512x1024.Idx) : wbE m c i = half (awb m c i) := by
  unfold wbE
  entry_read
  pointwise [half]

/-- An entry of it: the output matrix as the call reads it. -/
theorem woE_at (c : Dev nD) (i : S1024x1024.Idx) : woE m c i = awo m c i := by
  unfold woE
  entry_read
  pointwise

/-- The blocks of grid point `t`: the windows' block indices. -/
theorem idx_val : ∀ t : Fin cfg0.N, win0_0.index t = ![t.val, 8, 0]
    ∧ win0_1.index t = ![t.val, 8, 0]
    ∧ win0_2.index t = ![t.val, 0, 0]
    ∧ win0_3.index t = ![t.val, 8, 0]
    ∧ win0_4.index t = ![t.val, 8, 9]
    ∧ win0_5.index t = ![t.val, 8, 13]
    ∧ win0_6.index t = ![t.val, 8, 17]
    ∧ win0_7.index t = ![t.val, 8, 20]
    ∧ win0_8.index t = ![t.val, 8, 0]
    ∧ win0_9.index t = ![t.val, 0, 0]
    ∧ win0_10.index t = ![16, 0, 0]
    ∧ win0_11.index t = ![0, 0]
    ∧ win0_12.index t = ![0, 0, 0]
    ∧ win0_13.index t = ![0, 0]
    ∧ win0_14.index t = ![t.val, 0, 0] :=
  (by decide +kernel : ∀ t : Fin grid0.N, _)

/-- The first branch's output at a point. -/
abbrev yaB (c : Dev nD) (t : Fin cfg0.N) : FVec Ideal S1x256x512 .bf16 := iblk m c 0 t

/-- Where its entries sit: the first branch's output at a point. -/
theorem emb0 (t : Fin cfg0.N) (r : Fin 256) (l : Fin 512) (b : Fin 16) (hb : (b : ℕ) = t.val) (R : Fin 2304) (hR : (R : ℕ) = 2048 + r) :
    ((cfg0.win 0).blk t).view.emb (ix3 0 r l) = (ix3 b R l) := by
  blk_ext [idx_val t]

/-- An entry of it: the first branch's output at a point. -/
theorem yaB_at (c : Dev nD) (t : Fin cfg0.N) (r : Fin 256) (l : Fin 512) (b : Fin 16) (hb : (b : ℕ) = t.val) (R : Fin 2304) (hR : (R : ℕ) = 2048 + r) :
    yaB m c t (ix3 0 r l) = yaE m c (ix3 b R l) := by
  unfold yaB yaE iblk
  rw [View.read, emb0 t r l b hb R hR]
  generalize V m c = A
  exact cast_eq _ _

/-- The second branch's output at a point. -/
abbrev ybB (c : Dev nD) (t : Fin cfg0.N) : FVec Ideal S1x256x512 .bf16 := iblk m c 1 t

/-- Where its entries sit: the second branch's output at a point. -/
theorem emb1 (t : Fin cfg0.N) (r : Fin 256) (l : Fin 512) (b : Fin 16) (hb : (b : ℕ) = t.val) (R : Fin 2304) (hR : (R : ℕ) = 2048 + r) :
    ((cfg0.win 1).blk t).view.emb (ix3 0 r l) = (ix3 b R l) := by
  blk_ext [idx_val t]

/-- An entry of it: the second branch's output at a point. -/
theorem ybB_at (c : Dev nD) (t : Fin cfg0.N) (r : Fin 256) (l : Fin 512) (b : Fin 16) (hb : (b : ℕ) = t.val) (R : Fin 2304) (hR : (R : ℕ) = 2048 + r) :
    ybB m c t (ix3 0 r l) = ybE m c (ix3 b R l) := by
  unfold ybB ybE iblk
  rw [View.read, emb1 t r l b hb R hR]
  generalize V m c = A
  exact cast_eq _ _

/-- The third branch's output at a point. -/
abbrev yhB (c : Dev nD) (t : Fin cfg0.N) : FVec Ideal S1x256x512 .bf16 := iblk m c 2 t

/-- Where its entries sit: the third branch's output at a point. -/
theorem emb2 (t : Fin cfg0.N) (r : Fin 256) (l : Fin 512) (b : Fin 16) (hb : (b : ℕ) = t.val) (R : Fin 256) (hR : (R : ℕ) = r) :
    ((cfg0.win 2).blk t).view.emb (ix3 0 r l) = (ix3 b R l) := by
  blk_ext [idx_val t]

/-- An entry of it: the third branch's output at a point. -/
theorem yhB_at (c : Dev nD) (t : Fin cfg0.N) (r : Fin 256) (l : Fin 512) (b : Fin 16) (hb : (b : ℕ) = t.val) (R : Fin 256) (hR : (R : ℕ) = r) :
    yhB m c t (ix3 0 r l) = yhE m c (ix3 b R l) := by
  unfold yhB yhE iblk
  rw [View.read, emb2 t r l b hb R hR]
  generalize V m c = A
  exact cast_eq _ _

/-- The fourth branch's output at a point. -/
abbrev ygB (c : Dev nD) (t : Fin cfg0.N) : FVec Ideal S1x256x512 .bf16 := iblk m c 3 t

/-- Where its entries sit: the fourth branch's output at a point. -/
theorem emb3 (t : Fin cfg0.N) (r : Fin 256) (l : Fin 512) (b : Fin 16) (hb : (b : ℕ) = t.val) (R : Fin 2304) (hR : (R : ℕ) = 2048 + r) :
    ((cfg0.win 3).blk t).view.emb (ix3 0 r l) = (ix3 b R l) := by
  blk_ext [idx_val t]

/-- An entry of it: the fourth branch's output at a point. -/
theorem ygB_at (c : Dev nD) (t : Fin cfg0.N) (r : Fin 256) (l : Fin 512) (b : Fin 16) (hb : (b : ℕ) = t.val) (R : Fin 2304) (hR : (R : ℕ) = 2048 + r) :
    ygB m c t (ix3 0 r l) = ygE m c (ix3 b R l) := by
  unfold ygB ygE iblk
  rw [View.read, emb3 t r l b hb R hR]
  generalize V m c = A
  exact cast_eq _ _

/-- The first branch's gate at a point. -/
abbrev zaB (c : Dev nD) (t : Fin cfg0.N) : FVec Ideal S1x256x512 .bf16 := iblk m c 4 t

/-- Where its entries sit: the first branch's gate at a point. -/
theorem emb4 (t : Fin cfg0.N) (r : Fin 256) (l : Fin 512) (b : Fin 16) (hb : (b : ℕ) = t.val) (R : Fin 2304) (hR : (R : ℕ) = 2048 + r) :
    ((cfg0.win 4).blk t).view.emb (ix3 0 r l) = (ix3 b R (zaAt l)) := by
  unfold zaAt
  blk_ext [idx_val t]

/-- An entry of it: the first branch's gate at a point. -/
theorem zaB_at (c : Dev nD) (t : Fin cfg0.N) (r : Fin 256) (l : Fin 512) (b : Fin 16) (hb : (b : ℕ) = t.val) (R : Fin 2304) (hR : (R : ℕ) = 2048 + r) :
    zaB m c t (ix3 0 r l) = pE m c (ix3 b R (zaAt l)) := by
  unfold zaB pE iblk
  rw [View.read, emb4 t r l b hb R hR]
  generalize V m c = A
  exact cast_eq _ _

/-- The second branch's gate at a point. -/
abbrev zbB (c : Dev nD) (t : Fin cfg0.N) : FVec Ideal S1x256x512 .bf16 := iblk m c 5 t

/-- Where its entries sit: the second branch's gate at a point. -/
theorem emb5 (t : Fin cfg0.N) (r : Fin 256) (l : Fin 512) (b : Fin 16) (hb : (b : ℕ) = t.val) (R : Fin 2304) (hR : (R : ℕ) = 2048 + r) :
    ((cfg0.win 5).blk t).view.emb (ix3 0 r l) = (ix3 b R (zbAt l)) := by
  unfold zbAt
  blk_ext [idx_val t]

/-- An entry of it: the second branch's gate at a point. -/
theorem zbB_at (c : Dev nD) (t : Fin cfg0.N) (r : Fin 256) (l : Fin 512) (b : Fin 16) (hb : (b : ℕ) = t.val) (R : Fin 2304) (hR : (R : ℕ) = 2048 + r) :
    zbB m c t (ix3 0 r l) = pE m c (ix3 b R (zbAt l)) := by
  unfold zbB pE iblk
  rw [View.read, emb5 t r l b hb R hR]
  generalize V m c = A
  exact cast_eq _ _

/-- The third branch's gate at a point. -/
abbrev zhB (c : Dev nD) (t : Fin cfg0.N) : FVec Ideal S1x256x512 .bf16 := iblk m c 6 t

/-- Where its entries sit: the third branch's gate at a point. -/
theorem emb6 (t : Fin cfg0.N) (r : Fin 256) (l : Fin 512) (b : Fin 16) (hb : (b : ℕ) = t.val) (R : Fin 2304) (hR : (R : ℕ) = 2048 + r) :
    ((cfg0.win 6).blk t).view.emb (ix3 0 r l) = (ix3 b R (zhAt l)) := by
  unfold zhAt
  blk_ext [idx_val t]

/-- An entry of it: the third branch's gate at a point. -/
theorem zhB_at (c : Dev nD) (t : Fin cfg0.N) (r : Fin 256) (l : Fin 512) (b : Fin 16) (hb : (b : ℕ) = t.val) (R : Fin 2304) (hR : (R : ℕ) = 2048 + r) :
    zhB m c t (ix3 0 r l) = pE m c (ix3 b R (zhAt l)) := by
  unfold zhB pE iblk
  rw [View.read, emb6 t r l b hb R hR]
  generalize V m c = A
  exact cast_eq _ _

/-- The fourth branch's gate at a point. -/
abbrev zgB (c : Dev nD) (t : Fin cfg0.N) : FVec Ideal S1x256x512 .bf16 := iblk m c 7 t

/-- Where its entries sit: the fourth branch's gate at a point. -/
theorem emb7 (t : Fin cfg0.N) (r : Fin 256) (l : Fin 512) (b : Fin 16) (hb : (b : ℕ) = t.val) (R : Fin 2304) (hR : (R : ℕ) = 2048 + r) :
    ((cfg0.win 7).blk t).view.emb (ix3 0 r l) = (ix3 b R (zgAt l)) := by
  unfold zgAt
  blk_ext [idx_val t]

/-- An entry of it: the fourth branch's gate at a point. -/
theorem zgB_at (c : Dev nD) (t : Fin cfg0.N) (r : Fin 256) (l : Fin 512) (b : Fin 16) (hb : (b : ℕ) = t.val) (R : Fin 2304) (hR : (R : ℕ) = 2048 + r) :
    zgB m c t (ix3 0 r l) = pE m c (ix3 b R (zgAt l)) := by
  unfold zgB pE iblk
  rw [View.read, emb7 t r l b hb R hR]
  generalize V m c = A
  exact cast_eq _ _

/-- The rows of the stream at a point. -/
abbrev xB (c : Dev nD) (t : Fin cfg0.N) : FVec Ideal S1x256x1024 .f32 := iblk m c 9 t

/-- Where its entries sit: the rows of the stream at a point. -/
theorem emb9 (t : Fin cfg0.N) (r : Fin 256) (l : Fin 1024) (b : Fin 16) (hb : (b : ℕ) = t.val) (R : Fin 256) (hR : (R : ℕ) = r) :
    ((cfg0.win 9).blk t).view.emb (ix3 0 r l) = (ix3 b R l) := by
  blk_ext [idx_val t]

/-- An entry of it: the rows of the stream at a point. -/
theorem xB_at (c : Dev nD) (t : Fin cfg0.N) (r : Fin 256) (l : Fin 1024) (b : Fin 16) (hb : (b : ℕ) = t.val) (R : Fin 256) (hR : (R : ℕ) = r) :
    xB m c t (ix3 0 r l) = ax m c (ix3 b R l) := by
  unfold xB ax iblk
  rw [View.read, emb9 t r l b hb R hR, show V m c (Pipeline.arrRef spec0 9) = m ((c : Thread nD τ).loc main_arg0) from V_main_arg0 m c]
  exact cast_eq _ _

/-- The modulation at a point. -/
abbrev modB (c : Dev nD) (t : Fin cfg0.N) : FVec Ideal S1x1x3072 .f32 := iblk m c 10 t

/-- Where its entries sit: the modulation at a point. -/
theorem emb10 (t : Fin cfg0.N) (l : Fin 3072) :
    ((cfg0.win 10).blk t).view.emb (ix3 0 0 l) = (ix3 16 0 l) := by
  blk_ext [idx_val t]

/-- An entry of it: the modulation at a point. -/
theorem modB_at (c : Dev nD) (t : Fin cfg0.N) (l : Fin 3072) :
    modB m c t (ix3 0 0 l) = modE m c (ix3 16 0 l) := by
  unfold modB modE iblk
  rw [View.read, emb10 t l]
  generalize V m c = A
  exact cast_eq _ _

/-- The norm's weight at a point. -/
abbrev gB (c : Dev nD) (t : Fin cfg0.N) : FVec Ideal S1x1024 .f32 := iblk m c 11 t

/-- Where its entries sit: the norm's weight at a point. -/
theorem emb11 (t : Fin cfg0.N) (l : Fin 1024) :
    ((cfg0.win 11).blk t).view.emb (ix2 0 l) = (ix2 0 l) := by
  blk_ext [idx_val t]

/-- An entry of it: the norm's weight at a point. -/
theorem gB_at (c : Dev nD) (t : Fin cfg0.N) (l : Fin 1024) :
    gB m c t (ix2 0 l) = gE m c (ix2 0 l) := by
  unfold gB gE iblk
  rw [View.read, emb11 t l]
  generalize V m c = A
  exact cast_eq _ _

/-- The branches' weights at a point. -/
abbrev wbB (c : Dev nD) (t : Fin cfg0.N) : FVec Ideal S4x512x1024 .bf16 := iblk m c 12 t

/-- Where its entries sit: the branches' weights at a point. -/
theorem emb12 (t : Fin cfg0.N) (i : Fin 4) (l : Fin 512) (n : Fin 1024) :
    ((cfg0.win 12).blk t).view.emb (ix3 i l n) = (ix3 i l n) := by
  blk_ext [idx_val t]

/-- An entry of it: the branches' weights at a point. -/
theorem wbB_at (c : Dev nD) (t : Fin cfg0.N) (i : Fin 4) (l : Fin 512) (n : Fin 1024) :
    wbB m c t (ix3 i l n) = wbE m c (ix3 i l n) := by
  unfold wbB wbE iblk
  rw [View.read, emb12 t i l n]
  generalize V m c = A
  exact cast_eq _ _

/-- The output matrix at a point. -/
abbrev woB (c : Dev nD) (t : Fin cfg0.N) : FVec Ideal S1024x1024 .bf16 := iblk m c 13 t

/-- Where its entries sit: the output matrix at a point. -/
theorem emb13 (t : Fin cfg0.N) (n k : Fin 1024) :
    ((cfg0.win 13).blk t).view.emb (ix2 n k) = (ix2 n k) := by
  blk_ext [idx_val t]

/-- An entry of it: the output matrix at a point. -/
theorem woB_at (c : Dev nD) (t : Fin cfg0.N) (n k : Fin 1024) :
    woB m c t (ix2 n k) = woE m c (ix2 n k) := by
  unfold woB woE iblk
  rw [View.read, emb13 t n k]
  generalize V m c = A
  exact cast_eq _ _

/-- Where the mixing gates' entries sit. -/
theorem emb8 (t : Fin cfg0.N) (j : ((cfg0.win 8).xblock (cfg0.grid.coords t)).Idx) (b : Fin 16) (hb : (b : ℕ) = t.val) (R : Fin 2304)
    (hR : (R : ℕ) = 2048 + (j 1).val) (n : Fin 10752) (hn : (n : ℕ) = (j 2).val) (h0 : (j 0).val = 0) :
    ((cfg0.win 8).blk t).view.emb j = ix3 b R n := by
  blk_ext [idx_val t]

/-- The mixing gates at a point. -/
abbrev qB (c : Dev nD) (t : Fin cfg0.N) : FVec Ideal S1x256x4096 .bf16 := X0_8 m c t

/-- An entry of the mixing gates at a point. -/
theorem qB_at (c : Dev nD) (t : Fin cfg0.N) (r : Fin 256) (i : Fin 4) (n : Fin 1024) (b : Fin 16) (hb : (b : ℕ) = t.val) (R : Fin 2304)
    (hR : (R : ℕ) = 2048 + r) : qB m c t (ix3 0 r (colAt i n)) = pE m c (ix3 b R (mixAt i n)) := by
  unfold qB pE X0_8 Pipeline.Window.fill
  rw [dif_pos (moved0_8 t _)]
  unfold iblk
  rw [View.read, emb8 t _ b hb R hR (mixAt i n) rfl rfl]
  generalize V m c = A
  exact cast_eq _ _

/-- The sum of the branches from a point's blocks is that of the point's batch and row. -/
theorem rowMix_at (c : Dev nD) (t : Fin cfg0.N) (b : Fin 16) (hb : (b : ℕ) = t.val) (r : Fin 256) (R : Fin 256)
    (hR : (R : ℕ) = r) (n : Fin 1024) :
    rowMix (yaB m c t) (ybB m c t) (yhB m c t) (ygB m c t) (zaB m c t) (zbB m c t) (zhB m c t) (zgB m c t) (qB m c t) (wbB m c t) r n
      = mixed (ap m c) (aya m c) (ayb m c) (ayh m c) (ayg m c) (awb m c) b R n := by
  unfold rowMix mixed
  have e : ∀ i l, wbB m c t (ix3 i l n) = half (awb m c (ix3 i l n)) := fun i l => (wbB_at m c t i l n).trans (wbE_at m c _)
  have q : ∀ i, qB m c t (ix3 0 r (colAt i n)) = half (ap m c (ix3 b (context R) (mixAt i n))) := fun i =>
    (qB_at m c t r i n b hb (context R) (congrArg (2048 + ·) hR)).trans (pE_at m c _)
  rw [q 0, q 1, q 2, q 3, funext (e 0), funext (e 1), funext (e 2), funext (e 3),
    funext fun l => (zaB_at m c t r l b hb (context R) (congrArg (2048 + ·) hR)).trans (pE_at m c _), funext fun l => (zbB_at m c t r l b hb (context R) (congrArg (2048 + ·) hR)).trans (pE_at m c _),
    funext fun l => (zhB_at m c t r l b hb (context R) (congrArg (2048 + ·) hR)).trans (pE_at m c _), funext fun l => (zgB_at m c t r l b hb (context R) (congrArg (2048 + ·) hR)).trans (pE_at m c _),
    funext fun l => (yaB_at m c t r l b hb (context R) (congrArg (2048 + ·) hR)).trans (yaE_at m c _), funext fun l => (ybB_at m c t r l b hb (context R) (congrArg (2048 + ·) hR)).trans (ybE_at m c _),
    funext fun l => (yhB_at m c t r l b hb R hR).trans (yhE_at m c _), funext fun l => (ygB_at m c t r l b hb (context R) (congrArg (2048 + ·) hR)).trans (ygE_at m c _)]
  refine congrArg₂ (· + ·) (congrArg₂ (· + ·) (congrArg₂ (· + ·) ?_ ?_) ?_) ?_
  all_goals exact tanhBranch_half _ _ _ _

/-- What point `t` leaves in its block is the merge at the place the block has in the array. -/
theorem point (c : Dev nD) (t : Fin cfg0.N) (y : S1x256x1024.Idx) (b : Fin 16) (hb : (b : ℕ) = t.val) (R : Fin 256)
    (hR : (R : ℕ) = y 1) :
    outsAt0 m c t y = ax m c (ix3 b R (y 2)) + amod m c (ix2 16 (gateAt (y 2)))
      * normRow (fun k => ∑ n : Fin 1024, mixed (ap m c) (aya m c) (ayb m c) (ayh m c) (ayg m c) (awb m c) b R n * awo m c (ix2 n k))
        (fun l => ag m c (ix1 l)) (y 2) := by
  unfold outsAt0
  refine (block_A c _ _ _ _ _ _ _ _ _ _ _ _ _ _ _ _ _ _ _ _ _ _ _ _ _ _ _ _ _ _ _ (yaB m c t) (ybB m c t) (yhB m c t) (ygB m c t) (zaB m c t) (zbB m c t)
    (zhB m c t) (zgB m c t) (qB m c t) (xB m c t) (modB m c t) (gB m c t) (wbB m c t) (woB m c t) y).trans ?_
  refine congrArg₂ (· + ·) (xB_at m c t (y 1) (y 2) b hb R hR) (congrArg₂ (· * ·) ((modB_at m c t _ ).trans (modE_at m c _ _)) ?_)
  refine congrArg₂ (fun o g => normRow o g (y 2)) (funext fun k => Finset.sum_congr rfl fun n _ => congrArg₂ (· * ·) (rowMix_at m c t b hb (y 1) R hR n) ?_) (funext fun l => ?_)
  · exact (woB_at m c t n k).trans (woE_at m c _)
  · exact (gB_at m c t l).trans (gE_at m c l)

/-- The merge at an index whose coordinates are known. -/
theorem merged_at (x : FVec Ideal S16x256x1024 .f32) (p : FVec Ideal S16x2304x10752 .f32) (ya yb : FVec Ideal S16x2304x512 .f32)
    (yh : FVec Ideal S16x256x512 .f32) (yg : FVec Ideal S16x2304x512 .f32) (mod : FVec Ideal S24x3072 .f32) (g : FVec Ideal S1024 .f32)
    (wb : FVec Ideal S4x512x1024 .f32) (wo : FVec Ideal S1024x1024 .f32) (i : S16x256x1024.Idx) (b : Fin 16) (R : Fin 256) (k : Fin 1024)
    (hb : (i 0 : ℕ) = b) (hR : (i 1 : ℕ) = R) (hk : (i 2 : ℕ) = k) :
    merged x p ya yb yh yg mod g wb wo i = x (ix3 b R k) + mod (ix2 16 (gateAt k))
      * normRow (fun k => ∑ n : Fin 1024, mixed p ya yb yh yg wb b R n * wo (ix2 n k)) (fun l => g (ix1 l)) k := by
  obtain rfl : i = ix3 b R k := by
    funext a
    match a with
    | 0 => exact Fin.ext hb
    | 1 => exact Fin.ext hR
    | 2 => exact Fin.ext hk
  rfl

/-- THE RESULT ARRAY of the merge call. -/
theorem final (c : Dev nD) :
    (dats m 0 c).arrAt 14 (cfgs 0).N = merged (ax m c) (ap m c) (aya m c) (ayb m c) (ayh m c) (ayg m c) (amod m c) (ag m c) (awb m c) (awo m c) := by
  refine (dats m 0 c).arrAt_eq_of_covers 14 _ (by decide +kernel) fun t _ y => ?_
  blk_simp
  rw [after0_14]
  have ht : t.val < 16 := lt_of_lt_of_eq t.isLt N_0
  have y0 : (y 0 : ℕ) < 1 := (y 0).isLt
  have y1 : (y 1 : ℕ) < 256 := (y 1).isLt
  have E0 : ((((cfg0.win 14).blk t).view.emb y) 0 : ℕ) = t.val := by blk_simp [idx_val t]
  have E1 : ((((cfg0.win 14).blk t).view.emb y) 1 : ℕ) = y 1 := by blk_simp [idx_val t]
  have E2 : ((((cfg0.win 14).blk t).view.emb y) 2 : ℕ) = y 2 := by blk_simp [idx_val t]
  have hb : t.val < 16 := ht
  have hR : (y 1 : ℕ) < 256 := y1
  exact (point m c t y ⟨_, hb⟩ rfl ⟨_, hR⟩ rfl).trans (merged_at _ _ _ _ _ _ _ _ _ _ _ ⟨_, hb⟩ ⟨_, hR⟩ (y 2) E0 E1 E2).symm

end Cert.MergeCtxIdeal.Value

end
-- ==== Proof.MergeCtxRefAt.lean ====
/- The reference's merge of the context rows, entry by entry: the gated branches summed, projected, normed and added to the stream. -/
module

public import proofs.«01_k».proof.Proof.Gen.MergeCtxRefIdeal.Run
public import proofs.«01_k».proof.Proof.MergeCtxSpec
public import Idealize.ShloMosaic.Lib.Pointwise

@[expose] public section

set_option maxRecDepth 16384

noncomputable section

namespace Cert.MergeCtxRefIdeal.Value

open Cert.MergeCtxRefIdeal Cert.MergeCtxRefIdeal.Gen Idealize.ShloMosaic Idealize.ShloMosaic.TcCoe Idealize.SL.Sem
open Cert.HalfGate
open Cert.MergeIdeal.Value (normRow gateAt mixAt zaAt zbAt zhAt zgAt)
open Cert.MergeCtxIdeal.Value (context mixed merged)

/-- The context rows of the projection. -/
def contextP (p : FVec Ideal S16x2304x10752 .f32) : FVec Ideal S16x256x10752 .f32 :=
  extractStridedSlice S16x256x10752 ![0, 2048, 0] p slices_S16x2304x10752_S16x256x10752_0_2048_0

/-- The four branches' mixing gates. -/
def gates (q : FVec Ideal S16x256x10752 .f32) : FVec Ideal S16x256x4x1024 .f32 :=
  shapeCast _ (Host.divf (broadcastInDim S16x256x4096 ![] bcast_S_S16x256x4096 (constant S_ .f32 0x3F800000#32)) (addf (broadcastInDim S16x256x4096 ![] bcast_S_S16x256x4096 (constant S_ .f32 0x3F800000#32)) (Host.exp (Host.negf (extractStridedSlice S16x256x4096 ![0, 0, 0] q slices_S16x256x10752_S16x256x4096_0_0_0))))) shapeCasts_S16x256x4096_S16x256x4x1024

/-- One branch: its rows gated, times its weights, times its mixing gate. -/
def term (s : FVec Ideal S16x256x1x1024 .f32) (y z : FVec Ideal S16x256x512 .f32) (w : FVec Ideal S1x512x1024 .f32) : FVec Ideal S16x256x1024 .f32 :=
  mulf (shapeCast _ s shapeCasts_S16x256x1x1024_S16x256x1024) (Host.dotGeneral dot_S16x256x512_S512x1024_S16x256x1024_2_0_01_1_n_n none (mulf y (mulf z (Host.divf (broadcastInDim S16x256x512 ![] bcast_S_S16x256x512 (constant S_ .f32 0x3F800000#32)) (addf (broadcastInDim S16x256x512 ![] bcast_S_S16x256x512 (constant S_ .f32 0x3F800000#32)) (Host.exp (Host.negf z)))))) (shapeCast _ w shapeCasts_S1x512x1024_S512x1024))

/-- The first branch. -/
def term0 (q : FVec Ideal S16x256x10752 .f32) (y : FVec Ideal S16x2304x512 .f32) (w : FVec Ideal S4x512x1024 .f32) : FVec Ideal S16x256x1024 .f32 :=
  term (extractStridedSlice S16x256x1x1024 ![0, 0, 0, 0] (gates q) slices_S16x256x4x1024_S16x256x1x1024_0_0_0_0)
    (extractStridedSlice S16x256x512 ![0, 2048, 0] y slices_S16x2304x512_S16x256x512_0_2048_0)
    (extractStridedSlice S16x256x512 ![0, 0, 4608] q slices_S16x256x10752_S16x256x512_0_0_4608)
    (extractStridedSlice S1x512x1024 ![0, 0, 0] w slices_S4x512x1024_S1x512x1024_0_0_0)

/-- The second branch. -/
def term1 (q : FVec Ideal S16x256x10752 .f32) (y : FVec Ideal S16x2304x512 .f32) (w : FVec Ideal S4x512x1024 .f32) : FVec Ideal S16x256x1024 .f32 :=
  term (extractStridedSlice S16x256x1x1024 ![0, 0, 1, 0] (gates q) slices_S16x256x4x1024_S16x256x1x1024_0_0_1_0)
    (extractStridedSlice S16x256x512 ![0, 2048, 0] y slices_S16x2304x512_S16x256x512_0_2048_0)
    (extractStridedSlice S16x256x512 ![0, 0, 6656] q slices_S16x256x10752_S16x256x512_0_0_6656)
    (extractStridedSlice S1x512x1024 ![1, 0, 0] w slices_S4x512x1024_S1x512x1024_1_0_0)

/-- The third branch. -/
def term2 (q : FVec Ideal S16x256x10752 .f32) (y : FVec Ideal S16x256x512 .f32) (w : FVec Ideal S4x512x1024 .f32) : FVec Ideal S16x256x1024 .f32 :=
  term (extractStridedSlice S16x256x1x1024 ![0, 0, 2, 0] (gates q) slices_S16x256x4x1024_S16x256x1x1024_0_0_2_0)
    y
    (extractStridedSlice S16x256x512 ![0, 0, 8704] q slices_S16x256x10752_S16x256x512_0_0_8704)
    (extractStridedSlice S1x512x1024 ![2, 0, 0] w slices_S4x512x1024_S1x512x1024_2_0_0)

/-- The fourth branch. -/
def term3 (q : FVec Ideal S16x256x10752 .f32) (y : FVec Ideal S16x2304x512 .f32) (w : FVec Ideal S4x512x1024 .f32) : FVec Ideal S16x256x1024 .f32 :=
  term (extractStridedSlice S16x256x1x1024 ![0, 0, 3, 0] (gates q) slices_S16x256x4x1024_S16x256x1x1024_0_0_3_0)
    (extractStridedSlice S16x256x512 ![0, 2048, 0] y slices_S16x2304x512_S16x256x512_0_2048_0)
    (extractStridedSlice S16x256x512 ![0, 0, 10240] q slices_S16x256x10752_S16x256x512_0_0_10240)
    (extractStridedSlice S1x512x1024 ![3, 0, 0] w slices_S4x512x1024_S1x512x1024_3_0_0)

/-- The sum of the branches, projected. -/
def outs (a : FVec Ideal S16x256x1024 .f32) (wo : FVec Ideal S1024x1024 .f32) : FVec Ideal S16x256x1024 .f32 :=
  Host.dotGeneral dot_S16x256x1024_S1024x1024_S16x256x1024_2_0_01_1_n_n none a wo

/-- The projected rows normed, times the context's gate, added to the stream. -/
def finish (x o : FVec Ideal S16x256x1024 .f32) (mod : FVec Ideal S24x3072 .f32) (g : FVec Ideal S1024 .f32) : FVec Ideal S16x256x1024 .f32 :=
  addf x (mulf (broadcastInDim S16x256x1024 ![0, 1, 2] bcast_S1x1x1024_S16x256x1024_0_1_2 (broadcastInDim S1x1x1024 ![2] bcast_S1024_S1x1x1024_2 (extractStridedSlice S1024 ![2048] (shapeCast _ (extractStridedSlice S1x3072 ![16, 0] mod slices_S24x3072_S1x3072_16_0) shapeCasts_S1x3072_S3072) slices_S3072_S1024_2048))) (mulf (mulf o (broadcastInDim S16x256x1024 ![0, 1, 2] bcast_S16x256x1_S16x256x1024_0_1_2 (Host.rsqrt (addf (Host.divf (broadcastInDim S16x256x1 ![0, 1] bcast_S16x256_S16x256x1_0_1 (Host.reduceAdd (mulf o o) (constant S_ .f32 0x00000000#32) reducesTo_S16x256x1024_S16x256_d2 h_S_)) (broadcastInDim S16x256x1 ![] bcast_S_S16x256x1 (constant S_ .f32 0x44800000#32))) (broadcastInDim S16x256x1 ![] bcast_S_S16x256x1 (constant S_ .f32 0x358637BD#32)))))) (broadcastInDim S16x256x1024 ![0, 1, 2] bcast_S1x1x1024_S16x256x1024_0_1_2 (broadcastInDim S1x1x1024 ![2] bcast_S1024_S1x1x1024_2 g))))

/-- An entry of the context rows. -/
theorem contextP_at (p : FVec Ideal S16x2304x10752 .f32) (b : Fin 16) (r : Fin 256) (n : Fin 10752) :
    contextP p (ix3 b r n) = p (ix3 b (context r) n) := by
  pointwise [contextP, context]

/-- An entry of the mixing gates. -/
theorem gates_at (q : FVec Ideal S16x256x10752 .f32) (b : Fin 16) (r : Fin 256) (i : Fin 4) (n : Fin 1024) :
    gates q (ix4 b r i n) = logis (q (ix3 b r (mixAt i n))) := by
  pointwise [gates, logis, mixAt]

/-- An entry of a branch. -/
theorem term_at (s : FVec Ideal S16x256x1x1024 .f32) (y z : FVec Ideal S16x256x512 .f32) (w : FVec Ideal S1x512x1024 .f32)
    (b : Fin 16) (r : Fin 256) (n : Fin 1024) :
    term s y z w (ix3 b r n) = s (ix4 b r 0 n) * ∑ l : Fin 512, y (ix3 b r l) * (z (ix3 b r l) * logis (z (ix3 b r l))) * w (ix3 0 l n) := by
  pointwise [term, logis]

/-- An entry of the first branch. -/
theorem term0_at (q : FVec Ideal S16x256x10752 .f32) (y : FVec Ideal S16x2304x512 .f32) (w : FVec Ideal S4x512x1024 .f32) (b : Fin 16) (r : Fin 256) (n : Fin 1024) :
    term0 q y w (ix3 b r n) = branch (fun l => y (ix3 b (context r) l)) (fun l => q (ix3 b r (zaAt l))) (fun l => w (ix3 0 l n)) (q (ix3 b r (mixAt 0 n))) := by
  unfold term0 branch
  have hg := gates_at q b r 0 n
  rw [term_at, ← hg]
  clear hg
  generalize gates q = s
  pointwise [zaAt, context]

/-- An entry of the second branch. -/
theorem term1_at (q : FVec Ideal S16x256x10752 .f32) (y : FVec Ideal S16x2304x512 .f32) (w : FVec Ideal S4x512x1024 .f32) (b : Fin 16) (r : Fin 256) (n : Fin 1024) :
    term1 q y w (ix3 b r n) = branch (fun l => y (ix3 b (context r) l)) (fun l => q (ix3 b r (zbAt l))) (fun l => w (ix3 1 l n)) (q (ix3 b r (mixAt 1 n))) := by
  unfold term1 branch
  have hg := gates_at q b r 1 n
  rw [term_at, ← hg]
  clear hg
  generalize gates q = s
  pointwise [zbAt, context]

/-- An entry of the third branch. -/
theorem term2_at (q : FVec Ideal S16x256x10752 .f32) (y : FVec Ideal S16x256x512 .f32) (w : FVec Ideal S4x512x1024 .f32) (b : Fin 16) (r : Fin 256) (n : Fin 1024) :
    term2 q y w (ix3 b r n) = branch (fun l => y (ix3 b r l)) (fun l => q (ix3 b r (zhAt l))) (fun l => w (ix3 2 l n)) (q (ix3 b r (mixAt 2 n))) := by
  unfold term2 branch
  have hg := gates_at q b r 2 n
  rw [term_at, ← hg]
  clear hg
  generalize gates q = s
  pointwise [zhAt]

/-- An entry of the fourth branch. -/
theorem term3_at (q : FVec Ideal S16x256x10752 .f32) (y : FVec Ideal S16x2304x512 .f32) (w : FVec Ideal S4x512x1024 .f32) (b : Fin 16) (r : Fin 256) (n : Fin 1024) :
    term3 q y w (ix3 b r n) = branch (fun l => y (ix3 b (context r) l)) (fun l => q (ix3 b r (zgAt l))) (fun l => w (ix3 3 l n)) (q (ix3 b r (mixAt 3 n))) := by
  unfold term3 branch
  have hg := gates_at q b r 3 n
  rw [term_at, ← hg]
  clear hg
  generalize gates q = s
  pointwise [zgAt, context]

/-- An entry of the projected sum. -/
theorem outs_at (a : FVec Ideal S16x256x1024 .f32) (wo : FVec Ideal S1024x1024 .f32) (b : Fin 16) (r : Fin 256) (k : Fin 1024) :
    outs a wo (ix3 b r k) = ∑ n : Fin 1024, a (ix3 b r n) * wo (ix2 n k) := by
  pointwise [outs]

/-- An entry of the last step. -/
theorem finish_at (x o : FVec Ideal S16x256x1024 .f32) (mod : FVec Ideal S24x3072 .f32) (g : FVec Ideal S1024 .f32) (i : S16x256x1024.Idx) :
    finish x o mod g i = x i + mod (ix2 16 (gateAt (i 2)))
      * normRow (fun k => o (ix3 (i 0) (i 1) k)) (fun l => g (ix1 l)) (i 2) := by
  pointwise [finish, normRow, gateAt]

/-- An entry of the sum of the branches. -/
theorem sum_at (p : FVec Ideal S16x2304x10752 .f32) (ya yb : FVec Ideal S16x2304x512 .f32) (yh : FVec Ideal S16x256x512 .f32)
    (yg : FVec Ideal S16x2304x512 .f32) (wb : FVec Ideal S4x512x1024 .f32) (b : Fin 16) (r : Fin 256) (n : Fin 1024) :
    addf (addf (addf (term0 (contextP p) ya wb) (term1 (contextP p) yb wb)) (term2 (contextP p) yh wb)) (term3 (contextP p) yg wb) (ix3 b r n)
      = mixed p ya yb yh yg wb b r n := by
  have e0 := term0_at (contextP p) ya wb b r n
  have e1 := term1_at (contextP p) yb wb b r n
  have e2 := term2_at (contextP p) yh wb b r n
  have e3 := term3_at (contextP p) yg wb b r n
  simp only [contextP_at] at e0 e1 e2 e3
  unfold mixed
  rw [← e0, ← e1, ← e2, ← e3]
  rfl

/-- THE REFERENCE'S RESULT over its arguments: the merge. -/
theorem finish_eq (x : FVec Ideal S16x256x1024 .f32) (p : FVec Ideal S16x2304x10752 .f32) (ya yb : FVec Ideal S16x2304x512 .f32)
    (yh : FVec Ideal S16x256x512 .f32) (yg : FVec Ideal S16x2304x512 .f32) (mod : FVec Ideal S24x3072 .f32) (g : FVec Ideal S1024 .f32)
    (wb : FVec Ideal S4x512x1024 .f32) (wo : FVec Ideal S1024x1024 .f32) :
    finish x (outs (addf (addf (addf (term0 (contextP p) ya wb) (term1 (contextP p) yb wb)) (term2 (contextP p) yh wb)) (term3 (contextP p) yg wb)) wo) mod g
      = merged x p ya yb yh yg mod g wb wo := by
  funext i
  rw [finish_at]
  unfold merged
  have h : ∀ k, outs (addf (addf (addf (term0 (contextP p) ya wb) (term1 (contextP p) yb wb)) (term2 (contextP p) yh wb)) (term3 (contextP p) yg wb)) wo (ix3 (i 0) (i 1) k)
      = ∑ n : Fin 1024, mixed p ya yb yh yg wb (i 0) (i 1) n * wo (ix2 n k) := fun k =>
    (outs_at _ _ _ _ _).trans (Finset.sum_congr rfl fun n _ => congrArg (· * wo (ix2 n k)) (sum_at p ya yb yh yg wb (i 0) (i 1) n))
  exact congrArg (fun o => x i + mod (ix2 16 (gateAt (i 2))) * normRow o (fun l => g (ix1 l)) (i 2)) (funext h)

/-- THE REFERENCE'S RESULT of its arguments in memory. -/
theorem result (m : (ℓ : Loc nD τ sig) → Buf (Elt Ideal) ℓ) (c : Dev nD) :
    res_out0 m c = merged (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) (m ((c.tc : Thread nD τ).loc main_arg9)) := by
  refine Eq.trans ?_ (finish_eq _ _ _ _ _ _ _ _ _ _)
  rfl

end Cert.MergeCtxRefIdeal.Value

end
-- ==== Proof.MergeCtxClaim.lean ====
/- The claims about the merge of the context rows: it and its reference run, keep their arguments, and
   compute one array. -/
module

public import proofs.«01_k».proof.Proof.MergeCtxValue
public import proofs.«01_k».proof.Proof.MergeCtxRefAt
public import proofs.«01_k».proof.Defs
public import proofs.«01_k».proof.Proof.Gen.MergeCtx.Frame
public import Idealize.ShloMosaic.Lib.Claim
public import Idealize.ShloMosaic.Lib.Quiescent

@[expose] public section

noncomputable section

namespace Cert.Proof

open Idealize.ShloMosaic Idealize.SL.Sem

/-- The printed merge of the context rows runs, keeps its arguments and ends with every counter at zero. -/
theorem frame_mergeCtx : Cert.quiescent_MergeCtx := fun m g _ => Cert.MergeCtx.Gen.frame m g

/-- The idealized merge of the context rows runs, keeps its arguments and ends with every counter at zero. -/
theorem frame_mergeCtxIdeal : Cert.quiescent_MergeCtxIdeal := fun m g _ => Cert.MergeCtxIdeal.Gen.frame m g

/-- The reference of that merge runs, keeps its arguments and ends with every counter at zero. -/
theorem frame_mergeCtxRef : Cert.quiescent_MergeCtxRefIdeal := by
  intro m g _
  refine θ_run_mono (Cert.MergeCtxRefIdeal.Value.run m g) fun r h => ⟨fun c => (h c).2, ?_⟩
  exact sem_eq_zero_of_no_sems rfl _

/-- The merge of the context rows and its reference compute one array. -/
theorem algebraic_mergeCtx : Cert.algebraic_MergeCtxIdeal_MergeCtxRefIdeal := by
  pair_intro
  · run_from Cert.MergeCtxIdeal.Value.run_blocks m g
  · run_from Cert.MergeCtxRefIdeal.Value.run m' g'
    refine (Cert.MergeCtxRefIdeal.Value.result _ _).trans ?_
    refine Eq.trans ?_ (Cert.MergeCtxIdeal.Value.final m c).symm
    obtain ⟨h0, h1, h2, h3, h4, h5, h6, h7, h8, h9⟩ := hagree c
    rw [h0, h1, h2, h3, h4, h5, h6, h7, h8, h9]

end Cert.Proof

end
-- ==== Proof.AdalnValue.lean ====
/- The array the modulation call leaves: every row of conditions through `silu`, times the matrix, plus the bias. -/
module

public import proofs.«01_k».proof.Proof.HalfGate
public import proofs.«01_k».proof.Proof.Gen.AdalnIdeal.Value
public import Idealize.ShloMosaic.Lib.Pipeline.ValueKit
public import Idealize.ShloMosaic.Lib.Pointwise
public import Idealize.ShloMosaic.Lib.VecWindow
public import Idealize.ShloMosaic.Lib.Claim

@[expose] public section

set_option maxRecDepth 16384

noncomputable section

namespace Cert.AdalnIdeal.Value

open Cert.AdalnIdeal Cert.AdalnIdeal.Gen Idealize.ShloMosaic Idealize.ShloMosaic.TcCoe Idealize.SL.Sem
open Idealize.ShloMosaic.Pipeline (Dat)
open Cert.HalfGate

variable (m : (ℓ : Loc nD τ sig) → Buf (Elt Ideal) ℓ)

/-- The modulation: a row of conditions, each times its logistic, times the matrix, plus the bias. -/
def modulation (cc : FVec Ideal S24x1024 .f32) (w : FVec Ideal S1024x3072 .f32) (b : FVec Ideal S3072 .f32) : FVec Ideal S24x3072 .f32 :=
  fun i => (∑ k : Fin 1024, cc (ix2 (i 0) k) * logis (cc (ix2 (i 0) k)) * w (ix2 k (i 1))) + b (ix1 (i 1))

/-- The conditions, as given. -/
abbrev ac (c : Dev nD) : FVec Ideal S24x1024 .f32 := m ((c : Thread nD τ).loc main_arg0)

/-- The matrix, as given. -/
abbrev aw (c : Dev nD) : FVec Ideal S1024x3072 .f32 := m ((c : Thread nD τ).loc main_arg1)

/-- The bias, as given. -/
abbrev ab (c : Dev nD) : FVec Ideal S3072 .f32 := m ((c : Thread nD τ).loc main_arg2)

/-- The bias as the call reads it. -/
abbrev bE (c : Dev nD) : FVec Ideal S1x3072 .f32 := V m c main_v0

/-- An entry of the bias the call reads. -/
theorem bE_at (c : Dev nD) (l : Fin 3072) : bE m c (ix2 0 l) = ab m c (ix1 l) := by
  unfold bE
  entry_read
  pointwise

/-- The stored block of a point. -/
theorem stored_at (x0 : FVec Ideal S24x1024 .f32) (x1 : FVec Ideal S1024x768 .f32) (x2 : FVec Ideal S1x768 .f32) (j : S24x768.Idx) :
    k0_pay1 (F := Ideal) x0 x1 x2 j = (∑ k : Fin 1024, x0 (ix2 (j 0) k) * logis (x0 (ix2 (j 0) k)) * x1 (ix2 k (j 1))) + x2 (ix2 0 (j 1)) := by
  pointwise [k0_pay1, logis]
  simp only [zero_sub]

/-- What a point leaves in its output block. -/
theorem block_A (x0 : FVec Ideal S24x1024 .f32) (x1 : FVec Ideal S1024x768 .f32) (x2 : FVec Ideal S1x768 .f32) (j : S24x768.Idx) :
    out0_3 (F := Ideal) x0 x1 x2 j = (∑ k : Fin 1024, x0 (ix2 (j 0) k) * logis (x0 (ix2 (j 0) k)) * x1 (ix2 k (j 1))) + x2 (ix2 0 (j 1)) := by
  frame_out
  exact stored_at _ _ _ j

/-- The blocks of grid point `t`: the windows' block indices. -/
theorem idx_val : ∀ t : Fin cfg0.N, win0_0.index t = ![0, 0] ∧ win0_1.index t = ![0, t.val] ∧ win0_2.index t = ![0, t.val]
    ∧ win0_3.index t = ![0, t.val] :=
  (by decide +kernel : ∀ t : Fin grid0.N, _)

/-- The conditions at a point. -/
abbrev cB (c : Dev nD) (t : Fin cfg0.N) : FVec Ideal S24x1024 .f32 := iblk m c 0 t

/-- The matrix's columns at a point. -/
abbrev wB (c : Dev nD) (t : Fin cfg0.N) : FVec Ideal S1024x768 .f32 := iblk m c 1 t

/-- The bias's entries at a point. -/
abbrev bB (c : Dev nD) (t : Fin cfg0.N) : FVec Ideal S1x768 .f32 := iblk m c 2 t

/-- Where the conditions sit. -/
theorem emb0 (t : Fin cfg0.N) (r : Fin 24) (k : Fin 1024) : ((cfg0.win 0).blk t).view.emb (ix2 r k) = ix2 r k := by
  blk_ext [idx_val t]

/-- Where the matrix's columns sit. -/
theorem emb1 (t : Fin cfg0.N) (k : Fin 1024) (l : Fin 768) (n : Fin 3072) (hn : (n : ℕ) = t.val * 768 + l) :
    ((cfg0.win 1).blk t).view.emb (ix2 k l) = ix2 k n := by
  blk_ext [idx_val t]

/-- Where the bias's entries sit. -/
theorem emb2 (t : Fin cfg0.N) (l : Fin 768) (n : Fin 3072) (hn : (n : ℕ) = t.val * 768 + l) :
    ((cfg0.win 2).blk t).view.emb (ix2 0 l) = ix2 0 n := by
  blk_ext [idx_val t]

/-- An entry of the conditions at a point. -/
theorem cB_at (c : Dev nD) (t : Fin cfg0.N) (r : Fin 24) (k : Fin 1024) : cB m c t (ix2 r k) = ac m c (ix2 r k) := by
  unfold cB ac iblk
  rw [View.read, emb0 t r k, show V m c (Pipeline.arrRef spec0 0) = m ((c : Thread nD τ).loc main_arg0) from V_main_arg0 m c]
  exact cast_eq _ _

/-- An entry of the matrix at a point. -/
theorem wB_at (c : Dev nD) (t : Fin cfg0.N) (k : Fin 1024) (l : Fin 768) (n : Fin 3072) (hn : (n : ℕ) = t.val * 768 + l) :
    wB m c t (ix2 k l) = aw m c (ix2 k n) := by
  unfold wB aw iblk
  rw [View.read, emb1 t k l n hn, show V m c (Pipeline.arrRef spec0 1) = m ((c : Thread nD τ).loc main_arg1) from V_main_arg1 m c]
  exact cast_eq _ _

/-- An entry of the bias at a point. -/
theorem bB_at (c : Dev nD) (t : Fin cfg0.N) (l : Fin 768) (n : Fin 3072) (hn : (n : ℕ) = t.val * 768 + l) :
    bB m c t (ix2 0 l) = ab m c (ix1 n) := by
  rw [← bE_at]
  unfold bB bE iblk
  rw [View.read, emb2 t l n hn]
  generalize V m c = A
  exact cast_eq _ _

/-- What point `t` leaves in its block is the modulation at the place the block has in the array. -/
theorem point (c : Dev nD) (t : Fin cfg0.N) (y : S24x768.Idx) (n : Fin 3072) (hn : (n : ℕ) = t.val * 768 + y 1) :
    out0_3 (F := Ideal) (cB m c t) (wB m c t) (bB m c t) y
      = (∑ k : Fin 1024, ac m c (ix2 (y 0) k) * logis (ac m c (ix2 (y 0) k)) * aw m c (ix2 k n)) + ab m c (ix1 n) := by
  refine (block_A _ _ _ y).trans ?_
  refine congrArg₂ (· + ·) (Finset.sum_congr rfl fun k _ => congrArg₂ (· * ·) ?_ (wB_at m c t k (y 1) n hn)) (bB_at m c t (y 1) n hn)
  exact congrArg (fun z => z * logis z) (cB_at m c t (y 0) k)

/-- The modulation at an index whose coordinates are known. -/
theorem modulation_at (cc : FVec Ideal S24x1024 .f32) (w : FVec Ideal S1024x3072 .f32) (b : FVec Ideal S3072 .f32) (i : S24x3072.Idx)
    (r : Fin 24) (n : Fin 3072) (hr : (i 0 : ℕ) = r) (hn : (i 1 : ℕ) = n) :
    modulation cc w b i = (∑ k : Fin 1024, cc (ix2 r k) * logis (cc (ix2 r k)) * w (ix2 k n)) + b (ix1 n) := by
  have e0 : i 0 = r := Fin.ext hr
  have e1 : i 1 = n := Fin.ext hn
  unfold modulation
  rw [e0, e1]

/-- THE RESULT ARRAY of the modulation call. -/
theorem final (c : Dev nD) : (dats m 0 c).arrAt 3 (cfgs 0).N = modulation (ac m c) (aw m c) (ab m c) := by
  refine (dats m 0 c).arrAt_eq_of_covers 3 _ (by decide +kernel) fun t _ y => ?_
  blk_simp
  rw [after0_3]
  have ht : t.val < 4 := lt_of_lt_of_eq t.isLt N_0
  have y1 : (y 1 : ℕ) < 768 := (y 1).isLt
  have E0 : ((((cfg0.win 3).blk t).view.emb y) 0 : ℕ) = y 0 := by blk_simp [idx_val t]
  have E1 : ((((cfg0.win 3).blk t).view.emb y) 1 : ℕ) = t.val * 768 + y 1 := by blk_simp [idx_val t]
  have hn : t.val * 768 + y 1 < 3072 := by omega
  exact (point m c t y ⟨_, hn⟩ rfl).trans (modulation_at _ _ _ _ (y 0) ⟨_, hn⟩ E0 E1).symm

end Cert.AdalnIdeal.Value

end
-- ==== Proof.AdalnRefAt.lean ====
/- The reference's modulation, entry by entry. -/
module

public import proofs.«01_k».proof.Proof.Gen.AdalnRefIdeal.Run
public import proofs.«01_k».proof.Proof.AdalnValue
public import Idealize.ShloMosaic.Lib.Pointwise

@[expose] public section

set_option maxRecDepth 16384

noncomputable section

namespace Cert.AdalnRefIdeal.Value

open Cert.AdalnRefIdeal Cert.AdalnRefIdeal.Gen Idealize.ShloMosaic Idealize.ShloMosaic.TcCoe Idealize.SL.Sem
open Cert.HalfGate Cert.AdalnIdeal.Value

/-- The reference's term is the modulation. -/
theorem result (cc : FVec Ideal S24x1024 .f32) (w : FVec Ideal S1024x3072 .f32) (b : FVec Ideal S3072 .f32) :
    addf (Host.dotGeneral dot_S24x1024_S1024x3072_S24x3072_1_0_0_1_n_n none (mulf cc (Host.divf (broadcastInDim S24x1024 ![] bcast_S_S24x1024 (constant S_ .f32 0x3F800000#32)) (addf (broadcastInDim S24x1024 ![] bcast_S_S24x1024 (constant S_ .f32 0x3F800000#32)) (Host.exp (Host.negf cc))))) w)
      (broadcastInDim S24x3072 ![0, 1] bcast_S1x3072_S24x3072_0_1 (broadcastInDim S1x3072 ![1] bcast_S3072_S1x3072_1 b)) = modulation cc w b := by
  funext i
  pointwise [modulation, logis]

end Cert.AdalnRefIdeal.Value

end
-- ==== Proof.AdalnClaim.lean ====
/- The claims about the modulation call: it and its reference run, keep their arguments, and compute one array. -/
module

public import proofs.«01_k».proof.Proof.AdalnValue
public import proofs.«01_k».proof.Proof.AdalnRefAt
public import proofs.«01_k».proof.Defs
public import proofs.«01_k».proof.Proof.Gen.Adaln.Frame
public import Idealize.ShloMosaic.Lib.Claim
public import Idealize.ShloMosaic.Lib.Quiescent

@[expose] public section

noncomputable section

namespace Cert.Proof

open Idealize.ShloMosaic Idealize.SL.Sem

/-- The printed modulation call runs, keeps its arguments and ends with every counter at zero. -/
theorem frame_adaln : Cert.quiescent_Adaln := fun m g _ => Cert.Adaln.Gen.frame m g

/-- The idealized modulation call runs, keeps its arguments and ends with every counter at zero. -/
theorem frame_adalnIdeal : Cert.quiescent_AdalnIdeal := fun m g _ => Cert.AdalnIdeal.Gen.frame m g

/-- The reference of the modulation call runs, keeps its arguments and ends with every counter at zero. -/
theorem frame_adalnRef : Cert.quiescent_AdalnRefIdeal := by
  intro m g _
  refine θ_run_mono (Cert.AdalnRefIdeal.Value.run m g) fun r h => ⟨fun c => (h c).2, ?_⟩
  exact sem_eq_zero_of_no_sems rfl _

/-- The modulation call and its reference compute one array. -/
theorem algebraic_adaln : Cert.algebraic_AdalnIdeal_AdalnRefIdeal := by
  pair_intro
  · run_from Cert.AdalnIdeal.Value.run_blocks m g
  · run_from Cert.AdalnRefIdeal.Value.run m' g'
    exact (Cert.AdalnRefIdeal.Value.result _ _ _).trans (Cert.AdalnIdeal.Value.final m c).symm

end Cert.Proof

end
-- ==== Proof.PrepPoint.lean ====
/- What one grid point of the `mla_prep` call leaves in its three output blocks, from its input blocks. -/
module

public import proofs.«01_k».proof.Proof.Gen.PrepIdeal.Value
public import Idealize.ShloMosaic.Lib.Pipeline.ValueKit
public import Idealize.ShloMosaic.Lib.Pointwise
public import Idealize.ShloMosaic.Lib.VecWindow
public import Idealize.ShloMosaic.Lib.Claim

@[expose] public section

set_option maxRecDepth 16384

noncomputable section

namespace Cert.PrepIdeal.Value

open Cert.PrepIdeal Cert.PrepIdeal.Gen Idealize.ShloMosaic Idealize.ShloMosaic.TcCoe Idealize.SL.Sem
open Idealize.ShloMosaic.Pipeline (Dat)

/-- Entry `k` of a row of 256 entries, normed. -/
def normQ (x g : Fin 256 → EReal) (k : Fin 256) : EReal :=
  x k * Ideal.rsqrt (Ideal.div (∑ l, x l * x l) (Ideal.ofBits FTy.f32 1132462080#32) + Ideal.ofBits FTy.f32 897988541#32) * g k

/-- Entry `k` of a row of 128 entries, normed. -/
def normK (x g : Fin 128 → EReal) (k : Fin 128) : EReal :=
  x k * Ideal.rsqrt (Ideal.div (∑ l, x l * x l) (Ideal.ofBits FTy.f32 1124073472#32) + Ideal.ofBits FTy.f32 897988541#32) * g k

/-- Where the compressed query's entry `k` sits in the block of 512 columns. -/
def colQ (k : Fin 256) : Fin 512 := ⟨(k : ℕ), by omega⟩

/-- Where the compressed key's entry `k` sits in it. -/
def colK (k : Fin 128) : Fin 512 := ⟨256 + (k : ℕ), by omega⟩

/-- Where entry `k` of the last 128 columns sits in it. -/
def colM (k : Fin 128) : Fin 512 := ⟨384 + (k : ℕ), by omega⟩

/-- The lane 32 further on, around 1024 lanes. -/
def on1024 (l : Fin 1024) : Fin 1024 := ⟨((l : ℕ) + 1024 - 992) % 1024, Nat.mod_lt _ (by norm_num)⟩

/-- The lane 32 further on, around 128 lanes. -/
def on128 (l : Fin 128) : Fin 128 := ⟨((l : ℕ) + 128 - 96) % 128, Nat.mod_lt _ (by norm_num)⟩

/-- The lane of a slot. -/
def laneOf (l : Fin 1024) : Fin 128 := ⟨(l : ℕ) % 128, Nat.mod_lt _ (by norm_num)⟩

/-- A query entry from the point's blocks. -/
def qAt (x0 : FVec Ideal S1x256x512 .bf16) (x1 : FVec Ideal S1x256 .f32) (x3 : FVec Ideal S256x1024 .bf16) (r : Fin 256) (l : Fin 1024) : EReal :=
  ∑ k : Fin 256, normQ (fun l => x0 (ix3 0 r (colQ l))) (fun l => x1 (ix2 0 l)) k * x3 (ix2 k l)

/-- A key's or value's entry from the point's blocks. -/
def kvAt (x0 : FVec Ideal S1x256x512 .bf16) (x2 : FVec Ideal S1x128 .f32) (x4 : FVec Ideal S128x1024 .bf16) (r : Fin 256) (l : Fin 1024) : EReal :=
  ∑ k : Fin 128, normK (fun l => x0 (ix3 0 r (colK l))) (fun l => x2 (ix2 0 l)) k * x4 (ix2 k l)

/-- An entry of the rotary key's slot from the point's blocks. -/
def krAt (x0 : FVec Ideal S1x256x512 .bf16) (x6 : FVec Ideal S128x128 .bf16) (r : Fin 256) (l : Fin 128) : EReal :=
  ∑ k : Fin 128, x0 (ix3 0 r (colM k)) * x6 (ix2 k l)

/-- The product of the normed compressed queries. -/
theorem pay5_at (x0 : FVec Ideal S1x256x512 .bf16) (x1 : FVec Ideal S1x256 .f32) (x3 : FVec Ideal S256x1024 .bf16) (j : S256x1024.Idx) :
    k0_pay5 (F := Ideal) x0 x1 x3 j = qAt x0 x1 x3 (j 0) (j 1) := by
  pointwise [k0_pay5, k0_pay2, qAt, normQ, colQ]

/-- The same product 32 lanes further on. -/
theorem pay6_at (x0 : FVec Ideal S1x256x512 .bf16) (x1 : FVec Ideal S1x256 .f32) (x3 : FVec Ideal S256x1024 .bf16) (j : S256x1024.Idx) :
    k0_pay6 (F := Ideal) x0 x1 x3 j = qAt x0 x1 x3 (j 0) (on1024 (j 1)) := by
  pointwise [k0_pay6, k0_pay5, k0_pay2, qAt, normQ, colQ, on1024]

/-- The key's product. -/
theorem pay7_at (x0 : FVec Ideal S1x256x512 .bf16) (x2 : FVec Ideal S1x128 .f32) (x4 : FVec Ideal S128x1024 .bf16) (j : S256x1024.Idx) :
    k0_pay7 (F := Ideal) (k0_pay4 x0 x2) x4 j = kvAt x0 x2 x4 (j 0) (j 1) := by
  pointwise [k0_pay7, k0_pay4, k0_pay2, kvAt, normK, colK]

/-- The value's product. -/
theorem pay8_at (x0 : FVec Ideal S1x256x512 .bf16) (x2 : FVec Ideal S1x128 .f32) (x4 : FVec Ideal S128x1024 .bf16) (j : S256x1024.Idx) :
    k0_pay8 (F := Ideal) (k0_pay4 x0 x2) x4 j = kvAt x0 x2 x4 (j 0) (j 1) := by
  pointwise [k0_pay8, k0_pay4, k0_pay2, kvAt, normK, colK]

/-- The rotary key, rotated. -/
theorem pay9_at (x0 : FVec Ideal S1x256x512 .bf16) (x6 : FVec Ideal S128x128 .bf16) (x9 x10 : FVec Ideal S256x128 .f32) (j : S256x128.Idx) :
    k0_pay9 (F := Ideal) (k0_pay3 x0) x6 x9 x10 j
      = krAt x0 x6 (j 0) (j 1) * x9 (ix2 (j 0) (j 1)) + krAt x0 x6 (j 0) (on128 (j 1)) * x10 (ix2 (j 0) (j 1)) := by
  pointwise [k0_pay9, k0_pay3, k0_pay2, krAt, colM, on128]

/-- Where the values' slots hold ones: the upper half of an even head's slot and the lower half of an odd head's. -/
def isOne (l : Fin 1024) : Prop := (64 ≤ (l : ℕ) % 256 ∧ (l : ℕ) % 256 < 192)

instance (l : Fin 1024) : Decidable (isOne l) := inferInstanceAs (Decidable (_ ∧ _))

/-- The lanes of the body's mask, as it computes them. -/
abbrev mask : IVec S1x1024 1 :=
  have v200 : IVec S1x1024 1 := k0_pay35 (Scalar.select (Scalar.cmpi .eq 128#32 0#32) 1#32 128#32) k0_pay31 k0_pay32 k0_pay33 k0_pay34
  xori v200 (cmpi .eq (select (k0_pay37 (iota .tc S1x1024 32 [1] iota_S1x1024_d1_w32)) (addi (k0_pay36 (iota .tc S1x1024 32 [1] iota_S1x1024_d1_w32)) k0_pay38) (k0_pay36 (iota .tc S1x1024 32 [1] iota_S1x1024_d1_w32))) (broadcast S1x1024 1#32))

/-- The mask is the lanes of ones. -/
theorem mask_at : ∀ l : Fin 1024, mask (ix2 0 l) = BitVec.ofBool (decide (isOne l)) := by
  decide +kernel

/-- A load of a whole block reads the block. -/
theorem whole0 (x : FVec Ideal S1x256x512 .bf16) : View.ld (Val := Elt Ideal) (e' := .bf16) x r0_0 = x := by
  exact View.ld_unit_zero (Val := Elt Ideal) (e := .bf16) (S := S1x256x512) (off := ![0, 0, 0]) (View.eq_zero_of_forall (by decide)) _ x

/-- A load of a whole block reads the block. -/
theorem whole1 (x : FVec Ideal S1x256 .f32) : View.ld (Val := Elt Ideal) (e' := .f32) x r0_1 = x := by
  exact View.ld_unit_zero (Val := Elt Ideal) (e := .f32) (S := S1x256) (off := ![0, 0]) (View.eq_zero_of_forall (by decide)) _ x

/-- A load of a whole block reads the block. -/
theorem whole2 (x : FVec Ideal S1x128 .f32) : View.ld (Val := Elt Ideal) (e' := .f32) x r0_2 = x := by
  exact View.ld_unit_zero (Val := Elt Ideal) (e := .f32) (S := S1x128) (off := ![0, 0]) (View.eq_zero_of_forall (by decide)) _ x

/-- A load of a whole block reads the block. -/
theorem whole3 (x : FVec Ideal S256x1024 .bf16) : View.ld (Val := Elt Ideal) (e' := .bf16) x r0_3 = x := by
  exact View.ld_unit_zero (Val := Elt Ideal) (e := .bf16) (S := S256x1024) (off := ![0, 0]) (View.eq_zero_of_forall (by decide)) _ x

/-- A load of a whole block reads the block. -/
theorem whole4 (x : FVec Ideal S128x1024 .bf16) : View.ld (Val := Elt Ideal) (e' := .bf16) x r0_4 = x := by
  exact View.ld_unit_zero (Val := Elt Ideal) (e := .bf16) (S := S128x1024) (off := ![0, 0]) (View.eq_zero_of_forall (by decide)) _ x

/-- A load of a whole block reads the block. -/
theorem whole5 (x : FVec Ideal S128x128 .bf16) : View.ld (Val := Elt Ideal) (e' := .bf16) x r0_5 = x := by
  exact View.ld_unit_zero (Val := Elt Ideal) (e := .bf16) (S := S128x128) (off := ![0, 0]) (View.eq_zero_of_forall (by decide)) _ x

/-- A load of a whole block reads the block. -/
theorem whole6 (x : FVec Ideal S256x128 .f32) : View.ld (Val := Elt Ideal) (e' := .f32) x r0_6 = x := by
  exact View.ld_unit_zero (Val := Elt Ideal) (e := .f32) (S := S256x128) (off := ![0, 0]) (View.eq_zero_of_forall (by decide)) _ x

/-! The body's values in terms of the whole blocks it loads. -/

/-- The last 128 columns. -/
theorem val39 (x0 : FVec Ideal S1x256x512 .bf16) (x1 : FVec Ideal S1x256 .f32) (x2 : FVec Ideal S1x128 .f32) (x3 : FVec Ideal S256x1024 .bf16)
    (x4 x5 : FVec Ideal S128x1024 .bf16) (x6 : FVec Ideal S128x128 .bf16) (x7 x8 x9 x10 : FVec Ideal S256x128 .f32) :
    k0_pay39 (F := Ideal) x0 x1 x2 x3 x4 x5 x6 x7 x8 x9 x10 = k0_pay3 x0 := by
  unfold k0_pay39
  rw [whole0 x0]

/-- The normed compressed key. -/
theorem val40 (x0 : FVec Ideal S1x256x512 .bf16) (x1 : FVec Ideal S1x256 .f32) (x2 : FVec Ideal S1x128 .f32) (x3 : FVec Ideal S256x1024 .bf16)
    (x4 x5 : FVec Ideal S128x1024 .bf16) (x6 : FVec Ideal S128x128 .bf16) (x7 x8 x9 x10 : FVec Ideal S256x128 .f32) :
    k0_pay40 (F := Ideal) x0 x1 x2 x3 x4 x5 x6 x7 x8 x9 x10 = k0_pay4 x0 x2 := by
  unfold k0_pay40
  rw [whole0 x0, whole2 x2]

/-- The queries' product. -/
theorem val41 (x0 : FVec Ideal S1x256x512 .bf16) (x1 : FVec Ideal S1x256 .f32) (x2 : FVec Ideal S1x128 .f32) (x3 : FVec Ideal S256x1024 .bf16)
    (x4 x5 : FVec Ideal S128x1024 .bf16) (x6 : FVec Ideal S128x128 .bf16) (x7 x8 x9 x10 : FVec Ideal S256x128 .f32) :
    k0_pay41 (F := Ideal) x0 x1 x2 x3 x4 x5 x6 x7 x8 x9 x10 = k0_pay5 x0 x1 x3 := by
  unfold k0_pay41
  rw [whole0 x0, whole1 x1, whole3 x3]

/-- The same, rolled. -/
theorem val42 (x0 : FVec Ideal S1x256x512 .bf16) (x1 : FVec Ideal S1x256 .f32) (x2 : FVec Ideal S1x128 .f32) (x3 : FVec Ideal S256x1024 .bf16)
    (x4 x5 : FVec Ideal S128x1024 .bf16) (x6 : FVec Ideal S128x128 .bf16) (x7 x8 x9 x10 : FVec Ideal S256x128 .f32) :
    k0_pay42 (F := Ideal) x0 x1 x2 x3 x4 x5 x6 x7 x8 x9 x10 = k0_pay6 x0 x1 x3 := by
  unfold k0_pay42
  rw [whole0 x0, whole1 x1, whole3 x3]

/-- The keys' product. -/
theorem val43 (x0 : FVec Ideal S1x256x512 .bf16) (x1 : FVec Ideal S1x256 .f32) (x2 : FVec Ideal S1x128 .f32) (x3 : FVec Ideal S256x1024 .bf16)
    (x4 x5 : FVec Ideal S128x1024 .bf16) (x6 : FVec Ideal S128x128 .bf16) (x7 x8 x9 x10 : FVec Ideal S256x128 .f32) :
    k0_pay43 (F := Ideal) x0 x1 x2 x3 x4 x5 x6 x7 x8 x9 x10 = k0_pay7 (k0_pay4 x0 x2) x4 := by
  unfold k0_pay43
  rw [val40, whole4 x4]

/-- The rotated rotary key. -/
theorem val44 (x0 : FVec Ideal S1x256x512 .bf16) (x1 : FVec Ideal S1x256 .f32) (x2 : FVec Ideal S1x128 .f32) (x3 : FVec Ideal S256x1024 .bf16)
    (x4 x5 : FVec Ideal S128x1024 .bf16) (x6 : FVec Ideal S128x128 .bf16) (x7 x8 x9 x10 : FVec Ideal S256x128 .f32) :
    k0_pay44 (F := Ideal) x0 x1 x2 x3 x4 x5 x6 x7 x8 x9 x10 = k0_pay9 (k0_pay3 x0) x6 x9 x10 := by
  unfold k0_pay44
  rw [val39, whole5 x6, whole6 x9, whole6 x10]

/-- The queries' cosines. -/
theorem val45 (x0 : FVec Ideal S1x256x512 .bf16) (x1 : FVec Ideal S1x256 .f32) (x2 : FVec Ideal S1x128 .f32) (x3 : FVec Ideal S256x1024 .bf16)
    (x4 x5 : FVec Ideal S128x1024 .bf16) (x6 : FVec Ideal S128x128 .bf16) (x7 x8 x9 x10 : FVec Ideal S256x128 .f32) :
    k0_pay45 (F := Ideal) x0 x1 x2 x3 x4 x5 x6 x7 x8 x9 x10 = k0_pay10 x7 := by
  unfold k0_pay45
  rw [whole6 x7]

/-- The queries' sines. -/
theorem val46 (x0 : FVec Ideal S1x256x512 .bf16) (x1 : FVec Ideal S1x256 .f32) (x2 : FVec Ideal S1x128 .f32) (x3 : FVec Ideal S256x1024 .bf16)
    (x4 x5 : FVec Ideal S128x1024 .bf16) (x6 : FVec Ideal S128x128 .bf16) (x7 x8 x9 x10 : FVec Ideal S256x128 .f32) :
    k0_pay46 (F := Ideal) x0 x1 x2 x3 x4 x5 x6 x7 x8 x9 x10 = k0_pay11 x8 := by
  unfold k0_pay46
  rw [whole6 x8]

/-- What a point leaves in its block of queries. -/
theorem block_q (x0 : FVec Ideal S1x256x512 .bf16) (x1 : FVec Ideal S1x256 .f32) (x2 : FVec Ideal S1x128 .f32) (x3 : FVec Ideal S256x1024 .bf16)
    (x4 x5 : FVec Ideal S128x1024 .bf16) (x6 : FVec Ideal S128x128 .bf16) (x7 x8 x9 x10 : FVec Ideal S256x128 .f32) (y : S1x256x1024.Idx) :
    out0_11 (F := Ideal) x0 x1 x2 x3 x4 x5 x6 x7 x8 x9 x10 y
      = qAt x0 x1 x3 (y 1) (y 2) * x7 (ix2 (y 1) (laneOf (y 2))) + qAt x0 x1 x3 (y 1) (on1024 (y 2)) * x8 (ix2 (y 1) (laneOf (y 2))) := by
  frame_out
  rw [val41, val42, val45, val46]
  refine (canon11_eq _ _ _ _ _ y).trans ?_
  refine congrArg₂ (· + ·) (congrArg₂ (· * ·) (pay5_at x0 x1 x3 (ix11_0 y)) ?_) (congrArg₂ (· * ·) (pay6_at x0 x1 x3 (ix11_2 y)) ?_)
  · exact congrArg x7 (by funext a; match a with | 0 => rfl | 1 => rfl)
  · exact congrArg x8 (by funext a; match a with | 0 => rfl | 1 => rfl)

/-- What a point leaves in its block of keys. -/
theorem block_k (x0 : FVec Ideal S1x256x512 .bf16) (x1 : FVec Ideal S1x256 .f32) (x2 : FVec Ideal S1x128 .f32) (x3 : FVec Ideal S256x1024 .bf16)
    (x4 x5 : FVec Ideal S128x1024 .bf16) (x6 : FVec Ideal S128x128 .bf16) (x7 x8 x9 x10 : FVec Ideal S256x128 .f32) (y : S1x256x1024.Idx) :
    out0_12 (F := Ideal) x0 x1 x2 x3 x4 x5 x6 x7 x8 x9 x10 y
      = kvAt x0 x2 x4 (y 1) (y 2) + (krAt x0 x6 (y 1) (laneOf (y 2)) * x9 (ix2 (y 1) (laneOf (y 2)))
          + krAt x0 x6 (y 1) (on128 (laneOf (y 2))) * x10 (ix2 (y 1) (laneOf (y 2)))) := by
  frame_out
  rw [val39, val40, val43, val44]
  refine (canon12_eq _ _ _ _ _ _ y).trans ?_
  exact congrArg₂ (· + ·) (pay7_at x0 x2 x4 (ix12_0 y)) (pay9_at x0 x6 x9 x10 (ix12_1 y))

/-- The block of values the body stores. -/
theorem pay1_at (a : FVec Ideal S256x1024 .f32) (v200 : IVec S1x1024 1) (v228 : IVec S1x1024 32) (v237 : IVec S1x1024 1) (v238 : IVec S1x1024 32)
    (r : Fin 256) (l : Fin 1024) :
    k0_pay1 (F := Ideal) a v200 v228 v237 v238 (ix3 0 r l)
      = if (xori v200 (cmpi .eq (select v237 (addi v228 v238) v228) (broadcast S1x1024 1#32))) (ix2 0 l) = 1#1 then 1 else a (ix2 r l) := by
  unfold k0_pay1
  generalize xori v200 (cmpi .eq (select v237 (addi v228 v238) v228) (broadcast S1x1024 1#32)) = w
  pointwise
  rfl

/-- What a point leaves in its block of values. -/
theorem block_v (x0 : FVec Ideal S1x256x512 .bf16) (x1 : FVec Ideal S1x256 .f32) (x2 : FVec Ideal S1x128 .f32) (x3 : FVec Ideal S256x1024 .bf16)
    (x4 x5 : FVec Ideal S128x1024 .bf16) (x6 : FVec Ideal S128x128 .bf16) (x7 x8 x9 x10 : FVec Ideal S256x128 .f32) (r : Fin 256) (l : Fin 1024) :
    out0_13 (F := Ideal) x0 x1 x2 x3 x4 x5 x6 x7 x8 x9 x10 (ix3 0 r l) = if isOne l then 1 else kvAt x0 x2 x5 r l := by
  frame_out
  rw [val40]
  unfold k0_pay47
  refine (pay1_at _ _ _ _ _ r l).trans ?_
  refine if_congr ?_ rfl (pay8_at x0 x2 x5 (ix2 r l))
  refine (show mask (ix2 0 l) = 1#1 ↔ isOne l from ?_)
  rw [mask_at]
  by_cases h : isOne l <;> simp [h]

end Cert.PrepIdeal.Value

end
-- ==== Proof.PrepEntry.lean ====
/- The operands the host code prepares for the `mla_prep` call, read at an index: the projected rows with the turned
   columns of the rotary key, the weights in slots of 128 lanes, and the tables of the rotation. -/
module

public import proofs.«01_k».proof.Proof.Gen.PrepIdeal.Value
public import proofs.«01_k».proof.Proof.AttnEntry
public import Idealize.ShloMosaic.Lib.Pipeline.ValueKit
public import Idealize.ShloMosaic.Lib.Pointwise
public import Idealize.ShloMosaic.Lib.Claim

@[expose] public section

set_option maxRecDepth 16384
set_option maxHeartbeats 400000

noncomputable section

namespace Cert.PrepIdeal.Value

open Cert.PrepIdeal Cert.PrepIdeal.Gen Idealize.ShloMosaic Idealize.ShloMosaic.TcCoe Idealize.SL.Sem
open Idealize.ShloMosaic.Pipeline (Dat)
open Cert.AttnIdeal.Value (scale_consts)

variable (m : (ℓ : Loc nD τ sig) → Buf (Elt Ideal) ℓ)

/-- The projected rows, as given. -/
abbrev ap (c : Dev nD) : FVec Ideal S16x2304x10752 .f32 := m ((c : Thread nD τ).loc main_arg0)

/-- The weights of the compressed query's norm, as given. -/
abbrev aqn (c : Dev nD) : FVec Ideal S256 .f32 := m ((c : Thread nD τ).loc main_arg1)

/-- The queries' matrix, as given. -/
abbrev awq (c : Dev nD) : FVec Ideal S256x768 .f32 := m ((c : Thread nD τ).loc main_arg2)

/-- The weights of the compressed key's norm, as given. -/
abbrev akn (c : Dev nD) : FVec Ideal S128 .f32 := m ((c : Thread nD τ).loc main_arg3)

/-- The keys' and values' matrix, as given. -/
abbrev awkv (c : Dev nD) : FVec Ideal S128x1024 .f32 := m ((c : Thread nD τ).loc main_arg4)

/-- The cosines, as given. -/
abbrev acos (c : Dev nD) : FVec Ideal S2048x32 .f32 := m ((c : Thread nD τ).loc main_arg5)

/-- The sines, as given. -/
abbrev asin (c : Dev nD) : FVec Ideal S2048x32 .f32 := m ((c : Thread nD τ).loc main_arg6)

/-- Thirty-two entries turned: each pair of quarters `(a, b)` as `(-b, a)`. -/
def turned (x : Fin 32 → EReal) (i : Fin 32) : EReal :=
  if h : (i : ℕ) < 8 then -x ⟨(i : ℕ) + 8, by omega⟩
  else if h : (i : ℕ) < 16 then x ⟨(i : ℕ) - 8, by omega⟩
  else if h : (i : ℕ) < 24 then -x ⟨(i : ℕ) + 8, by omega⟩
  else x ⟨(i : ℕ) - 8, by omega⟩

/-- The scale of the queries. -/
abbrev qs : EReal := ((1 / (Real.sqrt 96 * Real.log 2) : ℝ) : EReal)

/-- Two reads of the rows at equal coordinates. -/
theorem ap_congr (c : Dev nD) (b : Fin 16) (r : Fin 2304) (n n' : Fin 10752) (h : (n : ℕ) = n') : ap m c (ix3 b r n) = ap m c (ix3 b r n') := by
  obtain rfl : n = n' := Fin.ext h
  rfl

/-- Two reads of the queries' matrix at equal coordinates. -/
theorem awq_congr (c : Dev nD) (k : Fin 256) (n n' : Fin 768) (h : (n : ℕ) = n') : awq m c (ix2 k n) = awq m c (ix2 k n') := by
  obtain rfl : n = n' := Fin.ext h
  rfl

/-- Two reads of the keys' and values' matrix at equal coordinates. -/
theorem awkv_congr (c : Dev nD) (k : Fin 128) (n n' : Fin 1024) (h : (n : ℕ) = n') : awkv m c (ix2 k n) = awkv m c (ix2 k n') := by
  obtain rfl : n = n' := Fin.ext h
  rfl

/-- Choosing by the equality of two small numbers. -/
theorem pick (a b : ℕ) (ha : a < 128) (hb : b < 128) :
    Scalar.select (IntOp.cmpi CmpIPredicate.eq (BitVec.ofNat 32 a) (BitVec.ofNat 32 b)) (1 : EReal) 0 = if a = b then 1 else 0 := by
  have e : ∀ a b : Fin 128, IntOp.cmpi CmpIPredicate.eq (BitVec.ofNat 32 a) (BitVec.ofNat 32 b) = BitVec.ofBool (decide ((a : ℕ) = b)) := by
    decide +kernel
  rw [e ⟨a, ha⟩ ⟨b, hb⟩]
  by_cases h : a = b <;> simp [h, Scalar.select]

/-- The rows the call reads. -/
abbrev pE (c : Dev nD) : FVec Ideal S16x2304x10752 .bf16 := V m c main_v14

/-- Outside the turned columns they are the rows as given. -/
theorem pE_at (c : Dev nD) (b : Fin 16) (r : Fin 2304) (n : Fin 10752) (hn : (n : ℕ) < 4544) : pE m c (ix3 b r n) = ap m c (ix3 b r n) := by
  unfold pE
  entry_read
  pointwise
  rw [dif_pos (show (n : ℕ) < 4576 by omega), dif_pos hn]

/-- The turned columns. -/
theorem pE_turned (c : Dev nD) (b : Fin 16) (r : Fin 2304) (i : Fin 32) (n : Fin 10752) (hn : (n : ℕ) = 4544 + i) :
    pE m c (ix3 b r n) = turned (fun j => ap m c (ix3 b r ⟨4480 + (j : ℕ), by omega⟩)) i := by
  rw [show n = ⟨4544 + (i : ℕ), by omega⟩ from Fin.ext hn]
  unfold pE turned
  entry_read
  pointwise
  repeat' split
  all_goals first | (exfalso; omega) | exact ap_congr m c b r _ _ (by (try dsimp only) <;> omega) | exact congrArg Neg.neg (ap_congr m c b r _ _ (by (try dsimp only) <;> omega))

/-- The weights of the query's norm. -/
abbrev qnE (c : Dev nD) : FVec Ideal S1x256 .f32 := V m c main_v68

/-- An entry of them. -/
theorem qnE_at (c : Dev nD) (l : Fin 256) : qnE m c (ix2 0 l) = aqn m c (ix1 l) := by
  unfold qnE
  entry_read
  pointwise

/-- The weights of the key's norm. -/
abbrev knE (c : Dev nD) : FVec Ideal S1x128 .f32 := V m c main_v69

/-- An entry of them. -/
theorem knE_at (c : Dev nD) (l : Fin 128) : knE m c (ix2 0 l) = akn m c (ix1 l) := by
  unfold knE
  entry_read
  pointwise

/-- The queries' matrix in slots. -/
abbrev wqE (c : Dev nD) : FVec Ideal S256x1024 .bf16 := V m c main_v70

/-- The first 96 lanes of a slot are the head's columns. -/
theorem wqE_at (c : Dev nD) (k : Fin 256) (h : Fin 8) (d : Fin 96) (l : Fin 1024) (hl : (l : ℕ) = h * 128 + d)
    (n : Fin 768) (hn : (n : ℕ) = h * 96 + d) : wqE m c (ix2 k l) = awq m c (ix2 k n) := by
  obtain ⟨l, h1⟩ := l
  obtain ⟨n, h2⟩ := n
  obtain rfl : l = h * 128 + d := hl
  obtain rfl : n = h * 96 + d := hn
  unfold wqE
  entry_read
  pointwise
  repeat' split
  all_goals first | rfl | (exfalso; omega) | exact awq_congr m c k _ _ (by (try dsimp only) <;> omega) | exact congrArg Neg.neg (awq_congr m c k _ _ (by (try dsimp only) <;> omega))

/-- The last 32 lanes are its rotary columns turned. -/
theorem wqE_turned (c : Dev nD) (k : Fin 256) (h : Fin 8) (i : Fin 32) (l : Fin 1024) (hl : (l : ℕ) = h * 128 + (96 + i)) :
    wqE m c (ix2 k l) = turned (fun j => awq m c (ix2 k ⟨(h : ℕ) * 96 + (64 + j), by omega⟩)) i := by
  rw [show l = ⟨(h : ℕ) * 128 + (96 + i), by omega⟩ from Fin.ext hl]
  unfold wqE turned
  entry_read
  pointwise
  repeat' split
  all_goals first | rfl | (exfalso; omega) | exact awq_congr m c k _ _ (by (try dsimp only) <;> omega) | exact congrArg Neg.neg (awq_congr m c k _ _ (by (try dsimp only) <;> omega))

/-- The keys' matrix in slots. -/
abbrev wkE (c : Dev nD) : FVec Ideal S128x1024 .bf16 := V m c main_v71

/-- The first 64 lanes of a slot are the head's key columns, the others zero. -/
theorem wkE_at (c : Dev nD) (k : Fin 128) (l : Fin 1024) :
    wkE m c (ix2 k l) = if (l : ℕ) % 128 < 64 then awkv m c (ix2 k l) else 0 := by
  unfold wkE
  entry_read
  pointwise
  split_ifs <;> first | rfl | (exfalso; omega) | exact awkv_congr m c k _ _ (by (try dsimp only) <;> omega) | exact congrArg Neg.neg (awkv_congr m c k _ _ (by (try dsimp only) <;> omega))

/-- The values' matrix in half slots. -/
abbrev wvE (c : Dev nD) : FVec Ideal S128x1024 .bf16 := V m c main_v73

/-- Outside the ones' half slots they are the head's value columns. -/
theorem wvE_low (c : Dev nD) (k : Fin 128) (l n : Fin 1024) (h : (l : ℕ) % 256 < 64) (hn : (n : ℕ) = (l : ℕ) + 64) :
    wvE m c (ix2 k l) = awkv m c (ix2 k n) := by
  rw [show n = ⟨(l : ℕ) + 64, by omega⟩ from Fin.ext hn]
  unfold wvE
  entry_read
  pointwise
  split_ifs <;> first | rfl | (exfalso; omega) | exact awkv_congr m c k _ _ (by (try dsimp only) <;> omega) | exact congrArg Neg.neg (awkv_congr m c k _ _ (by (try dsimp only) <;> omega))

/-- The other half of a pair's value columns. -/
theorem wvE_high (c : Dev nD) (k : Fin 128) (l : Fin 1024) (h : 192 ≤ (l : ℕ) % 256) :
    wvE m c (ix2 k l) = awkv m c (ix2 k l) := by
  unfold wvE
  entry_read
  pointwise
  split_ifs <;> first | rfl | (exfalso; omega) | exact awkv_congr m c k _ _ (by (try dsimp only) <;> omega) | exact congrArg Neg.neg (awkv_congr m c k _ _ (by (try dsimp only) <;> omega))

/-- The matrix that takes the rotary key to its lanes. -/
abbrev e1E (c : Dev nD) : FVec Ideal S128x128 .bf16 := V m c main_v74

/-- It takes the rotary key to lanes 64 to 95, the turned key to the last 32. -/
theorem e1E_at (c : Dev nD) (k d : Fin 128) :
    e1E m c (ix2 k d) = if 64 ≤ (d : ℕ) ∧ ((k : ℕ) = d - 64 ∧ (d : ℕ) < 96 ∨ (k : ℕ) = d - 32 ∧ 96 ≤ (d : ℕ)) then 1 else 0 := by
  unfold e1E
  entry_read
  pointwise
  have hk := k.isLt
  have hd := d.isLt
  rw [pick _ _ (by omega) (by omega), pick _ _ (by omega) (by omega)]
  split_ifs <;> first | rfl | (exfalso; omega)

/-- The queries' cosines. -/
abbrev cqE (c : Dev nD) : FVec Ideal S2304x128 .f32 := V m c main_v78

/-- The queries' sines. -/
abbrev sqE (c : Dev nD) : FVec Ideal S2304x128 .f32 := V m c main_v82

/-- The keys' cosines. -/
abbrev ckE (c : Dev nD) : FVec Ideal S2304x128 .f32 := V m c main_v84

/-- The keys' sines. -/
abbrev skE (c : Dev nD) : FVec Ideal S2304x128 .f32 := V m c main_v86

/-- A row's cosine: the context's rows have one. -/
def cosAt (c : FVec Ideal S2048x32 .f32) (r : Fin 2304) (i : Fin 32) : EReal :=
  if h : (r : ℕ) < 2048 then c (ix2 ⟨(r : ℕ), h⟩ i) else 1

/-- A row's sine: the context's rows have zero. -/
def sinAt (s : FVec Ideal S2048x32 .f32) (r : Fin 2304) (i : Fin 32) : EReal :=
  if h : (r : ℕ) < 2048 then s (ix2 ⟨(r : ℕ), h⟩ i) else 0

/-- An entry of the queries' cosines. -/
theorem cqE_at (c : Dev nD) (r : Fin 2304) (d : Fin 128) :
    cqE m c (ix2 r d) = (if (d : ℕ) < 64 then 1 else if h : (d : ℕ) < 96 then cosAt (acos m c) r ⟨(d : ℕ) - 64, by omega⟩ else 0) * qs := by
  unfold cqE cosAt
  entry_read
  pointwise [scale_consts]
  refine congrArg (· * qs) ?_
  split_ifs <;> first | rfl | (exfalso; omega)

/-- An entry of the queries' sines. -/
theorem sqE_at (c : Dev nD) (r : Fin 2304) (d : Fin 128) :
    sqE m c (ix2 r d) = (if (d : ℕ) < 64 then 0 else if h : (d : ℕ) < 96 then sinAt (asin m c) r ⟨(d : ℕ) - 64, by omega⟩ else 0) * qs := by
  unfold sqE sinAt
  entry_read
  pointwise [scale_consts]
  refine congrArg (· * qs) ?_
  split_ifs <;> first | rfl | (exfalso; omega)

/-- An entry of the keys' cosines. -/
theorem ckE_at (c : Dev nD) (r : Fin 2304) (d : Fin 128) :
    ckE m c (ix2 r d) = if (d : ℕ) < 64 then 0 else if h : (d : ℕ) < 96 then cosAt (acos m c) r ⟨(d : ℕ) - 64, by omega⟩ else 0 := by
  unfold ckE cosAt
  entry_read
  pointwise
  after_results_simp
  pointwise
  split_ifs <;> first | rfl | (exfalso; omega)

/-- An entry of the keys' sines. -/
theorem skE_at (c : Dev nD) (r : Fin 2304) (d : Fin 128) :
    skE m c (ix2 r d) = if (d : ℕ) < 64 then 0 else if h : (d : ℕ) < 96 then sinAt (asin m c) r ⟨(d : ℕ) - 64, by omega⟩ else 0 := by
  unfold skE sinAt
  entry_read
  pointwise
  after_results_simp
  pointwise
  split_ifs <;> first | rfl | (exfalso; omega)

end Cert.PrepIdeal.Value

end
-- ==== Proof.PrepSpec.lean ====
/- The mathematics of the `mla_prep` call, entry by entry: the normed compressed rows times the up-projections, the
   rotary parts rotated on the latent rows, and the slots of 128 lanes the results are laid out in. -/
module

public import proofs.«01_k».proof.Proof.PrepPoint
public import proofs.«01_k».proof.Proof.PrepEntry
public import Idealize.ShloMosaic.Lib.Pointwise

@[expose] public section

set_option maxRecDepth 16384

noncomputable section

namespace Cert.PrepIdeal.Value

open Cert.PrepIdeal Cert.PrepIdeal.Gen Idealize.ShloMosaic

/-- The compressed query of a row. -/
def cqRow (p : FVec Ideal S16x2304x10752 .f32) (b : Fin 16) (r : Fin 2304) : Fin 256 → EReal :=
  fun l => p (ix3 b r ⟨4096 + (l : ℕ), by omega⟩)

/-- The compressed key and value of a row. -/
def ckvRow (p : FVec Ideal S16x2304x10752 .f32) (b : Fin 16) (r : Fin 2304) : Fin 128 → EReal :=
  fun l => p (ix3 b r ⟨4352 + (l : ℕ), by omega⟩)

/-- The rotary key of a row. -/
def krRow (p : FVec Ideal S16x2304x10752 .f32) (b : Fin 16) (r : Fin 2304) : Fin 32 → EReal :=
  fun l => p (ix3 b r ⟨4480 + (l : ℕ), by omega⟩)

/-- An entry of the up-projected query. -/
def qCol (p : FVec Ideal S16x2304x10752 .f32) (g : FVec Ideal S256 .f32) (w : FVec Ideal S256x768 .f32) (b : Fin 16) (r : Fin 2304)
    (n : Fin 768) : EReal :=
  ∑ k : Fin 256, normQ (cqRow p b r) (fun l => g (ix1 l)) k * w (ix2 k n)

/-- An entry of the up-projected key and value. -/
def kvCol (p : FVec Ideal S16x2304x10752 .f32) (g : FVec Ideal S128 .f32) (w : FVec Ideal S128x1024 .f32) (b : Fin 16) (r : Fin 2304)
    (n : Fin 1024) : EReal :=
  ∑ k : Fin 128, normK (ckvRow p b r) (fun l => g (ix1 l)) k * w (ix2 k n)

/-- Thirty-two entries rotated on a latent row, as they are on a row of the context. -/
def rot (x : Fin 32 → EReal) (cos sin : FVec Ideal S2048x32 .f32) (r : Fin 2304) (i : Fin 32) : EReal :=
  if h : (r : ℕ) < 2048 then x i * cos (ix2 ⟨(r : ℕ), h⟩ i) + turned x i * sin (ix2 ⟨(r : ℕ), h⟩ i) else x i

/-- The rotary part of a head's query, before the rotation. -/
def qRot (p : FVec Ideal S16x2304x10752 .f32) (g : FVec Ideal S256 .f32) (w : FVec Ideal S256x768 .f32) (b : Fin 16) (r : Fin 2304)
    (h : Fin 8) : Fin 32 → EReal :=
  fun j => qCol p g w b r ⟨(h : ℕ) * 96 + (64 + (j : ℕ)), by omega⟩

/-- Lane `d` of head `h` of the queries: scaled, its rotary part rotated, the last 32 lanes zero. -/
def queryAt (p : FVec Ideal S16x2304x10752 .f32) (g : FVec Ideal S256 .f32) (w : FVec Ideal S256x768 .f32) (cos sin : FVec Ideal S2048x32 .f32)
    (b : Fin 16) (r : Fin 2304) (h : Fin 8) (d : Fin 128) : EReal :=
  if hd : (d : ℕ) < 64 then qCol p g w b r ⟨(h : ℕ) * 96 + (d : ℕ), by omega⟩ * qs
  else if hd : (d : ℕ) < 96 then rot (qRot p g w b r h) cos sin r ⟨(d : ℕ) - 64, by omega⟩ * qs
  else 0

/-- Lane `l` of the keys: the up-projected key, the rotated rotary key, 32 lanes of zero in every slot of 128. -/
def keyAt (p : FVec Ideal S16x2304x10752 .f32) (g : FVec Ideal S128 .f32) (w : FVec Ideal S128x1024 .f32) (cos sin : FVec Ideal S2048x32 .f32)
    (b : Fin 16) (r : Fin 2304) (l : Fin 1024) : EReal :=
  if (l : ℕ) % 128 < 64 then kvCol p g w b r l
  else if hd : (l : ℕ) % 128 < 96 then rot (krRow p b r) cos sin r ⟨(l : ℕ) % 128 - 64, by omega⟩
  else 0

/-- Lane `l` of the values: the up-projected value, ones in the other half of every slot. -/
def valueAt (p : FVec Ideal S16x2304x10752 .f32) (g : FVec Ideal S128 .f32) (w : FVec Ideal S128x1024 .f32)
    (b : Fin 16) (r : Fin 2304) (l : Fin 1024) : EReal :=
  if isOne l then 1 else kvCol p g w b r ⟨128 * ((l : ℕ) / 128) + 64 + (l : ℕ) % 64, by omega⟩

/-- The head of a lane. -/
def headOf (l : Fin 1024) : Fin 8 := ⟨(l : ℕ) / 128, by omega⟩

/-- The array of queries. -/
def queries (p : FVec Ideal S16x2304x10752 .f32) (g : FVec Ideal S256 .f32) (w : FVec Ideal S256x768 .f32) (cos sin : FVec Ideal S2048x32 .f32) :
    FVec Ideal S16x2304x1024 .bf16 :=
  fun i => queryAt p g w cos sin (i 0) (i 1) (headOf (i 2)) (laneOf (i 2))

/-- The array of keys. -/
def keys (p : FVec Ideal S16x2304x10752 .f32) (g : FVec Ideal S128 .f32) (w : FVec Ideal S128x1024 .f32) (cos sin : FVec Ideal S2048x32 .f32) :
    FVec Ideal S16x2304x1024 .bf16 :=
  fun i => keyAt p g w cos sin (i 0) (i 1) (i 2)

/-- The array of values. -/
def values (p : FVec Ideal S16x2304x10752 .f32) (g : FVec Ideal S128 .f32) (w : FVec Ideal S128x1024 .f32) : FVec Ideal S16x2304x1024 .bf16 :=
  fun i => valueAt p g w (i 0) (i 1) (i 2)

end Cert.PrepIdeal.Value

end
-- ==== Proof.PrepReal.lean ====
/- Real numbers through the norm of the compressed queries, and a sum's negation. -/
module

public import proofs.«01_k».proof.Proof.PrepSpec
public import proofs.«01_k».proof.Proof.Softmax

@[expose] public section

set_option maxRecDepth 16384

noncomputable section

namespace Cert.PrepIdeal.Value

open Cert.PrepIdeal Cert.PrepIdeal.Gen Idealize.ShloMosaic
open Cert.Softmax (coe_sum)

/-- The norm's small constant is a positive real number. -/
theorem eps_real : Ideal.ofBits FTy.f32 897988541#32 = (((8796093 : ℝ) * (2 : ℝ) ^ (-43 : Int) : ℝ) : EReal) := by
  simp [Ideal.ofBits, Ideal.ieee, -EReal.coe_mul]

/-- The number of compressed entries is a real number. -/
theorem c256_real : Ideal.ofBits FTy.f32 1132462080#32 = ((256 : ℝ) : EReal) := by
  simp [Ideal.ofBits, Ideal.ieee, -EReal.coe_mul]
  norm_num

/-- The norm of a row of real numbers is real. -/
theorem normQ_real_of_real (x g : Fin 256 → EReal) (hx : ∀ l, ∃ a : ℝ, x l = (a : EReal)) (hg : ∀ l, ∃ a : ℝ, g l = (a : EReal)) (k : Fin 256) :
    ∃ a : ℝ, normQ x g k = (a : EReal) := by
  choose a ha using hx
  choose d hd using hg
  have hs : ∑ l, x l * x l = ((∑ l, a l * a l : ℝ) : EReal) := by
    rw [← coe_sum]
    exact Finset.sum_congr rfl fun l _ => by rw [ha l, EReal.coe_mul]
  have hp : (0 : ℝ) < (∑ l, a l * a l) * (1 / 256) + 8796093 * (2 : ℝ) ^ (-43 : Int) := by
    have : 0 ≤ ∑ l, a l * a l := Finset.sum_nonneg fun l _ => mul_self_nonneg _
    positivity
  unfold normQ
  rw [hs, c256_real, eps_real, Ideal.div_coe (by norm_num), ← EReal.coe_mul, ← EReal.coe_add, Ideal.rsqrt_coe, if_neg (not_lt.mpr hp.le),
    if_neg hp.ne', ha k, hd k, ← EReal.coe_mul, ← EReal.coe_mul]
  exact ⟨_, rfl⟩

/-- A square is not negative. -/
theorem sq_nonneg (x : EReal) : 0 ≤ x * x := by
  induction x with
  | bot => simp
  | top => simp
  | coe a =>
    rw [← EReal.coe_mul]
    exact EReal.coe_nonneg.mpr (mul_self_nonneg a)

/-- The norm of any row is real: an infinite entry makes all of it zero. -/
theorem normQ_real (x g : Fin 256 → EReal) (hg : ∀ l, ∃ a : ℝ, g l = (a : EReal)) (k : Fin 256) :
    ∃ a : ℝ, normQ x g k = (a : EReal) := by
  by_cases hx : ∀ l, ∃ a : ℝ, x l = (a : EReal)
  · exact normQ_real_of_real x g hx hg k
  · obtain ⟨l, hl⟩ := not_forall.mp hx
    have ht : x l * x l = ⊤ := by
      induction h : x l with
      | bot => simp
      | top => simp
      | coe a => exact absurd ⟨a, h⟩ hl
    have hs : ∑ l, x l * x l = ⊤ :=
      top_le_iff.mp (ht ▸ Finset.single_le_sum (f := fun l => x l * x l) (fun i _ => sq_nonneg (x i)) (Finset.mem_univ l))
    refine ⟨0, ?_⟩
    unfold normQ
    rw [hs, c256_real, eps_real, Ideal.div_coe (by norm_num), EReal.top_mul_coe_of_pos (by norm_num), EReal.top_add_coe, Ideal.rsqrt_top,
      mul_zero, zero_mul, EReal.coe_zero]

/-- A sum of negated real numbers is the sum negated. -/
theorem sum_neg (f : Fin 256 → EReal) (hf : ∀ k, ∃ a : ℝ, f k = (a : EReal)) : ∑ k, -f k = -∑ k, f k := by
  choose a ha using hf
  have e : f = fun k => (a k : EReal) := funext ha
  rw [e, coe_sum, ← EReal.coe_neg, ← Finset.sum_neg_distrib, ← coe_sum]
  exact Finset.sum_congr rfl fun k _ => (EReal.coe_neg _).symm

/-- A product with turned columns is the turned product, over the reals. -/
theorem sum_turned (n : Fin 256 → EReal) (w : Fin 256 → Fin 32 → EReal) (hn : ∀ k, ∃ a : ℝ, n k = (a : EReal))
    (hw : ∀ k j, ∃ a : ℝ, w k j = (a : EReal)) (i : Fin 32) :
    ∑ k, n k * turned (w k) i = turned (fun j => ∑ k, n k * w k j) i := by
  have hr : ∀ j k, ∃ a : ℝ, n k * w k j = (a : EReal) := fun j k => by
    obtain ⟨a, ha⟩ := hn k
    obtain ⟨d, hd⟩ := hw k j
    exact ⟨a * d, by rw [ha, hd, EReal.coe_mul]⟩
  unfold turned
  split_ifs
  · simp only [mul_neg]
    exact sum_neg _ (hr _)
  · rfl
  · simp only [mul_neg]
    exact sum_neg _ (hr _)
  · rfl

/-- The scale is a nonnegative real number: it distributes over a sum. -/
theorem qs_distrib (a c b s : EReal) : a * (c * qs) + b * (s * qs) = (a * c + b * s) * qs := by
  have h0 : (0 : EReal) ≤ qs := by
    have : (0 : ℝ) ≤ 1 / (Real.sqrt 96 * Real.log 2) := by
      have := Real.log_pos (show (1 : ℝ) < 2 by norm_num)
      positivity
    exact EReal.coe_nonneg.mpr this
  rw [EReal.right_distrib_of_nonneg_of_ne_top h0 (EReal.coe_ne_top _), mul_assoc, mul_assoc]

end Cert.PrepIdeal.Value

end
-- ==== Proof.PrepValue.lean ====
/- The arrays the `mla_prep` call leaves: queries, keys and values in slots of 128 lanes. -/
module

public import proofs.«01_k».proof.Proof.PrepReal
public import Idealize.ShloMosaic.Lib.Pipeline.ValueKit
public import Idealize.ShloMosaic.Lib.Pointwise
public import Idealize.ShloMosaic.Lib.VecWindow
public import Idealize.ShloMosaic.Lib.Claim

@[expose] public section

set_option maxRecDepth 16384

noncomputable section

namespace Cert.PrepIdeal.Value

open Cert.PrepIdeal Cert.PrepIdeal.Gen Idealize.ShloMosaic Idealize.ShloMosaic.TcCoe Idealize.SL.Sem
open Idealize.ShloMosaic.Pipeline (Dat)

variable (m : (ℓ : Loc nD τ sig) → Buf (Elt Ideal) ℓ)

/-- The blocks of grid point `t`: the windows' block indices. -/
theorem idx_val : ∀ t : Fin cfg0.N, win0_0.index t = ![t.val / 9, t.val % 9, 8] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![t.val % 9, 0] ∧ win0_8.index t = ![t.val % 9, 0] ∧ win0_9.index t = ![t.val % 9, 0] ∧ win0_10.index t = ![t.val % 9, 0]
    ∧ win0_11.index t = ![t.val / 9, t.val % 9, 0] ∧ win0_12.index t = ![t.val / 9, t.val % 9, 0] ∧ win0_13.index t = ![t.val / 9, t.val % 9, 0] :=
  (by decide +kernel : ∀ t : Fin grid0.N, _)

/-- At a point, the rows. -/
abbrev x0B (c : Dev nD) (t : Fin cfg0.N) : FVec Ideal S1x256x512 .bf16 := iblk m c 0 t

/-- At a point, the weights of the query's norm. -/
abbrev x1B (c : Dev nD) (t : Fin cfg0.N) : FVec Ideal S1x256 .f32 := iblk m c 1 t

/-- At a point, the weights of the key's norm. -/
abbrev x2B (c : Dev nD) (t : Fin cfg0.N) : FVec Ideal S1x128 .f32 := iblk m c 2 t

/-- At a point, the queries' matrix. -/
abbrev x3B (c : Dev nD) (t : Fin cfg0.N) : FVec Ideal S256x1024 .bf16 := iblk m c 3 t

/-- At a point, the keys' matrix. -/
abbrev x4B (c : Dev nD) (t : Fin cfg0.N) : FVec Ideal S128x1024 .bf16 := iblk m c 4 t

/-- At a point, the values' matrix. -/
abbrev x5B (c : Dev nD) (t : Fin cfg0.N) : FVec Ideal S128x1024 .bf16 := iblk m c 5 t

/-- At a point, the rotary key's matrix. -/
abbrev x6B (c : Dev nD) (t : Fin cfg0.N) : FVec Ideal S128x128 .bf16 := iblk m c 6 t

/-- At a point, the queries' cosines. -/
abbrev x7B (c : Dev nD) (t : Fin cfg0.N) : FVec Ideal S256x128 .f32 := iblk m c 7 t

/-- At a point, the queries' sines. -/
abbrev x8B (c : Dev nD) (t : Fin cfg0.N) : FVec Ideal S256x128 .f32 := iblk m c 8 t

/-- At a point, the keys' cosines. -/
abbrev x9B (c : Dev nD) (t : Fin cfg0.N) : FVec Ideal S256x128 .f32 := iblk m c 9 t

/-- At a point, the keys' sines. -/
abbrev x10B (c : Dev nD) (t : Fin cfg0.N) : FVec Ideal S256x128 .f32 := iblk m c 10 t

/-- Where a block sits: the rows. -/
theorem emb0 (t : Fin cfg0.N) (r : Fin 256) (k : Fin 512) (b : Fin 16) (R : Fin 2304) (n : Fin 10752) (hb : (b : ℕ) = t.val / 9) (hR : (R : ℕ) = t.val % 9 * 256 + r) (hn : (n : ℕ) = 8 * 512 + k) :
    ((cfg0.win 0).blk t).view.emb (ix3 0 r k) = ix3 b R n := by
  blk_ext [idx_val t]

/-- An entry of a block: the rows. -/
theorem x0B_at (c : Dev nD) (t : Fin cfg0.N) (r : Fin 256) (k : Fin 512) (b : Fin 16) (R : Fin 2304) (n : Fin 10752) (hb : (b : ℕ) = t.val / 9) (hR : (R : ℕ) = t.val % 9 * 256 + r) (hn : (n : ℕ) = 8 * 512 + k) :
    x0B m c t (ix3 0 r k) = pE m c (ix3 b R n) := by
  unfold x0B pE iblk
  rw [View.read, emb0 t r k b R n hb hR hn]
  generalize V m c = A
  exact cast_eq _ _

/-- Where a block sits: the weights of the query's norm. -/
theorem emb1 (t : Fin cfg0.N) (k : Fin 256) :
    ((cfg0.win 1).blk t).view.emb (ix2 0 k) = ix2 0 k := by
  blk_ext [idx_val t]

/-- An entry of a block: the weights of the query's norm. -/
theorem x1B_at (c : Dev nD) (t : Fin cfg0.N) (k : Fin 256) :
    x1B m c t (ix2 0 k) = qnE m c (ix2 0 k) := by
  unfold x1B qnE iblk
  rw [View.read, emb1 t k]
  generalize V m c = A
  exact cast_eq _ _

/-- Where a block sits: the weights of the key's norm. -/
theorem emb2 (t : Fin cfg0.N) (k : Fin 128) :
    ((cfg0.win 2).blk t).view.emb (ix2 0 k) = ix2 0 k := by
  blk_ext [idx_val t]

/-- An entry of a block: the weights of the key's norm. -/
theorem x2B_at (c : Dev nD) (t : Fin cfg0.N) (k : Fin 128) :
    x2B m c t (ix2 0 k) = knE m c (ix2 0 k) := by
  unfold x2B knE iblk
  rw [View.read, emb2 t k]
  generalize V m c = A
  exact cast_eq _ _

/-- Where a block sits: the queries' matrix. -/
theorem emb3 (t : Fin cfg0.N) (k : Fin 256) (l : Fin 1024) :
    ((cfg0.win 3).blk t).view.emb (ix2 k l) = ix2 k l := by
  blk_ext [idx_val t]

/-- An entry of a block: the queries' matrix. -/
theorem x3B_at (c : Dev nD) (t : Fin cfg0.N) (k : Fin 256) (l : Fin 1024) :
    x3B m c t (ix2 k l) = wqE m c (ix2 k l) := by
  unfold x3B wqE iblk
  rw [View.read, emb3 t k l]
  generalize V m c = A
  exact cast_eq _ _

/-- Where a block sits: the keys' matrix. -/
theorem emb4 (t : Fin cfg0.N) (k : Fin 128) (l : Fin 1024) :
    ((cfg0.win 4).blk t).view.emb (ix2 k l) = ix2 k l := by
  blk_ext [idx_val t]

/-- An entry of a block: the keys' matrix. -/
theorem x4B_at (c : Dev nD) (t : Fin cfg0.N) (k : Fin 128) (l : Fin 1024) :
    x4B m c t (ix2 k l) = wkE m c (ix2 k l) := by
  unfold x4B wkE iblk
  rw [View.read, emb4 t k l]
  generalize V m c = A
  exact cast_eq _ _

/-- Where a block sits: the values' matrix. -/
theorem emb5 (t : Fin cfg0.N) (k : Fin 128) (l : Fin 1024) :
    ((cfg0.win 5).blk t).view.emb (ix2 k l) = ix2 k l := by
  blk_ext [idx_val t]

/-- An entry of a block: the values' matrix. -/
theorem x5B_at (c : Dev nD) (t : Fin cfg0.N) (k : Fin 128) (l : Fin 1024) :
    x5B m c t (ix2 k l) = wvE m c (ix2 k l) := by
  unfold x5B wvE iblk
  rw [View.read, emb5 t k l]
  generalize V m c = A
  exact cast_eq _ _

/-- Where a block sits: the rotary key's matrix. -/
theorem emb6 (t : Fin cfg0.N) (k : Fin 128) (l : Fin 128) :
    ((cfg0.win 6).blk t).view.emb (ix2 k l) = ix2 k l := by
  blk_ext [idx_val t]

/-- An entry of a block: the rotary key's matrix. -/
theorem x6B_at (c : Dev nD) (t : Fin cfg0.N) (k : Fin 128) (l : Fin 128) :
    x6B m c t (ix2 k l) = e1E m c (ix2 k l) := by
  unfold x6B e1E iblk
  rw [View.read, emb6 t k l]
  generalize V m c = A
  exact cast_eq _ _

/-- Where a block sits: the queries' cosines. -/
theorem emb7 (t : Fin cfg0.N) (r : Fin 256) (d : Fin 128) (R : Fin 2304) (hR : (R : ℕ) = t.val % 9 * 256 + r) :
    ((cfg0.win 7).blk t).view.emb (ix2 r d) = ix2 R d := by
  blk_ext [idx_val t]

/-- An entry of a block: the queries' cosines. -/
theorem x7B_at (c : Dev nD) (t : Fin cfg0.N) (r : Fin 256) (d : Fin 128) (R : Fin 2304) (hR : (R : ℕ) = t.val % 9 * 256 + r) :
    x7B m c t (ix2 r d) = cqE m c (ix2 R d) := by
  unfold x7B cqE iblk
  rw [View.read, emb7 t r d R hR]
  generalize V m c = A
  exact cast_eq _ _

/-- Where a block sits: the queries' sines. -/
theorem emb8 (t : Fin cfg0.N) (r : Fin 256) (d : Fin 128) (R : Fin 2304) (hR : (R : ℕ) = t.val % 9 * 256 + r) :
    ((cfg0.win 8).blk t).view.emb (ix2 r d) = ix2 R d := by
  blk_ext [idx_val t]

/-- An entry of a block: the queries' sines. -/
theorem x8B_at (c : Dev nD) (t : Fin cfg0.N) (r : Fin 256) (d : Fin 128) (R : Fin 2304) (hR : (R : ℕ) = t.val % 9 * 256 + r) :
    x8B m c t (ix2 r d) = sqE m c (ix2 R d) := by
  unfold x8B sqE iblk
  rw [View.read, emb8 t r d R hR]
  generalize V m c = A
  exact cast_eq _ _

/-- Where a block sits: the keys' cosines. -/
theorem emb9 (t : Fin cfg0.N) (r : Fin 256) (d : Fin 128) (R : Fin 2304) (hR : (R : ℕ) = t.val % 9 * 256 + r) :
    ((cfg0.win 9).blk t).view.emb (ix2 r d) = ix2 R d := by
  blk_ext [idx_val t]

/-- An entry of a block: the keys' cosines. -/
theorem x9B_at (c : Dev nD) (t : Fin cfg0.N) (r : Fin 256) (d : Fin 128) (R : Fin 2304) (hR : (R : ℕ) = t.val % 9 * 256 + r) :
    x9B m c t (ix2 r d) = ckE m c (ix2 R d) := by
  unfold x9B ckE iblk
  rw [View.read, emb9 t r d R hR]
  generalize V m c = A
  exact cast_eq _ _

/-- Where a block sits: the keys' sines. -/
theorem emb10 (t : Fin cfg0.N) (r : Fin 256) (d : Fin 128) (R : Fin 2304) (hR : (R : ℕ) = t.val % 9 * 256 + r) :
    ((cfg0.win 10).blk t).view.emb (ix2 r d) = ix2 R d := by
  blk_ext [idx_val t]

/-- An entry of a block: the keys' sines. -/
theorem x10B_at (c : Dev nD) (t : Fin cfg0.N) (r : Fin 256) (d : Fin 128) (R : Fin 2304) (hR : (R : ℕ) = t.val % 9 * 256 + r) :
    x10B m c t (ix2 r d) = skE m c (ix2 R d) := by
  unfold x10B skE iblk
  rw [View.read, emb10 t r d R hR]
  generalize V m c = A
  exact cast_eq _ _

/-- An entry of the queries' product over the array. -/
def qA (c : Dev nD) (b : Fin 16) (R : Fin 2304) (l : Fin 1024) : EReal :=
  ∑ k : Fin 256, normQ (cqRow (ap m c) b R) (fun l => aqn m c (ix1 l)) k * wqE m c (ix2 k l)

/-- An entry of a product of the compressed keys over the array. -/
def kA (c : Dev nD) (w : FVec Ideal S128x1024 .bf16) (b : Fin 16) (R : Fin 2304) (l : Fin 1024) : EReal :=
  ∑ k : Fin 128, normK (ckvRow (ap m c) b R) (fun l => akn m c (ix1 l)) k * w (ix2 k l)

/-- An entry of the rotary key's product over the array. -/
def rA (c : Dev nD) (b : Fin 16) (R : Fin 2304) (l : Fin 128) : EReal :=
  ∑ k : Fin 128, pE m c (ix3 b R ⟨4480 + (k : ℕ), by omega⟩) * e1E m c (ix2 k l)

/-- The queries' product at a point. -/
theorem qAt_eq (c : Dev nD) (t : Fin cfg0.N) (r : Fin 256) (l : Fin 1024) (b : Fin 16) (R : Fin 2304) (hb : (b : ℕ) = t.val / 9)
    (hR : (R : ℕ) = t.val % 9 * 256 + r) : qAt (x0B m c t) (x1B m c t) (x3B m c t) r l = qA m c b R l := by
  have h0 : (fun l => x0B m c t (ix3 0 r (colQ l))) = cqRow (ap m c) b R := funext fun l =>
    (x0B_at m c t r (colQ l) b R ⟨4096 + (l : ℕ), by omega⟩ hb hR rfl).trans (pE_at m c b R _ (by show 4096 + (l : ℕ) < 4544; omega))
  have h1 : (fun l => x1B m c t (ix2 0 l)) = fun l => aqn m c (ix1 l) := funext fun l => (x1B_at m c t l).trans (qnE_at m c l)
  unfold qAt qA
  rw [h0, h1]
  exact Finset.sum_congr rfl fun k _ => congrArg (_ * ·) (x3B_at m c t k l)

/-- The keys' product at a point. -/
theorem kAt_eq (c : Dev nD) (t : Fin cfg0.N) (r : Fin 256) (l : Fin 1024) (b : Fin 16) (R : Fin 2304) (hb : (b : ℕ) = t.val / 9)
    (hR : (R : ℕ) = t.val % 9 * 256 + r) : kvAt (x0B m c t) (x2B m c t) (x4B m c t) r l = kA m c (wkE m c) b R l := by
  have h0 : (fun l => x0B m c t (ix3 0 r (colK l))) = ckvRow (ap m c) b R := funext fun l =>
    (x0B_at m c t r (colK l) b R ⟨4352 + (l : ℕ), by omega⟩ hb hR (by show 4352 + (l : ℕ) = 8 * 512 + (256 + (l : ℕ)); omega)).trans
      (pE_at m c b R _ (by show 4352 + (l : ℕ) < 4544; omega))
  have h1 : (fun l => x2B m c t (ix2 0 l)) = fun l => akn m c (ix1 l) := funext fun l => (x2B_at m c t l).trans (knE_at m c l)
  unfold kvAt kA
  rw [h0, h1]
  exact Finset.sum_congr rfl fun k _ => congrArg (_ * ·) (x4B_at m c t k l)

/-- The values' product at a point. -/
theorem vAt_eq (c : Dev nD) (t : Fin cfg0.N) (r : Fin 256) (l : Fin 1024) (b : Fin 16) (R : Fin 2304) (hb : (b : ℕ) = t.val / 9)
    (hR : (R : ℕ) = t.val % 9 * 256 + r) : kvAt (x0B m c t) (x2B m c t) (x5B m c t) r l = kA m c (wvE m c) b R l := by
  have h0 : (fun l => x0B m c t (ix3 0 r (colK l))) = ckvRow (ap m c) b R := funext fun l =>
    (x0B_at m c t r (colK l) b R ⟨4352 + (l : ℕ), by omega⟩ hb hR (by show 4352 + (l : ℕ) = 8 * 512 + (256 + (l : ℕ)); omega)).trans
      (pE_at m c b R _ (by show 4352 + (l : ℕ) < 4544; omega))
  have h1 : (fun l => x2B m c t (ix2 0 l)) = fun l => akn m c (ix1 l) := funext fun l => (x2B_at m c t l).trans (knE_at m c l)
  unfold kvAt kA
  rw [h0, h1]
  exact Finset.sum_congr rfl fun k _ => congrArg (_ * ·) (x5B_at m c t k l)

/-- The rotary key's product at a point. -/
theorem rAt_eq (c : Dev nD) (t : Fin cfg0.N) (r : Fin 256) (l : Fin 128) (b : Fin 16) (R : Fin 2304) (hb : (b : ℕ) = t.val / 9)
    (hR : (R : ℕ) = t.val % 9 * 256 + r) : krAt (x0B m c t) (x6B m c t) r l = rA m c b R l := by
  unfold krAt rA
  exact Finset.sum_congr rfl fun k _ => congrArg₂ (· * ·)
    (x0B_at m c t r (colM k) b R ⟨4480 + (k : ℕ), by omega⟩ hb hR (by show 4480 + (k : ℕ) = 8 * 512 + (384 + (k : ℕ)); omega)) (x6B_at m c t k l)

/-- The product with the rotary key's matrix picks one column. -/
theorem rA_pick (c : Dev nD) (b : Fin 16) (R : Fin 2304) (l k : Fin 128)
    (h : 64 ≤ (l : ℕ) ∧ ((k : ℕ) = l - 64 ∧ (l : ℕ) < 96 ∨ (k : ℕ) = l - 32 ∧ 96 ≤ (l : ℕ))) :
    rA m c b R l = pE m c (ix3 b R ⟨4480 + (k : ℕ), by omega⟩) := by
  unfold rA
  refine (Finset.sum_eq_single k (fun j _ hj => ?_) fun hk => absurd (Finset.mem_univ k) hk).trans ?_
  · rw [e1E_at, if_neg, mul_zero]
    intro h'
    exact hj (Fin.ext (by omega))
  · rw [e1E_at, if_pos h, mul_one]

/-- The queries' gains and matrix are real. -/
def AllReal (c : Dev nD) : Prop :=
  (∀ i, ∃ a : ℝ, aqn m c i = (a : EReal)) ∧ ∀ i, ∃ a : ℝ, awq m c i = (a : EReal)

/-- The product with the direct lanes. -/
theorem qA_direct (c : Dev nD) (b : Fin 16) (R : Fin 2304) (l : Fin 1024) (d : Fin 96) (n : Fin 768) (hl : (l : ℕ) % 128 = d)
    (hn : (n : ℕ) = (l : ℕ) / 128 * 96 + d) : qA m c b R l = qCol (ap m c) (aqn m c) (awq m c) b R n := by
  unfold qA qCol
  exact Finset.sum_congr rfl fun k _ => congrArg (_ * ·)
    (wqE_at m c k (headOf l) d l (by show (l : ℕ) = (l : ℕ) / 128 * 128 + (d : ℕ); omega) n hn)

/-- The product with the turned lanes. -/
theorem qA_turned (c : Dev nD) (hf : AllReal m c) (b : Fin 16) (R : Fin 2304) (l l' : Fin 1024) (i : Fin 32)
    (hl : (l' : ℕ) = (l : ℕ) / 128 * 128 + (96 + i)) :
    qA m c b R l' = turned (qRot (ap m c) (aqn m c) (awq m c) b R (headOf l)) i := by
  unfold qA qRot qCol
  refine Eq.trans (Finset.sum_congr rfl fun k _ => congrArg (_ * ·) (wqE_turned m c k (headOf l) i l' hl)) ?_
  refine (sum_turned _ _ (fun k => normQ_real _ _ (fun l => hf.1 _) k) (fun k j => hf.2 _) i)

/-- Where the lane 32 further on is. -/
theorem on1024_val (l : Fin 1024) (h : (l : ℕ) % 128 < 96) : ((on1024 l : Fin 1024) : ℕ) = (l : ℕ) + 32 := by
  show ((l : ℕ) + 1024 - 992) % 1024 = (l : ℕ) + 32
  omega

/-- The queries of the array. -/
theorem query_eq (c : Dev nD) (hf : AllReal m c) (b : Fin 16) (R : Fin 2304) (l : Fin 1024) :
    qA m c b R l * cqE m c (ix2 R (laneOf l)) + qA m c b R (on1024 l) * sqE m c (ix2 R (laneOf l))
      = queryAt (ap m c) (aqn m c) (awq m c) (acos m c) (asin m c) b R (headOf l) (laneOf l) := by
  have hl : ((laneOf l : Fin 128) : ℕ) = (l : ℕ) % 128 := rfl
  have hl2 := l.isLt
  rw [cqE_at, sqE_at]
  unfold queryAt
  by_cases h1 : ((laneOf l : Fin 128) : ℕ) < 64
  · rw [if_pos h1, if_pos h1, dif_pos h1, one_mul, zero_mul, mul_zero, add_zero]
    exact congrArg (· * qs) (qA_direct m c b R l ⟨(laneOf l : Fin 128), by omega⟩ _ rfl rfl)
  · rw [if_neg h1, if_neg h1, dif_neg h1]
    by_cases h2 : ((laneOf l : Fin 128) : ℕ) < 96
    · rw [dif_pos h2, dif_pos h2, dif_pos h2, qs_distrib]
      refine congrArg (· * qs) ?_
      have e1 : qA m c b R l = qRot (ap m c) (aqn m c) (awq m c) b R (headOf l) ⟨((laneOf l : Fin 128) : ℕ) - 64, by omega⟩ :=
        qA_direct m c b R l ⟨(laneOf l : Fin 128), by omega⟩ _ rfl
          (by show (l : ℕ) / 128 * 96 + (64 + ((l : ℕ) % 128 - 64)) = (l : ℕ) / 128 * 96 + (l : ℕ) % 128; omega)
      have e2 : qA m c b R (on1024 l) = turned (qRot (ap m c) (aqn m c) (awq m c) b R (headOf l)) ⟨((laneOf l : Fin 128) : ℕ) - 64, by omega⟩ :=
        qA_turned m c hf b R l (on1024 l) ⟨((laneOf l : Fin 128) : ℕ) - 64, by omega⟩
          (by rw [on1024_val l (by omega)]; show (l : ℕ) + 32 = (l : ℕ) / 128 * 128 + (96 + ((l : ℕ) % 128 - 64)); omega)
      rw [e1, e2]
      unfold rot cosAt sinAt
      by_cases h3 : (R : ℕ) < 2048
      · rw [dif_pos h3, dif_pos h3, dif_pos h3]
      · rw [dif_neg h3, dif_neg h3, dif_neg h3, mul_one, mul_zero, add_zero]
    · rw [dif_neg h2, dif_neg h2, dif_neg h2, zero_mul, mul_zero, mul_zero, add_zero]

/-- A product of the compressed keys with columns of their matrix. -/
theorem kA_col (c : Dev nD) (w : FVec Ideal S128x1024 .bf16) (b : Fin 16) (R : Fin 2304) (l n : Fin 1024)
    (h : ∀ k, w (ix2 k l) = awkv m c (ix2 k n)) : kA m c w b R l = kvCol (ap m c) (akn m c) (awkv m c) b R n := by
  unfold kA kvCol
  exact Finset.sum_congr rfl fun k _ => by rw [h k]

/-- The keys of the array. -/
theorem key_eq (c : Dev nD) (b : Fin 16) (R : Fin 2304) (l : Fin 1024) :
    kA m c (wkE m c) b R l + (rA m c b R (laneOf l) * ckE m c (ix2 R (laneOf l)) + rA m c b R (on128 (laneOf l)) * skE m c (ix2 R (laneOf l)))
      = keyAt (ap m c) (akn m c) (awkv m c) (acos m c) (asin m c) b R l := by
  have hl : ((laneOf l : Fin 128) : ℕ) = (l : ℕ) % 128 := rfl
  have hl2 := l.isLt
  rw [ckE_at, skE_at]
  unfold keyAt
  by_cases h1 : (l : ℕ) % 128 < 64
  · rw [if_pos (show ((laneOf l : Fin 128) : ℕ) < 64 from h1), if_pos (show ((laneOf l : Fin 128) : ℕ) < 64 from h1), if_pos h1, mul_zero, mul_zero, add_zero,
      add_zero]
    exact kA_col m c (wkE m c) b R l l fun k => (wkE_at m c k l).trans (if_pos h1)
  · have hk : kA m c (wkE m c) b R l = 0 := by
      unfold kA
      exact Finset.sum_eq_zero fun k _ => by rw [wkE_at, if_neg h1, mul_zero]
    rw [if_neg (show ¬((laneOf l : Fin 128) : ℕ) < 64 from h1), if_neg (show ¬((laneOf l : Fin 128) : ℕ) < 64 from h1), if_neg h1, hk, zero_add]
    by_cases h2 : (l : ℕ) % 128 < 96
    · rw [dif_pos (show ((laneOf l : Fin 128) : ℕ) < 96 from h2), dif_pos (show ((laneOf l : Fin 128) : ℕ) < 96 from h2), dif_pos h2]
      have e1 : rA m c b R (laneOf l) = krRow (ap m c) b R ⟨(l : ℕ) % 128 - 64, by omega⟩ :=
        (rA_pick m c b R (laneOf l) ⟨(l : ℕ) % 128 - 64, by omega⟩ (by dsimp only; omega)).trans
          (pE_at m c b R _ (by show 4480 + ((l : ℕ) % 128 - 64) < 4544; omega))
      have hv : ((on128 (laneOf l) : Fin 128) : ℕ) = (l : ℕ) % 128 + 32 := by
        show ((l : ℕ) % 128 + 128 - 96) % 128 = (l : ℕ) % 128 + 32
        omega
      have e2 : rA m c b R (on128 (laneOf l)) = turned (krRow (ap m c) b R) ⟨(l : ℕ) % 128 - 64, by omega⟩ :=
        (rA_pick m c b R (on128 (laneOf l)) ⟨(l : ℕ) % 128, by omega⟩ (by rw [hv]; dsimp only; omega)).trans
          (pE_turned m c b R ⟨(l : ℕ) % 128 - 64, by omega⟩ _ (by show 4480 + (l : ℕ) % 128 = 4544 + ((l : ℕ) % 128 - 64); omega))
      rw [e1, e2]
      unfold rot cosAt sinAt
      by_cases h3 : (R : ℕ) < 2048
      · rw [dif_pos h3, dif_pos h3, dif_pos h3]
        rfl
      · rw [dif_neg h3, dif_neg h3, dif_neg h3, mul_one, mul_zero, add_zero]
    · rw [dif_neg (show ¬((laneOf l : Fin 128) : ℕ) < 96 from h2), dif_neg (show ¬((laneOf l : Fin 128) : ℕ) < 96 from h2), dif_neg h2, mul_zero, mul_zero, add_zero]

/-- Outside the ones the values' matrix is the head's value columns. -/
theorem wvE_pick (c : Dev nD) (k : Fin 128) (l n : Fin 1024) (h : ¬isOne l) (hn : (n : ℕ) = 128 * ((l : ℕ) / 128) + 64 + (l : ℕ) % 64) :
    wvE m c (ix2 k l) = awkv m c (ix2 k n) := by
  have hl := l.isLt
  unfold isOne at h
  by_cases h1 : (l : ℕ) % 256 < 64
  · exact wvE_low m c k l n h1 (by omega)
  · exact (wvE_high m c k l (by omega)).trans (awkv_congr m c k l n (by omega))

/-- The values of the array. -/
theorem value_eq (c : Dev nD) (b : Fin 16) (R : Fin 2304) (l : Fin 1024) :
    (if isOne l then 1 else kA m c (wvE m c) b R l) = valueAt (ap m c) (akn m c) (awkv m c) b R l := by
  unfold valueAt
  by_cases h : isOne l
  · rw [if_pos h, if_pos h]
  · rw [if_neg h, if_neg h]
    exact kA_col m c (wvE m c) b R l _ fun k => wvE_pick m c k l _ h rfl

/-- The queries a point leaves. -/
theorem point_queries (c : Dev nD) (hf : AllReal m c) (t : Fin cfg0.N) (r : Fin 256) (l : Fin 1024) (b : Fin 16) (R : Fin 2304) (hb : (b : ℕ) = t.val / 9)
    (hR : (R : ℕ) = t.val % 9 * 256 + r) :
    out0_11 (F := Ideal) (x0B m c t) (x1B m c t) (x2B m c t) (x3B m c t) (x4B m c t) (x5B m c t) (x6B m c t) (x7B m c t) (x8B m c t) (x9B m c t) (x10B m c t) (ix3 0 r l)
      = queryAt (ap m c) (aqn m c) (awq m c) (acos m c) (asin m c) b R (headOf l) (laneOf l) := by
  refine (block_q _ _ _ _ _ _ _ _ _ _ _ (ix3 0 r l)).trans ?_
  refine Eq.trans ?_ (query_eq m c hf b R l)
  exact congrArg₂ (· + ·) (congrArg₂ (· * ·) (qAt_eq m c t r l b R hb hR) (x7B_at m c t r (laneOf l) R hR))
    (congrArg₂ (· * ·) (qAt_eq m c t r (on1024 l) b R hb hR) (x8B_at m c t r (laneOf l) R hR))

/-- The queries at an index whose coordinates are known. -/
theorem queries_at (p : FVec Ideal S16x2304x10752 .f32) (g : FVec Ideal S256 .f32) (w : FVec Ideal S256x768 .f32) (cos sin : FVec Ideal S2048x32 .f32) (i : S16x2304x1024.Idx)
    (b : Fin 16) (R : Fin 2304) (l : Fin 1024) (hb : (i 0 : ℕ) = b) (hR : (i 1 : ℕ) = R) (hl : (i 2 : ℕ) = l) :
    queries p g w cos sin i = queryAt p g w cos sin b R (headOf l) (laneOf l) := by
  have e0 : i 0 = b := Fin.ext hb
  have e1 : i 1 = R := Fin.ext hR
  have e2 : i 2 = l := Fin.ext hl
  unfold queries
  rw [e0, e1, e2]

/-- THE RESULT ARRAY of queries. -/
theorem final_queries (c : Dev nD) (hf : AllReal m c) : (dats m 0 c).arrAt 11 (cfgs 0).N = queries (ap m c) (aqn m c) (awq m c) (acos m c) (asin m c) := by
  refine (dats m 0 c).arrAt_eq_of_covers 11 _ (by decide +kernel) fun t _ y => ?_
  blk_simp
  rw [after0_11]
  have ht : t.val < 144 := lt_of_lt_of_eq t.isLt N_0
  have y0 : (y 0 : ℕ) < 1 := (y 0).isLt
  have y1 : (y 1 : ℕ) < 256 := (y 1).isLt
  have y2 : (y 2 : ℕ) < 1024 := (y 2).isLt
  have E0 : ((((cfg0.win 11).blk t).view.emb y) 0 : ℕ) = t.val / 9 + y 0 := by blk_simp [idx_val t]
  have E1 : ((((cfg0.win 11).blk t).view.emb y) 1 : ℕ) = t.val % 9 * 256 + y 1 := by blk_simp [idx_val t]
  have E2 : ((((cfg0.win 11).blk t).view.emb y) 2 : ℕ) = y 2 := by blk_simp [idx_val t]
  have y00 : (y 0 : ℕ) = 0 := Nat.lt_one_iff.mp y0
  have hb : t.val / 9 < 16 := by omega
  have hR : t.val % 9 * 256 + (y 1 : ℕ) < 2304 := by omega
  have hy : y = ix3 (0 : Fin 1) (y 1) (y 2) := (eq_ix3 y).trans (congrArg (fun z : Fin 1 => ix3 z (y 1) (y 2)) (Fin.ext y00))
  refine Eq.trans ?_ ((queries_at _ _ _ _ _ _ ⟨t.val / 9, hb⟩ ⟨_, hR⟩ (y 2) (E0.trans (congrArg (t.val / 9 + ·) y00)) E1 E2).symm)
  exact (congrArg _ hy).trans (point_queries m c hf t (y 1) (y 2) ⟨t.val / 9, hb⟩ ⟨_, hR⟩ rfl rfl)

/-- The keys a point leaves. -/
theorem point_keys (c : Dev nD) (t : Fin cfg0.N) (r : Fin 256) (l : Fin 1024) (b : Fin 16) (R : Fin 2304) (hb : (b : ℕ) = t.val / 9)
    (hR : (R : ℕ) = t.val % 9 * 256 + r) :
    out0_12 (F := Ideal) (x0B m c t) (x1B m c t) (x2B m c t) (x3B m c t) (x4B m c t) (x5B m c t) (x6B m c t) (x7B m c t) (x8B m c t) (x9B m c t) (x10B m c t) (ix3 0 r l)
      = keyAt (ap m c) (akn m c) (awkv m c) (acos m c) (asin m c) b R l := by
  refine (block_k _ _ _ _ _ _ _ _ _ _ _ (ix3 0 r l)).trans ?_
  refine Eq.trans ?_ (key_eq m c b R l)
  exact congrArg₂ (· + ·) (kAt_eq m c t r l b R hb hR) (congrArg₂ (· + ·)
    (congrArg₂ (· * ·) (rAt_eq m c t r (laneOf l) b R hb hR) (x9B_at m c t r (laneOf l) R hR))
    (congrArg₂ (· * ·) (rAt_eq m c t r (on128 (laneOf l)) b R hb hR) (x10B_at m c t r (laneOf l) R hR)))

/-- The keys at an index whose coordinates are known. -/
theorem keys_at (p : FVec Ideal S16x2304x10752 .f32) (g : FVec Ideal S128 .f32) (w : FVec Ideal S128x1024 .f32) (cos sin : FVec Ideal S2048x32 .f32) (i : S16x2304x1024.Idx)
    (b : Fin 16) (R : Fin 2304) (l : Fin 1024) (hb : (i 0 : ℕ) = b) (hR : (i 1 : ℕ) = R) (hl : (i 2 : ℕ) = l) :
    keys p g w cos sin i = keyAt p g w cos sin b R l := by
  have e0 : i 0 = b := Fin.ext hb
  have e1 : i 1 = R := Fin.ext hR
  have e2 : i 2 = l := Fin.ext hl
  unfold keys
  rw [e0, e1, e2]

/-- THE RESULT ARRAY of keys. -/
theorem final_keys (c : Dev nD) : (dats m 0 c).arrAt 12 (cfgs 0).N = keys (ap m c) (akn m c) (awkv m c) (acos m c) (asin m c) := by
  refine (dats m 0 c).arrAt_eq_of_covers 12 _ (by decide +kernel) fun t _ y => ?_
  blk_simp
  rw [after0_12]
  have ht : t.val < 144 := lt_of_lt_of_eq t.isLt N_0
  have y0 : (y 0 : ℕ) < 1 := (y 0).isLt
  have y1 : (y 1 : ℕ) < 256 := (y 1).isLt
  have y2 : (y 2 : ℕ) < 1024 := (y 2).isLt
  have E0 : ((((cfg0.win 12).blk t).view.emb y) 0 : ℕ) = t.val / 9 + y 0 := by blk_simp [idx_val t]
  have E1 : ((((cfg0.win 12).blk t).view.emb y) 1 : ℕ) = t.val % 9 * 256 + y 1 := by blk_simp [idx_val t]
  have E2 : ((((cfg0.win 12).blk t).view.emb y) 2 : ℕ) = y 2 := by blk_simp [idx_val t]
  have y00 : (y 0 : ℕ) = 0 := Nat.lt_one_iff.mp y0
  have hb : t.val / 9 < 16 := by omega
  have hR : t.val % 9 * 256 + (y 1 : ℕ) < 2304 := by omega
  have hy : y = ix3 (0 : Fin 1) (y 1) (y 2) := (eq_ix3 y).trans (congrArg (fun z : Fin 1 => ix3 z (y 1) (y 2)) (Fin.ext y00))
  refine Eq.trans ?_ ((keys_at _ _ _ _ _ _ ⟨t.val / 9, hb⟩ ⟨_, hR⟩ (y 2) (E0.trans (congrArg (t.val / 9 + ·) y00)) E1 E2).symm)
  exact (congrArg _ hy).trans (point_keys m c t (y 1) (y 2) ⟨t.val / 9, hb⟩ ⟨_, hR⟩ rfl rfl)

/-- The values a point leaves. -/
theorem point_values (c : Dev nD) (t : Fin cfg0.N) (r : Fin 256) (l : Fin 1024) (b : Fin 16) (R : Fin 2304) (hb : (b : ℕ) = t.val / 9)
    (hR : (R : ℕ) = t.val % 9 * 256 + r) :
    out0_13 (F := Ideal) (x0B m c t) (x1B m c t) (x2B m c t) (x3B m c t) (x4B m c t) (x5B m c t) (x6B m c t) (x7B m c t) (x8B m c t) (x9B m c t) (x10B m c t) (ix3 0 r l)
      = valueAt (ap m c) (akn m c) (awkv m c) b R l := by
  refine (block_v _ _ _ _ _ _ _ _ _ _ _ r l).trans ?_
  refine Eq.trans ?_ (value_eq m c b R l)
  exact if_congr Iff.rfl rfl (vAt_eq m c t r l b R hb hR)

/-- The values at an index whose coordinates are known. -/
theorem values_at (p : FVec Ideal S16x2304x10752 .f32) (g : FVec Ideal S128 .f32) (w : FVec Ideal S128x1024 .f32) (i : S16x2304x1024.Idx)
    (b : Fin 16) (R : Fin 2304) (l : Fin 1024) (hb : (i 0 : ℕ) = b) (hR : (i 1 : ℕ) = R) (hl : (i 2 : ℕ) = l) :
    values p g w i = valueAt p g w b R l := by
  have e0 : i 0 = b := Fin.ext hb
  have e1 : i 1 = R := Fin.ext hR
  have e2 : i 2 = l := Fin.ext hl
  unfold values
  rw [e0, e1, e2]

/-- THE RESULT ARRAY of values. -/
theorem final_values (c : Dev nD) : (dats m 0 c).arrAt 13 (cfgs 0).N = values (ap m c) (akn m c) (awkv m c) := by
  refine (dats m 0 c).arrAt_eq_of_covers 13 _ (by decide +kernel) fun t _ y => ?_
  blk_simp
  rw [after0_13]
  have ht : t.val < 144 := lt_of_lt_of_eq t.isLt N_0
  have y0 : (y 0 : ℕ) < 1 := (y 0).isLt
  have y1 : (y 1 : ℕ) < 256 := (y 1).isLt
  have y2 : (y 2 : ℕ) < 1024 := (y 2).isLt
  have E0 : ((((cfg0.win 13).blk t).view.emb y) 0 : ℕ) = t.val / 9 + y 0 := by blk_simp [idx_val t]
  have E1 : ((((cfg0.win 13).blk t).view.emb y) 1 : ℕ) = t.val % 9 * 256 + y 1 := by blk_simp [idx_val t]
  have E2 : ((((cfg0.win 13).blk t).view.emb y) 2 : ℕ) = y 2 := by blk_simp [idx_val t]
  have y00 : (y 0 : ℕ) = 0 := Nat.lt_one_iff.mp y0
  have hb : t.val / 9 < 16 := by omega
  have hR : t.val % 9 * 256 + (y 1 : ℕ) < 2304 := by omega
  have hy : y = ix3 (0 : Fin 1) (y 1) (y 2) := (eq_ix3 y).trans (congrArg (fun z : Fin 1 => ix3 z (y 1) (y 2)) (Fin.ext y00))
  refine Eq.trans ?_ ((values_at _ _ _ _ ⟨t.val / 9, hb⟩ ⟨_, hR⟩ (y 2) (E0.trans (congrArg (t.val / 9 + ·) y00)) E1 E2).symm)
  exact (congrArg _ hy).trans (point_values m c t (y 1) (y 2) ⟨t.val / 9, hb⟩ ⟨_, hR⟩ rfl rfl)

end Cert.PrepIdeal.Value

end
-- ==== Proof.PrepRefAt.lean ====
/- The reference's queries, keys and values, entry by entry. -/
module

public import proofs.«01_k».proof.Proof.Gen.PrepRefIdeal.Run
public import proofs.«01_k».proof.Proof.PrepSpec
public import Idealize.ShloMosaic.Lib.Pointwise

@[expose] public section

set_option maxRecDepth 16384
set_option maxHeartbeats 400000

noncomputable section

namespace Cert.PrepRefIdeal.Value

open Cert.PrepRefIdeal Cert.PrepRefIdeal.Gen Idealize.ShloMosaic Idealize.ShloMosaic.TcCoe Idealize.SL.Sem
open Cert.PrepIdeal.Value (normQ normK turned qs cqRow ckvRow krRow qCol kvCol rot qRot queryAt keyAt valueAt headOf laneOf isOne queries keys values)
open Cert.AttnIdeal.Value (scale_consts)

/-- The compressed queries, normed. -/
def normedQ (p : FVec Ideal S16x2304x10752 .f32) (g : FVec Ideal S256 .f32) : FVec Ideal S16x2304x256 .f32 :=
  (mulf (mulf (extractStridedSlice S16x2304x256 ![0, 0, 4096] p slices_S16x2304x10752_S16x2304x256_0_0_4096) (broadcastInDim S16x2304x256 ![0, 1, 2] bcast_S16x2304x1_S16x2304x256_0_1_2 (Host.rsqrt (addf (Host.divf (broadcastInDim S16x2304x1 ![0, 1] bcast_S16x2304_S16x2304x1_0_1 (Host.reduceAdd (mulf (extractStridedSlice S16x2304x256 ![0, 0, 4096] p slices_S16x2304x10752_S16x2304x256_0_0_4096) (extractStridedSlice S16x2304x256 ![0, 0, 4096] p slices_S16x2304x10752_S16x2304x256_0_0_4096)) (constant S_ .f32 0x00000000#32) reducesTo_S16x2304x256_S16x2304_d2 h_S_)) (broadcastInDim S16x2304x1 ![] bcast_S_S16x2304x1 (constant S_ .f32 0x43800000#32))) (broadcastInDim S16x2304x1 ![] bcast_S_S16x2304x1 (constant S_ .f32 0x358637BD#32)))))) (broadcastInDim S16x2304x256 ![0, 1, 2] bcast_S1x1x256_S16x2304x256_0_1_2 (broadcastInDim S1x1x256 ![2] bcast_S256_S1x1x256_2 g)))

/-- The compressed keys and values, normed. -/
def normedK (p : FVec Ideal S16x2304x10752 .f32) (g : FVec Ideal S128 .f32) : FVec Ideal S16x2304x128 .f32 :=
  (mulf (mulf (extractStridedSlice S16x2304x128 ![0, 0, 4352] p slices_S16x2304x10752_S16x2304x128_0_0_4352) (broadcastInDim S16x2304x128 ![0, 1, 2] bcast_S16x2304x1_S16x2304x128_0_1_2 (Host.rsqrt (addf (Host.divf (broadcastInDim S16x2304x1 ![0, 1] bcast_S16x2304_S16x2304x1_0_1 (Host.reduceAdd (mulf (extractStridedSlice S16x2304x128 ![0, 0, 4352] p slices_S16x2304x10752_S16x2304x128_0_0_4352) (extractStridedSlice S16x2304x128 ![0, 0, 4352] p slices_S16x2304x10752_S16x2304x128_0_0_4352)) (constant S_ .f32 0x00000000#32) reducesTo_S16x2304x128_S16x2304_d2 h_S_)) (broadcastInDim S16x2304x1 ![] bcast_S_S16x2304x1 (constant S_ .f32 0x43000000#32))) (broadcastInDim S16x2304x1 ![] bcast_S_S16x2304x1 (constant S_ .f32 0x358637BD#32)))))) (broadcastInDim S16x2304x128 ![0, 1, 2] bcast_S1x1x128_S16x2304x128_0_1_2 (broadcastInDim S1x1x128 ![2] bcast_S128_S1x1x128_2 g)))

/-- The up-projected queries by head. -/
def headsQ (n : FVec Ideal S16x2304x256 .f32) (w : FVec Ideal S256x768 .f32) : FVec Ideal S16x2304x8x96 .f32 :=
  shapeCast _ (Host.dotGeneral dot_S16x2304x256_S256x768_S16x2304x768_2_0_01_1_n_n none n w) shapeCasts_S16x2304x768_S16x2304x8x96

/-- The up-projected keys and values by head. -/
def headsK (n : FVec Ideal S16x2304x128 .f32) (w : FVec Ideal S128x1024 .f32) : FVec Ideal S16x2304x8x128 .f32 :=
  shapeCast _ (Host.dotGeneral dot_S16x2304x128_S128x1024_S16x2304x1024_2_0_01_1_n_n none n w) shapeCasts_S16x2304x1024_S16x2304x8x128

/-- The latent rows. -/
def latentQ (x : FVec Ideal S16x2304x8x32 .f32) : FVec Ideal S16x2048x8x32 .f32 :=
  extractStridedSlice S16x2048x8x32 ![0, 0, 0, 0] x slices_S16x2304x8x32_S16x2048x8x32_0_0_0_0

/-- The context's rows. -/
def contextQ (x : FVec Ideal S16x2304x8x32 .f32) : FVec Ideal S16x256x8x32 .f32 :=
  extractStridedSlice S16x256x8x32 ![0, 2048, 0, 0] x slices_S16x2304x8x32_S16x256x8x32_0_2048_0_0

/-- The rows turned. -/
def turnQ (x : FVec Ideal S16x2048x8x32 .f32) : FVec Ideal S16x2048x8x32 .f32 :=
  (concatenate S16x2048x8x32 3 [⟨S16x2048x8x8, Host.negf (extractStridedSlice S16x2048x8x8 ![0, 0, 0, 8] x slices_S16x2048x8x32_S16x2048x8x8_0_0_0_8)⟩, ⟨S16x2048x8x8, extractStridedSlice S16x2048x8x8 ![0, 0, 0, 0] x slices_S16x2048x8x32_S16x2048x8x8_0_0_0_0⟩, ⟨S16x2048x8x8, Host.negf (extractStridedSlice S16x2048x8x8 ![0, 0, 0, 24] x slices_S16x2048x8x32_S16x2048x8x8_0_0_0_24)⟩, ⟨S16x2048x8x8, extractStridedSlice S16x2048x8x8 ![0, 0, 0, 16] x slices_S16x2048x8x32_S16x2048x8x8_0_0_0_16⟩] concatenates_S16x2048x8x8_S16x2048x8x8_S16x2048x8x8_S16x2048x8x8_S16x2048x8x32_d3)

/-- Rows and turned rows times cosines and sines. -/
def mixQ (x y : FVec Ideal S16x2048x8x32 .f32) (cos sin : FVec Ideal S2048x32 .f32) : FVec Ideal S16x2048x8x32 .f32 :=
  addf (mulf x (broadcastInDim S16x2048x8x32 ![0, 1, 2, 3] bcast_S1x2048x1x32_S16x2048x8x32_0_1_2_3 (broadcastInDim S1x2048x1x32 ![1, 3] bcast_S2048x32_S1x2048x1x32_1_3 cos))) (mulf y (broadcastInDim S16x2048x8x32 ![0, 1, 2, 3] bcast_S1x2048x1x32_S16x2048x8x32_0_1_2_3 (broadcastInDim S1x2048x1x32 ![1, 3] bcast_S2048x32_S1x2048x1x32_1_3 sin)))

/-- The latent rows' rotary parts above the context's. -/
def stackQ (x : FVec Ideal S16x2048x8x32 .f32) (y : FVec Ideal S16x256x8x32 .f32) : FVec Ideal S16x2304x8x32 .f32 :=
  concatenate S16x2304x8x32 1 [⟨S16x2048x8x32, x⟩, ⟨S16x256x8x32, y⟩] concatenates_S16x2048x8x32_S16x256x8x32_S16x2304x8x32_d1

/-- The rotary parts, the latent rows' rotated. -/
def rotatedQ (x : FVec Ideal S16x2304x8x32 .f32) (cos sin : FVec Ideal S2048x32 .f32) : FVec Ideal S16x2304x8x32 .f32 :=
  stackQ (mixQ (latentQ x) (turnQ (latentQ x)) cos sin) (contextQ x)

/-- The latent rows. -/
def latentK (x : FVec Ideal S16x2304x1x32 .f32) : FVec Ideal S16x2048x1x32 .f32 :=
  extractStridedSlice S16x2048x1x32 ![0, 0, 0, 0] x slices_S16x2304x1x32_S16x2048x1x32_0_0_0_0

/-- The context's rows. -/
def contextK (x : FVec Ideal S16x2304x1x32 .f32) : FVec Ideal S16x256x1x32 .f32 :=
  extractStridedSlice S16x256x1x32 ![0, 2048, 0, 0] x slices_S16x2304x1x32_S16x256x1x32_0_2048_0_0

/-- The rows turned. -/
def turnK (x : FVec Ideal S16x2048x1x32 .f32) : FVec Ideal S16x2048x1x32 .f32 :=
  (concatenate S16x2048x1x32 3 [⟨S16x2048x1x8, Host.negf (extractStridedSlice S16x2048x1x8 ![0, 0, 0, 8] x slices_S16x2048x1x32_S16x2048x1x8_0_0_0_8)⟩, ⟨S16x2048x1x8, extractStridedSlice S16x2048x1x8 ![0, 0, 0, 0] x slices_S16x2048x1x32_S16x2048x1x8_0_0_0_0⟩, ⟨S16x2048x1x8, Host.negf (extractStridedSlice S16x2048x1x8 ![0, 0, 0, 24] x slices_S16x2048x1x32_S16x2048x1x8_0_0_0_24)⟩, ⟨S16x2048x1x8, extractStridedSlice S16x2048x1x8 ![0, 0, 0, 16] x slices_S16x2048x1x32_S16x2048x1x8_0_0_0_16⟩] concatenates_S16x2048x1x8_S16x2048x1x8_S16x2048x1x8_S16x2048x1x8_S16x2048x1x32_d3)

/-- Rows and turned rows times cosines and sines. -/
def mixK (x y : FVec Ideal S16x2048x1x32 .f32) (cos sin : FVec Ideal S2048x32 .f32) : FVec Ideal S16x2048x1x32 .f32 :=
  addf (mulf x (broadcastInDim S16x2048x1x32 ![0, 1, 2, 3] bcast_S1x2048x1x32_S16x2048x1x32_0_1_2_3 (broadcastInDim S1x2048x1x32 ![1, 3] bcast_S2048x32_S1x2048x1x32_1_3 cos))) (mulf y (broadcastInDim S16x2048x1x32 ![0, 1, 2, 3] bcast_S1x2048x1x32_S16x2048x1x32_0_1_2_3 (broadcastInDim S1x2048x1x32 ![1, 3] bcast_S2048x32_S1x2048x1x32_1_3 sin)))

/-- The latent rows' rotary parts above the context's. -/
def stackK (x : FVec Ideal S16x2048x1x32 .f32) (y : FVec Ideal S16x256x1x32 .f32) : FVec Ideal S16x2304x1x32 .f32 :=
  concatenate S16x2304x1x32 1 [⟨S16x2048x1x32, x⟩, ⟨S16x256x1x32, y⟩] concatenates_S16x2048x1x32_S16x256x1x32_S16x2304x1x32_d1

/-- The rotary parts, the latent rows' rotated. -/
def rotatedK (x : FVec Ideal S16x2304x1x32 .f32) (cos sin : FVec Ideal S2048x32 .f32) : FVec Ideal S16x2304x1x32 .f32 :=
  stackK (mixK (latentK x) (turnK (latentK x)) cos sin) (contextK x)

/-- The rotary part of every head's query. -/
def partQ (x : FVec Ideal S16x2304x8x96 .f32) : FVec Ideal S16x2304x8x32 .f32 :=
  extractStridedSlice S16x2304x8x32 ![0, 0, 0, 64] x slices_S16x2304x8x96_S16x2304x8x32_0_0_0_64

/-- The rotary key's columns. -/
def partK (p : FVec Ideal S16x2304x10752 .f32) : FVec Ideal S16x2304x1x32 .f32 :=
  broadcastInDim S16x2304x1x32 ![0, 1, 3] bcast_S16x2304x32_S16x2304x1x32_0_1_3 (extractStridedSlice S16x2304x32 ![0, 0, 4480] p slices_S16x2304x10752_S16x2304x32_0_0_4480)

/-- The heads' direct lanes beside their rotated ones. -/
def besideQ (x : FVec Ideal S16x2304x8x96 .f32) (y : FVec Ideal S16x2304x8x32 .f32) : FVec Ideal S16x2304x8x96 .f32 :=
  concatenate S16x2304x8x96 3 [⟨S16x2304x8x64, (extractStridedSlice S16x2304x8x64 ![0, 0, 0, 0] x slices_S16x2304x8x96_S16x2304x8x64_0_0_0_0)⟩, ⟨S16x2304x8x32, y⟩] concatenates_S16x2304x8x64_S16x2304x8x32_S16x2304x8x96_d3

/-- The heads' keys beside the rotary key. -/
def besideK (x : FVec Ideal S16x2304x8x128 .f32) (y : FVec Ideal S16x2304x1x32 .f32) : FVec Ideal S16x2304x8x96 .f32 :=
  concatenate S16x2304x8x96 3 [⟨S16x2304x8x64, (extractStridedSlice S16x2304x8x64 ![0, 0, 0, 0] x slices_S16x2304x8x128_S16x2304x8x64_0_0_0_0)⟩, ⟨S16x2304x8x32, (broadcastInDim S16x2304x8x32 ![0, 1, 2, 3] bcast_S16x2304x1x32_S16x2304x8x32_0_1_2_3 y)⟩] concatenates_S16x2304x8x64_S16x2304x8x32_S16x2304x8x96_d3

/-- Times the scale. -/
def scaled (x : FVec Ideal S16x2304x8x96 .f32) : FVec Ideal S16x2304x8x96 .f32 :=
  mulf x (broadcastInDim S16x2304x8x96 ![] bcast_S_S16x2304x8x96 (Host.divf (constant S_ .f32 0x3F800000#32) (mulf (Host.sqrt (constant S_ .f32 0x42C00000#32)) (Host.log (constant S_ .f32 0x40000000#32)))))

/-- Beside 32 lanes of zero. -/
def padded (x : FVec Ideal S16x2304x8x96 .f32) : FVec Ideal S16x2304x8x128 .f32 :=
  concatenate S16x2304x8x128 3 [⟨S16x2304x8x96, x⟩, ⟨S16x2304x8x32, (broadcastInDim S16x2304x8x32 ![] bcast_S_S16x2304x8x32 (constant S_ .f32 0x00000000#32))⟩] concatenates_S16x2304x8x96_S16x2304x8x32_S16x2304x8x128_d3

/-- The heads' slots in one row. -/
def slots (x : FVec Ideal S16x2304x8x128 .f32) : FVec Ideal S16x2304x1024 .bf16 :=
  truncf .bf16 (shapeCast _ x shapeCasts_S16x2304x8x128_S16x2304x1024) bitsLt_bf16_f32

/-- The queries laid out, from the heads and their rotated parts. -/
def layQ (x : FVec Ideal S16x2304x8x96 .f32) (y : FVec Ideal S16x2304x8x32 .f32) : FVec Ideal S16x2304x1024 .bf16 :=
  slots (padded (scaled (besideQ x y)))

/-- The keys laid out, from the heads and the rotated rotary key. -/
def layK (x : FVec Ideal S16x2304x8x128 .f32) (y : FVec Ideal S16x2304x1x32 .f32) : FVec Ideal S16x2304x1024 .bf16 :=
  slots (padded (besideK x y))

/-- The values by pairs of heads. -/
def pairs (x : FVec Ideal S16x2304x8x128 .f32) : FVec Ideal S16x2304x4x2x64 .f32 :=
  shapeCast _ (extractStridedSlice S16x2304x8x64 ![0, 0, 0, 64] x slices_S16x2304x8x128_S16x2304x8x64_0_0_0_64) shapeCasts_S16x2304x8x64_S16x2304x4x2x64

/-- The even heads' values. -/
def evenV (x : FVec Ideal S16x2304x4x2x64 .f32) : FVec Ideal S16x2304x4x64 .f32 :=
  shapeCast _ (extractStridedSlice S16x2304x4x1x64 ![0, 0, 0, 0, 0] x slices_S16x2304x4x2x64_S16x2304x4x1x64_0_0_0_0_0) shapeCasts_S16x2304x4x1x64_S16x2304x4x64

/-- The odd heads' values. -/
def oddV (x : FVec Ideal S16x2304x4x2x64 .f32) : FVec Ideal S16x2304x4x64 .f32 :=
  shapeCast _ (extractStridedSlice S16x2304x4x1x64 ![0, 0, 0, 1, 0] x slices_S16x2304x4x2x64_S16x2304x4x1x64_0_0_0_1_0) shapeCasts_S16x2304x4x1x64_S16x2304x4x64

/-- Values beside ones. -/
def besideV (x y : FVec Ideal S16x2304x4x64 .f32) : FVec Ideal S16x2304x4x256 .f32 :=
  concatenate S16x2304x4x256 3 [⟨S16x2304x4x64, x⟩, ⟨S16x2304x4x128, (broadcastInDim S16x2304x4x128 ![] bcast_S_S16x2304x4x128 (constant S_ .f32 0x3F800000#32))⟩, ⟨S16x2304x4x64, y⟩] concatenates_S16x2304x4x64_S16x2304x4x128_S16x2304x4x64_S16x2304x4x256_d3

/-- The pairs' slots in one row. -/
def slotsV (x : FVec Ideal S16x2304x4x256 .f32) : FVec Ideal S16x2304x1024 .bf16 :=
  truncf .bf16 (shapeCast _ x shapeCasts_S16x2304x4x256_S16x2304x1024) bitsLt_bf16_f32

/-- The values laid out beside the ones. -/
def layV (x : FVec Ideal S16x2304x8x128 .f32) : FVec Ideal S16x2304x1024 .bf16 :=
  slotsV (besideV (evenV (pairs x)) (oddV (pairs x)))

/-- An entry of the normed compressed queries. -/
theorem normedQ_at (p : FVec Ideal S16x2304x10752 .f32) (g : FVec Ideal S256 .f32) (b : Fin 16) (r : Fin 2304) (k : Fin 256) :
    normedQ p g (ix3 b r k) = normQ (cqRow p b r) (fun l => g (ix1 l)) k := by
  pointwise [normedQ, normQ, cqRow]

/-- An entry of the normed compressed keys. -/
theorem normedK_at (p : FVec Ideal S16x2304x10752 .f32) (g : FVec Ideal S128 .f32) (b : Fin 16) (r : Fin 2304) (k : Fin 128) :
    normedK p g (ix3 b r k) = normK (ckvRow p b r) (fun l => g (ix1 l)) k := by
  pointwise [normedK, normK, ckvRow]

/-- An entry of the up-projected queries. -/
theorem headsQ_at (n : FVec Ideal S16x2304x256 .f32) (w : FVec Ideal S256x768 .f32) (b : Fin 16) (r : Fin 2304) (h : Fin 8) (d : Fin 96) :
    headsQ n w (ix4 b r h d) = ∑ k : Fin 256, n (ix3 b r k) * w (ix2 k ⟨(h : ℕ) * 96 + (d : ℕ), by omega⟩) := by
  pointwise [headsQ]

/-- An entry of the up-projected keys and values. -/
theorem headsK_at (n : FVec Ideal S16x2304x128 .f32) (w : FVec Ideal S128x1024 .f32) (b : Fin 16) (r : Fin 2304) (h : Fin 8) (d : Fin 128) :
    headsK n w (ix4 b r h d) = ∑ k : Fin 128, n (ix3 b r k) * w (ix2 k ⟨(h : ℕ) * 128 + (d : ℕ), by omega⟩) := by
  pointwise [headsK]

/-- An entry of the latent rows. -/
theorem latentQ_at (x : FVec Ideal S16x2304x8x32 .f32) (b : Fin 16) (r : Fin 2048) (h : Fin 8) (i : Fin 32) :
    latentQ x (ix4 b r h i) = x (ix4 b ⟨(r : ℕ), by omega⟩ h i) := by
  pointwise [latentQ]

/-- An entry of the context's rows. -/
theorem contextQ_at (x : FVec Ideal S16x2304x8x32 .f32) (b : Fin 16) (r : Fin 256) (h : Fin 8) (i : Fin 32) :
    contextQ x (ix4 b r h i) = x (ix4 b ⟨2048 + (r : ℕ), by omega⟩ h i) := by
  pointwise [contextQ]

/-- An entry of the rows turned. -/
theorem turnQ_at (x : FVec Ideal S16x2048x8x32 .f32) (b : Fin 16) (r : Fin 2048) (h : Fin 8) (i : Fin 32) :
    turnQ x (ix4 b r h i) = turned (fun j => x (ix4 b r h j)) i := by
  have hi := i.isLt
  have cg : ∀ j j' : Fin 32, (j : ℕ) = j' → x (ix4 b r h j) = x (ix4 b r h j') := fun j j' e => by rw [Fin.ext e]
  unfold turnQ turned
  pointwise
  repeat' split
  all_goals first | (exfalso; omega) | exact cg _ _ (by (try dsimp only) <;> omega) | exact congrArg Neg.neg (cg _ _ (by (try dsimp only) <;> omega))

/-- An entry of the rotated rows. -/
theorem mixQ_at (x y : FVec Ideal S16x2048x8x32 .f32) (cos sin : FVec Ideal S2048x32 .f32) (b : Fin 16) (r : Fin 2048) (h : Fin 8) (i : Fin 32) :
    mixQ x y cos sin (ix4 b r h i) = x (ix4 b r h i) * cos (ix2 r i) + y (ix4 b r h i) * sin (ix2 r i) := by
  pointwise [mixQ]

/-- An entry of the stacked rows. -/
theorem stackQ_at (x : FVec Ideal S16x2048x8x32 .f32) (y : FVec Ideal S16x256x8x32 .f32) (b : Fin 16) (r : Fin 2304) (h : Fin 8) (i : Fin 32) :
    stackQ x y (ix4 b r h i) = if hr : (r : ℕ) < 2048 then x (ix4 b ⟨(r : ℕ), hr⟩ h i) else y (ix4 b ⟨(r : ℕ) - 2048, by omega⟩ h i) := by
  pointwise [stackQ]

/-- An entry of the rotary parts, rotated. -/
theorem rotatedQ_at (x : FVec Ideal S16x2304x8x32 .f32) (cos sin : FVec Ideal S2048x32 .f32) (b : Fin 16) (r : Fin 2304) (h : Fin 8) (i : Fin 32) :
    rotatedQ x cos sin (ix4 b r h i) = rot (fun j => x (ix4 b r h j)) cos sin r i := by
  unfold rotatedQ rot
  rw [stackQ_at]
  by_cases hr : (r : ℕ) < 2048
  · rw [dif_pos hr, dif_pos hr, mixQ_at, turnQ_at, latentQ_at]
    exact congrArg (fun z => _ + turned z i * _) (funext fun j => latentQ_at x b ⟨(r : ℕ), hr⟩ h j)
  · rw [dif_neg hr, dif_neg hr, contextQ_at]
    exact congrArg (fun z : Fin 2304 => x (ix4 b z h i)) (Fin.ext (by show 2048 + ((r : ℕ) - 2048) = r; omega))

/-- An entry of the latent rows. -/
theorem latentK_at (x : FVec Ideal S16x2304x1x32 .f32) (b : Fin 16) (r : Fin 2048) (i : Fin 32) :
    latentK x (ix4 b r 0 i) = x (ix4 b ⟨(r : ℕ), by omega⟩ 0 i) := by
  pointwise [latentK]

/-- An entry of the context's rows. -/
theorem contextK_at (x : FVec Ideal S16x2304x1x32 .f32) (b : Fin 16) (r : Fin 256) (i : Fin 32) :
    contextK x (ix4 b r 0 i) = x (ix4 b ⟨2048 + (r : ℕ), by omega⟩ 0 i) := by
  pointwise [contextK]

/-- An entry of the rows turned. -/
theorem turnK_at (x : FVec Ideal S16x2048x1x32 .f32) (b : Fin 16) (r : Fin 2048) (i : Fin 32) :
    turnK x (ix4 b r 0 i) = turned (fun j => x (ix4 b r 0 j)) i := by
  have hi := i.isLt
  have cg : ∀ j j' : Fin 32, (j : ℕ) = j' → x (ix4 b r 0 j) = x (ix4 b r 0 j') := fun j j' e => by rw [Fin.ext e]
  unfold turnK turned
  pointwise
  repeat' split
  all_goals first | (exfalso; omega) | exact cg _ _ (by (try dsimp only) <;> omega) | exact congrArg Neg.neg (cg _ _ (by (try dsimp only) <;> omega))

/-- An entry of the rotated rows. -/
theorem mixK_at (x y : FVec Ideal S16x2048x1x32 .f32) (cos sin : FVec Ideal S2048x32 .f32) (b : Fin 16) (r : Fin 2048) (i : Fin 32) :
    mixK x y cos sin (ix4 b r 0 i) = x (ix4 b r 0 i) * cos (ix2 r i) + y (ix4 b r 0 i) * sin (ix2 r i) := by
  pointwise [mixK]

/-- An entry of the stacked rows. -/
theorem stackK_at (x : FVec Ideal S16x2048x1x32 .f32) (y : FVec Ideal S16x256x1x32 .f32) (b : Fin 16) (r : Fin 2304) (i : Fin 32) :
    stackK x y (ix4 b r 0 i) = if hr : (r : ℕ) < 2048 then x (ix4 b ⟨(r : ℕ), hr⟩ 0 i) else y (ix4 b ⟨(r : ℕ) - 2048, by omega⟩ 0 i) := by
  pointwise [stackK]

/-- An entry of the rotary parts, rotated. -/
theorem rotatedK_at (x : FVec Ideal S16x2304x1x32 .f32) (cos sin : FVec Ideal S2048x32 .f32) (b : Fin 16) (r : Fin 2304) (i : Fin 32) :
    rotatedK x cos sin (ix4 b r 0 i) = rot (fun j => x (ix4 b r 0 j)) cos sin r i := by
  unfold rotatedK rot
  rw [stackK_at]
  by_cases hr : (r : ℕ) < 2048
  · rw [dif_pos hr, dif_pos hr, mixK_at, turnK_at, latentK_at]
    exact congrArg (fun z => _ + turned z i * _) (funext fun j => latentK_at x b ⟨(r : ℕ), hr⟩ j)
  · rw [dif_neg hr, dif_neg hr, contextK_at]
    exact congrArg (fun z : Fin 2304 => x (ix4 b z 0 i)) (Fin.ext (by show 2048 + ((r : ℕ) - 2048) = r; omega))

/-- An entry of the rotary parts of the queries. -/
theorem partQ_at (x : FVec Ideal S16x2304x8x96 .f32) (b : Fin 16) (r : Fin 2304) (h : Fin 8) (i : Fin 32) :
    partQ x (ix4 b r h i) = x (ix4 b r h ⟨64 + (i : ℕ), by omega⟩) := by
  pointwise [partQ]

/-- An entry of the rotary key's columns. -/
theorem partK_at (p : FVec Ideal S16x2304x10752 .f32) (b : Fin 16) (r : Fin 2304) (i : Fin 32) :
    partK p (ix4 b r 0 i) = krRow p b r i := by
  pointwise [partK, krRow]

/-- An entry of the heads beside their rotated lanes. -/
theorem besideQ_at (x : FVec Ideal S16x2304x8x96 .f32) (y : FVec Ideal S16x2304x8x32 .f32) (b : Fin 16) (r : Fin 2304) (h : Fin 8) (d : Fin 96) :
    besideQ x y (ix4 b r h d) = if hd : (d : ℕ) < 64 then x (ix4 b r h d) else y (ix4 b r h ⟨(d : ℕ) - 64, by omega⟩) := by
  pointwise [besideQ]

/-- An entry of the keys beside the rotary key. -/
theorem besideK_at (x : FVec Ideal S16x2304x8x128 .f32) (y : FVec Ideal S16x2304x1x32 .f32) (b : Fin 16) (r : Fin 2304) (h : Fin 8) (d : Fin 96) :
    besideK x y (ix4 b r h d) = if hd : (d : ℕ) < 64 then x (ix4 b r h ⟨(d : ℕ), by omega⟩) else y (ix4 b r 0 ⟨(d : ℕ) - 64, by omega⟩) := by
  pointwise [besideK]

/-- A scaled entry. -/
theorem scaled_at (x : FVec Ideal S16x2304x8x96 .f32) (b : Fin 16) (r : Fin 2304) (h : Fin 8) (d : Fin 96) :
    scaled x (ix4 b r h d) = x (ix4 b r h d) * qs := by
  pointwise [scaled, scale_consts]

/-- An entry beside the zeros. -/
theorem padded_at (x : FVec Ideal S16x2304x8x96 .f32) (b : Fin 16) (r : Fin 2304) (h : Fin 8) (d : Fin 128) :
    padded x (ix4 b r h d) = if hd : (d : ℕ) < 96 then x (ix4 b r h ⟨(d : ℕ), hd⟩) else 0 := by
  pointwise [padded]

/-- An entry of the slots. -/
theorem slots_at (x : FVec Ideal S16x2304x8x128 .f32) (b : Fin 16) (r : Fin 2304) (l : Fin 1024) :
    slots x (ix3 b r l) = x (ix4 b r (headOf l) (laneOf l)) := by
  pointwise [slots, headOf, laneOf]

/-- An entry of the queries laid out. -/
theorem layQ_at (x : FVec Ideal S16x2304x8x96 .f32) (y : FVec Ideal S16x2304x8x32 .f32) (b : Fin 16) (r : Fin 2304) (l : Fin 1024) :
    layQ x y (ix3 b r l) = if hd : (l : ℕ) % 128 < 64 then x (ix4 b r (headOf l) ⟨(l : ℕ) % 128, by omega⟩) * qs
      else if hd : (l : ℕ) % 128 < 96 then y (ix4 b r (headOf l) ⟨(l : ℕ) % 128 - 64, by omega⟩) * qs else 0 := by
  unfold layQ
  rw [slots_at, padded_at]
  by_cases h2 : (l : ℕ) % 128 < 96
  · rw [dif_pos (show ((laneOf l : Fin 128) : ℕ) < 96 from h2), scaled_at, besideQ_at]
    by_cases h1 : (l : ℕ) % 128 < 64
    · rw [dif_pos (show ((laneOf l : Fin 128) : ℕ) < 64 from h1), dif_pos h1]
      rfl
    · rw [dif_neg (show ¬((laneOf l : Fin 128) : ℕ) < 64 from h1), dif_neg h1, dif_pos h2]
      rfl
  · rw [dif_neg (show ¬((laneOf l : Fin 128) : ℕ) < 96 from h2), dif_neg (show ¬(l : ℕ) % 128 < 64 by omega), dif_neg h2]

/-- An entry of the keys laid out. -/
theorem layK_at (x : FVec Ideal S16x2304x8x128 .f32) (y : FVec Ideal S16x2304x1x32 .f32) (b : Fin 16) (r : Fin 2304) (l : Fin 1024) :
    layK x y (ix3 b r l) = if (l : ℕ) % 128 < 64 then x (ix4 b r (headOf l) (laneOf l))
      else if hd : (l : ℕ) % 128 < 96 then y (ix4 b r 0 ⟨(l : ℕ) % 128 - 64, by omega⟩) else 0 := by
  unfold layK
  rw [slots_at, padded_at]
  by_cases h2 : (l : ℕ) % 128 < 96
  · rw [dif_pos (show ((laneOf l : Fin 128) : ℕ) < 96 from h2), besideK_at]
    by_cases h1 : (l : ℕ) % 128 < 64
    · rw [dif_pos (show ((laneOf l : Fin 128) : ℕ) < 64 from h1), if_pos h1]
    · rw [dif_neg (show ¬((laneOf l : Fin 128) : ℕ) < 64 from h1), if_neg h1, dif_pos h2]
      rfl
  · rw [dif_neg (show ¬((laneOf l : Fin 128) : ℕ) < 96 from h2), if_neg (show ¬(l : ℕ) % 128 < 64 by omega), dif_neg h2]

/-- An entry of the pairs. -/
theorem pairs_at (x : FVec Ideal S16x2304x8x128 .f32) (b : Fin 16) (r : Fin 2304) (q : Fin 4) (o : Fin 2) (d : Fin 64) (h : Fin 8)
    (n : Fin 128) (hh : (h : ℕ) = (q : ℕ) * 2 + o) (hn : (n : ℕ) = 64 + d) : pairs x (ix5 b r q o d) = x (ix4 b r h n) := by
  rw [show h = ⟨(q : ℕ) * 2 + (o : ℕ), by omega⟩ from Fin.ext hh, show n = ⟨64 + (d : ℕ), by omega⟩ from Fin.ext hn]
  pointwise [pairs]

/-- An entry of the even heads' values. -/
theorem evenV_at (x : FVec Ideal S16x2304x4x2x64 .f32) (b : Fin 16) (r : Fin 2304) (q : Fin 4) (d : Fin 64) :
    evenV x (ix4 b r q d) = x (ix5 b r q 0 d) := by
  pointwise [evenV]

/-- An entry of the odd heads' values. -/
theorem oddV_at (x : FVec Ideal S16x2304x4x2x64 .f32) (b : Fin 16) (r : Fin 2304) (q : Fin 4) (d : Fin 64) :
    oddV x (ix4 b r q d) = x (ix5 b r q 1 d) := by
  pointwise [oddV]

/-- An entry beside the ones. -/
theorem besideV_at (x y : FVec Ideal S16x2304x4x64 .f32) (b : Fin 16) (r : Fin 2304) (q : Fin 4) (d : Fin 256) :
    besideV x y (ix4 b r q d) = if h : (d : ℕ) < 64 then x (ix4 b r q ⟨(d : ℕ), h⟩)
      else if h' : (d : ℕ) < 192 then 1 else y (ix4 b r q ⟨(d : ℕ) - 192, by omega⟩) := by
  have hd := d.isLt
  unfold besideV
  pointwise
  by_cases h1 : (d : ℕ) < 64
  · rw [dif_pos h1, dif_pos h1]
  · rw [dif_neg h1, dif_neg h1]
    by_cases h2 : (d : ℕ) < 192
    · rw [dif_pos h2, dif_pos (show (d : ℕ) - 64 < 128 by omega)]
    · rw [dif_neg h2, dif_neg (show ¬(d : ℕ) - 64 < 128 by omega)]
      exact congrArg (fun z : Fin 64 => y (ix4 b r q z)) (Fin.ext (by show (d : ℕ) - 64 - 128 = d - 192; omega))

/-- An entry of the pairs' slots. -/
theorem slotsV_at (x : FVec Ideal S16x2304x4x256 .f32) (b : Fin 16) (r : Fin 2304) (l : Fin 1024) :
    slotsV x (ix3 b r l) = x (ix4 b r ⟨(l : ℕ) / 256, by omega⟩ ⟨(l : ℕ) % 256, by omega⟩) := by
  pointwise [slotsV]

/-- An entry of the values laid out. -/
theorem layV_at (x : FVec Ideal S16x2304x8x128 .f32) (b : Fin 16) (r : Fin 2304) (l : Fin 1024) :
    layV x (ix3 b r l) = if isOne l then 1 else x (ix4 b r (headOf l) ⟨64 + (l : ℕ) % 64, by omega⟩) := by
  have hl := l.isLt
  unfold layV
  rw [slotsV_at, besideV_at]
  by_cases h1 : (l : ℕ) % 256 < 64
  · rw [dif_pos h1, if_neg (show ¬isOne l by unfold isOne; omega), evenV_at]
    exact pairs_at x b r _ _ _ _ _ (by show (l : ℕ) / 128 = (l : ℕ) / 256 * 2 + 0; omega) (by show 64 + (l : ℕ) % 64 = 64 + (l : ℕ) % 256; omega)
  · rw [dif_neg h1]
    by_cases h2 : (l : ℕ) % 256 < 192
    · rw [dif_pos h2, if_pos (show isOne l by unfold isOne; omega)]
    · rw [dif_neg h2, if_neg (show ¬isOne l by unfold isOne; omega), oddV_at]
      exact pairs_at x b r _ _ _ _ _ (by show (l : ℕ) / 128 = (l : ℕ) / 256 * 2 + 1; omega)
        (by show 64 + (l : ℕ) % 64 = 64 + ((l : ℕ) % 256 - 192); omega)

/-- The reference's queries are the queries. -/
theorem lay_queries (p : FVec Ideal S16x2304x10752 .f32) (g : FVec Ideal S256 .f32) (w : FVec Ideal S256x768 .f32) (cos sin : FVec Ideal S2048x32 .f32) :
    layQ (headsQ (normedQ p g) w) (rotatedQ (partQ (headsQ (normedQ p g) w)) cos sin) = queries p g w cos sin := by
  have hh : ∀ (b : Fin 16) (r : Fin 2304) (h : Fin 8) (d : Fin 96),
      headsQ (normedQ p g) w (ix4 b r h d) = qCol p g w b r ⟨(h : ℕ) * 96 + (d : ℕ), by omega⟩ := fun b r h d => by
    rw [headsQ_at]
    exact Finset.sum_congr rfl fun k _ => congrArg (· * _) (normedQ_at p g b r k)
  generalize headsQ (normedQ p g) w = x at hh
  have hp : ∀ (b : Fin 16) (r : Fin 2304) (h : Fin 8), (fun j => partQ x (ix4 b r h j)) = qRot p g w b r h := fun b r h => funext fun j =>
    (partQ_at x b r h j).trans (hh b r h _)
  have key : ∀ (b : Fin 16) (r : Fin 2304) (l : Fin 1024),
      layQ x (rotatedQ (partQ x) cos sin) (ix3 b r l) = queryAt p g w cos sin b r (headOf l) (laneOf l) := fun b r l => by
    rw [layQ_at]
    unfold queryAt
    by_cases h1 : (l : ℕ) % 128 < 64
    · rw [dif_pos h1, dif_pos (show ((laneOf l : Fin 128) : ℕ) < 64 from h1), hh]
      rfl
    · rw [dif_neg h1, dif_neg (show ¬((laneOf l : Fin 128) : ℕ) < 64 from h1)]
      by_cases h2 : (l : ℕ) % 128 < 96
      · rw [dif_pos h2, dif_pos (show ((laneOf l : Fin 128) : ℕ) < 96 from h2), rotatedQ_at, hp]
        rfl
      · rw [dif_neg h2, dif_neg (show ¬((laneOf l : Fin 128) : ℕ) < 96 from h2)]
  funext i
  exact (congrArg _ (eq_ix3 i)).trans (key (i 0) (i 1) (i 2))

/-- The reference's keys are the keys. -/
theorem lay_keys (p : FVec Ideal S16x2304x10752 .f32) (g : FVec Ideal S128 .f32) (w : FVec Ideal S128x1024 .f32) (cos sin : FVec Ideal S2048x32 .f32) :
    layK (headsK (normedK p g) w) (rotatedK (partK p) cos sin) = keys p g w cos sin := by
  have hh : ∀ (b : Fin 16) (r : Fin 2304) (h : Fin 8) (d : Fin 128),
      headsK (normedK p g) w (ix4 b r h d) = kvCol p g w b r ⟨(h : ℕ) * 128 + (d : ℕ), by omega⟩ := fun b r h d => by
    rw [headsK_at]
    exact Finset.sum_congr rfl fun k _ => congrArg (· * _) (normedK_at p g b r k)
  generalize headsK (normedK p g) w = x at hh
  have hp : ∀ (b : Fin 16) (r : Fin 2304), (fun j => partK p (ix4 b r 0 j)) = krRow p b r := fun b r => funext fun j => partK_at p b r j
  have key : ∀ (b : Fin 16) (r : Fin 2304) (l : Fin 1024),
      layK x (rotatedK (partK p) cos sin) (ix3 b r l) = keyAt p g w cos sin b r l := fun b r l => by
    rw [layK_at]
    unfold keyAt
    by_cases h1 : (l : ℕ) % 128 < 64
    · rw [if_pos h1, if_pos h1, hh]
      exact congrArg _ (Fin.ext (by show (l : ℕ) / 128 * 128 + (l : ℕ) % 128 = l; omega))
    · rw [if_neg h1, if_neg h1]
      by_cases h2 : (l : ℕ) % 128 < 96
      · rw [dif_pos h2, dif_pos h2, rotatedK_at, hp]
      · rw [dif_neg h2, dif_neg h2]
  funext i
  exact (congrArg _ (eq_ix3 i)).trans (key (i 0) (i 1) (i 2))

/-- The reference's values are the values. -/
theorem lay_values (p : FVec Ideal S16x2304x10752 .f32) (g : FVec Ideal S128 .f32) (w : FVec Ideal S128x1024 .f32) :
    layV (headsK (normedK p g) w) = values p g w := by
  have hh : ∀ (b : Fin 16) (r : Fin 2304) (h : Fin 8) (d : Fin 128),
      headsK (normedK p g) w (ix4 b r h d) = kvCol p g w b r ⟨(h : ℕ) * 128 + (d : ℕ), by omega⟩ := fun b r h d => by
    rw [headsK_at]
    exact Finset.sum_congr rfl fun k _ => congrArg (· * _) (normedK_at p g b r k)
  generalize headsK (normedK p g) w = x at hh
  have key : ∀ (b : Fin 16) (r : Fin 2304) (l : Fin 1024), layV x (ix3 b r l) = valueAt p g w b r l := fun b r l => by
    rw [layV_at]
    unfold valueAt
    by_cases h1 : isOne l
    · rw [if_pos h1, if_pos h1]
    · rw [if_neg h1, if_neg h1, hh]
      exact congrArg _ (Fin.ext (by show (l : ℕ) / 128 * 128 + (64 + (l : ℕ) % 64) = 128 * ((l : ℕ) / 128) + 64 + (l : ℕ) % 64; omega))
  funext i
  exact (congrArg _ (eq_ix3 i)).trans (key (i 0) (i 1) (i 2))

/-- The queries the reference returns. -/
theorem result_queries (m : (ℓ : Loc nD τ sig) → Buf (Elt Ideal) ℓ) (c : Dev nD) :
    res_out0 m c = queries (m ((c.tc : Thread nD τ).loc main_arg0)) (m ((c.tc : Thread nD τ).loc main_arg1)) (m ((c.tc : Thread nD τ).loc main_arg2))
      (m ((c.tc : Thread nD τ).loc main_arg5)) (m ((c.tc : Thread nD τ).loc main_arg6)) :=
  lay_queries _ _ _ _ _

/-- The keys the reference returns. -/
theorem result_keys (m : (ℓ : Loc nD τ sig) → Buf (Elt Ideal) ℓ) (c : Dev nD) :
    res_out1 m c = keys (m ((c.tc : Thread nD τ).loc main_arg0)) (m ((c.tc : Thread nD τ).loc main_arg3)) (m ((c.tc : Thread nD τ).loc main_arg4))
      (m ((c.tc : Thread nD τ).loc main_arg5)) (m ((c.tc : Thread nD τ).loc main_arg6)) :=
  lay_keys _ _ _ _ _

end Cert.PrepRefIdeal.Value

end
-- ==== Proof.PrepPre.lean ====
/- What the precondition of `mla_prep` says: the gains of the queries and their matrix are real numbers. -/
module

public import proofs.«01_k».proof.Proof.Gen.Pre_finite_prep
public import proofs.«01_k».proof.Pre_finite_prep
public import Idealize.ShloMosaic.Lib.ReduceAll
public import Idealize.ShloMosaic.Lib.Pointwise

@[expose] public section

set_option maxRecDepth 16384

noncomputable section

namespace Cert.FinitePrep

open Idealize.ShloMosaic Cert.Pre_finite_prep Cert.Pre_finite_prep.Facts

variable [Cert.Pre_finite_prep.Facts]

/-- The test of the gains. -/
def belowG (x : FVec Ideal S256 .f32) : IVec S256 1 :=
  cmpf .olt (Host.absf x) (broadcastInDim S256 ![] bcast_S_S256 (constant S_ .f32 0x7F800000#32))

/-- The test of the matrix. -/
def belowW (x : FVec Ideal S256x768 .f32) : IVec S256x768 1 :=
  cmpf .olt (Host.absf x) (broadcastInDim S256x768 ![] bcast_S_S256x768 (constant S_ .f32 0x7F800000#32))

/-- The bits of infinity. -/
theorem posInf : Ideal.ofBits FTy.f32 2139095040#32 = (⊤ : EReal) := by simp [Ideal.ofBits, Ideal.ieee]

/-- A one-bit comparison that is one holds. -/
theorem of_bit {p : Bool} (h : BitVec.ofBool p = 1#1) : p = true := by
  cases p
  · exact absurd h (by decide)
  · rfl

/-- A number whose absolute value is below infinity is real. -/
theorem real_of_lt (x : EReal) (h2 : max x (-x) < Ideal.ofBits FTy.f32 2139095040#32) : ∃ a : ℝ, x = (a : EReal) := by
  rw [posInf] at h2
  have ht : x ≠ ⊤ := fun e => by
    rw [e] at h2
    simp at h2
  have hb : x ≠ ⊥ := fun e => by
    rw [e] at h2
    simp at h2
  exact ⟨x.toReal, (EReal.coe_toReal ht hb).symm⟩

/-- A conjunction of two bits that is one has both bits one. -/
theorem both {a b : BitVec 1} (h : IntOp.andi a b = 1#1) : a = 1#1 ∧ b = 1#1 := by
  revert h; revert a b; decide

/-- The result of the reduction over all the axes has one index. -/
instance : Subsingleton S_.Idx := ⟨fun a b => funext fun i => i.elim0⟩

/-- The precondition makes gains and matrix real. -/
theorem real (p : FVec Ideal S16x2304x10752 .f32) (g : FVec Ideal S256 .f32) (w : FVec Ideal S256x768 .f32) (kg : FVec Ideal S128 .f32)
    (kw : FVec Ideal S128x1024 .f32) (cos sin : FVec Ideal S2048x32 .f32) (h : fn (F := Ideal) p g w kg kw cos sin = fun _ => 1#1) :
    (∀ i, ∃ a : ℝ, g i = (a : EReal)) ∧ ∀ i, ∃ a : ℝ, w i = (a : EReal) := by
  have h0 := both (congrFun h (Shape.Idx.first h_S_))
  exact ⟨fun i => real_of_lt (g i) (of_decide_eq_true (of_bit (Host.reduce_andi_all (belowG g) _ _ _ _ h0.1 i))),
    fun i => real_of_lt (w i) (of_decide_eq_true (of_bit (Host.reduce_andi_all (belowW w) _ _ _ _ h0.2 i)))⟩

end Cert.FinitePrep

end
-- ==== Proof.PrepClaim.lean ====
/- The claims about the projections before the latent attention: the call and its reference run, keep their arguments,
   and compute the same three arrays, for a finite queries' matrix and finite gains of the queries. -/
module

public import proofs.«01_k».proof.Proof.PrepValue
public import proofs.«01_k».proof.Proof.PrepRefAt
public import proofs.«01_k».proof.Proof.PrepPre
public import proofs.«01_k».proof.Defs
public import proofs.«01_k».proof.Proof.Gen.Prep.Frame
public import Idealize.ShloMosaic.Lib.Claim
public import Idealize.ShloMosaic.Lib.Quiescent

@[expose] public section

noncomputable section

namespace Cert.Proof

open Idealize.ShloMosaic Idealize.SL.Sem

/-- The printed call runs, keeps its arguments and ends with every counter at zero. -/
theorem frame_prep : Cert.quiescent_Prep := fun m g _ => Cert.Prep.Gen.frame m g

/-- The idealized call runs, keeps its arguments and ends with every counter at zero. -/
theorem frame_prepIdeal : Cert.quiescent_PrepIdeal := fun m g _ => Cert.PrepIdeal.Gen.frame m g

/-- The reference of the call runs, keeps its arguments and ends with every counter at zero. -/
theorem frame_prepRef : Cert.quiescent_PrepRefIdeal := by
  intro m g _
  refine θ_run_mono (Cert.PrepRefIdeal.Value.run m g) fun r h => ⟨fun c => (h c).2.2.2, ?_⟩
  exact sem_eq_zero_of_no_sems rfl _

/-- Equal arguments give equal queries. -/
theorem queries_same {p p' g g' w w' cos cos' sin sin'} (h0 : p = p') (h1 : g = g') (h2 : w = w') (h3 : cos = cos') (h4 : sin = sin') :
    Cert.PrepIdeal.Value.queries p g w cos sin = Cert.PrepIdeal.Value.queries p' g' w' cos' sin' := by
  rw [h0, h1, h2, h3, h4]

/-- Equal arguments give equal keys. -/
theorem keys_same {p p' g g' w w' cos cos' sin sin'} (h0 : p = p') (h1 : g = g') (h2 : w = w') (h3 : cos = cos') (h4 : sin = sin') :
    Cert.PrepIdeal.Value.keys p g w cos sin = Cert.PrepIdeal.Value.keys p' g' w' cos' sin' := by
  rw [h0, h1, h2, h3, h4]

/-- Equal arguments give equal values. -/
theorem values_same {p p' g g' w w'} (h0 : p = p') (h1 : g = g') (h2 : w = w') :
    Cert.PrepIdeal.Value.values p g w = Cert.PrepIdeal.Value.values p' g' w' := by
  rw [h0, h1, h2]

/-- The call and its reference compute the same queries, keys and values. -/
theorem algebraic_prep : Cert.algebraic_PrepIdeal_PrepRefIdeal_pre_finite_prep := by
  pair_intro
  · run_from Cert.PrepIdeal.Value.run_blocks m g
  · run_from Cert.PrepRefIdeal.Value.run m' g'
    · refine (Cert.PrepRefIdeal.Value.result_queries m' c).trans (Eq.trans ?_ (Cert.PrepIdeal.Value.final_queries m c
        (Cert.FinitePrep.real _ _ _ _ _ _ _ (hpre c))).symm)
      exact queries_same (hagree c).1 (hagree c).2.1 (hagree c).2.2.1 (hagree c).2.2.2.2.2.1 (hagree c).2.2.2.2.2.2
    · refine (Cert.PrepRefIdeal.Value.result_keys m' c).trans (Eq.trans ?_ (Cert.PrepIdeal.Value.final_keys m c).symm)
      exact keys_same (hagree c).1 (hagree c).2.2.2.1 (hagree c).2.2.2.2.1 (hagree c).2.2.2.2.2.1 (hagree c).2.2.2.2.2.2
    · refine (Cert.PrepRefIdeal.Value.lay_values _ _ _).trans (Eq.trans ?_ (Cert.PrepIdeal.Value.final_values m c).symm)
      first
        | exact values_same rfl (hagree c).2.2.2.1 (hagree c).2.2.2.2.1
        | exact values_same (hagree c).1 (hagree c).2.2.2.1 (hagree c).2.2.2.2.1

end Cert.Proof

end
-- ==== Proof.lean ====
module

public import proofs.«01_k».proof.Proof.Gen.AttnIdeal.Value
public import proofs.«01_k».proof.Proof.Gen.AttnRefIdeal.Run
public import proofs.«01_k».proof.Proof.AttnValue
public import proofs.«01_k».proof.Proof.AttnRefAt
public import proofs.«01_k».proof.Proof.AttnPre
public import proofs.«01_k».proof.Proof.InProjClaim
public import proofs.«01_k».proof.Proof.MergeClaim
public import proofs.«01_k».proof.Proof.MergeCtxClaim
public import proofs.«01_k».proof.Proof.AdalnClaim
public import proofs.«01_k».proof.Proof.PrepClaim
public import proofs.«01_k».proof.Defs
public import Idealize.ShloMosaic.Lib.Claim
public import Idealize.ShloMosaic.Lib.Quiescent
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Pre_finite_qk
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeCtx
public import proofs.«01_k».proof.Proof.Gen.MergeCtx.Skeleton
public import proofs.«01_k».proof.Proof.Gen.MergeCtx.Launch
public import proofs.«01_k».proof.Proof.Gen.MergeCtx.Points
public import proofs.«01_k».proof.Proof.Gen.MergeCtx.Frame
public import proofs.«01_k».proof.Proof.Gen.MergeCtxIdeal
public import proofs.«01_k».proof.Proof.Gen.MergeCtxIdeal.Skeleton
public import proofs.«01_k».proof.Proof.Gen.MergeCtxIdeal.Launch
public import proofs.«01_k».proof.Proof.Gen.MergeCtxIdeal.Points
public import proofs.«01_k».proof.Proof.Gen.MergeCtxIdeal.Frame
public import proofs.«01_k».proof.Proof.Gen.MergeCtxIdeal.Value
public import proofs.«01_k».proof.Proof.Gen.MergeCtxRefIdeal
public import proofs.«01_k».proof.Proof.Gen.MergeCtxRefIdeal.Run
public import proofs.«01_k».proof.Proof.Gen.Adaln
public import proofs.«01_k».proof.Proof.Gen.Adaln.Skeleton
public import proofs.«01_k».proof.Proof.Gen.Adaln.Launch
public import proofs.«01_k».proof.Proof.Gen.Adaln.Points
public import proofs.«01_k».proof.Proof.Gen.Adaln.Frame
public import proofs.«01_k».proof.Proof.Gen.AdalnIdeal
public import proofs.«01_k».proof.Proof.Gen.AdalnIdeal.Skeleton
public import proofs.«01_k».proof.Proof.Gen.AdalnIdeal.Launch
public import proofs.«01_k».proof.Proof.Gen.AdalnIdeal.Points
public import proofs.«01_k».proof.Proof.Gen.AdalnIdeal.Frame
public import proofs.«01_k».proof.Proof.Gen.AdalnIdeal.Value
public import proofs.«01_k».proof.Proof.Gen.AdalnRefIdeal
public import proofs.«01_k».proof.Proof.Gen.AdalnRefIdeal.Run
public import proofs.«01_k».proof.Proof.Gen.Prep
public import proofs.«01_k».proof.Proof.Gen.Prep.Skeleton
public import proofs.«01_k».proof.Proof.Gen.Prep.Launch
public import proofs.«01_k».proof.Proof.Gen.Prep.Points
public import proofs.«01_k».proof.Proof.Gen.Prep.Frame
public import proofs.«01_k».proof.Proof.Gen.PrepIdeal
public import proofs.«01_k».proof.Proof.Gen.PrepIdeal.Skeleton
public import proofs.«01_k».proof.Proof.Gen.PrepIdeal.Launch
public import proofs.«01_k».proof.Proof.Gen.PrepIdeal.Points
public import proofs.«01_k».proof.Proof.Gen.PrepIdeal.Frame
public import proofs.«01_k».proof.Proof.Gen.PrepIdeal.Value
public import proofs.«01_k».proof.Proof.Gen.PrepRefIdeal
public import proofs.«01_k».proof.Proof.Gen.PrepRefIdeal.Run
public import proofs.«01_k».proof.Proof.Gen.Pre_finite_prep
public import Idealize.ShloMosaic.Adequacy
public import Idealize.ShloMosaic.Init

@[expose] public section

noncomputable section

namespace Cert.Proof

open Idealize.ShloMosaic Idealize.SL.Sem Cert.Attn

/-- The printed attention runs, keeps its arguments and ends with every counter at zero. -/
theorem frame_attn : Cert.quiescent_Attn := fun m g _ => Cert.Attn.Gen.frame m g

/-- The idealized attention runs, keeps its arguments and ends with every counter at zero. -/
theorem frame_attnIdeal : Cert.quiescent_AttnIdeal := fun m g _ => Cert.AttnIdeal.Gen.frame m g

/-- The reference of the attention runs, keeps its arguments and ends with every counter at zero. -/
theorem frame_attnRef : Cert.quiescent_AttnRefIdeal := by
  intro m g _
  refine θ_run_mono (Cert.AttnRefIdeal.Value.run m g) fun r h => ⟨fun c => (h c).2, ?_⟩
  exact sem_eq_zero_of_no_sems rfl _

/-- The attention and its reference compute one array, for real queries and keys. -/
theorem algebraic_attn : Cert.algebraic_AttnIdeal_AttnRefIdeal_pre_finite_qk := by
  pair_intro
  · run_from Cert.AttnIdeal.Value.run_blocks m g
  · run_from Cert.AttnRefIdeal.Value.run m' g'
    have hf := Cert.FiniteQK.real _ _ _ (hpre c)
    have h0 := (hagree c).1
    have h1 := (hagree c).2.1
    have h2 := (hagree c).2.2
    refine (Cert.AttnRefIdeal.Value.result m' c ?_ ?_).trans ?_
    · rw [show Cert.AttnRefIdeal.Value.rq m' c = Cert.AttnIdeal.Value.aq m c from h0]
      exact hf.1
    · rw [show Cert.AttnRefIdeal.Value.rk m' c = Cert.AttnIdeal.Value.ak m c from h1]
      exact hf.2
    · rw [show Cert.AttnRefIdeal.Value.rq m' c = Cert.AttnIdeal.Value.aq m c from h0,
        show Cert.AttnRefIdeal.Value.rk m' c = Cert.AttnIdeal.Value.ak m c from h1,
        show Cert.AttnRefIdeal.Value.rv m' c = Cert.AttnIdeal.Value.av m c from h2]
      exact (Cert.AttnIdeal.Value.final m c hf).symm

theorem claim : Cert.Claim := ⟨Cert.Attn.Gen.facts, Cert.AttnIdeal.Gen.facts, Cert.AttnRefIdeal.Gen.facts,
  Cert.InProj.Gen.facts, Cert.InProjIdeal.Gen.facts, Cert.InProjRefIdeal.Gen.facts,
  Cert.Merge.Gen.facts, Cert.MergeIdeal.Gen.facts, Cert.MergeRefIdeal.Gen.facts,
  Cert.MergeCtx.Gen.facts, Cert.MergeCtxIdeal.Gen.facts, Cert.MergeCtxRefIdeal.Gen.facts,
  Cert.Adaln.Gen.facts, Cert.AdalnIdeal.Gen.facts, Cert.AdalnRefIdeal.Gen.facts,
  Cert.Prep.Gen.facts, Cert.PrepIdeal.Gen.facts, Cert.PrepRefIdeal.Gen.facts, Cert.Pre_finite_qk.Gen.facts, Cert.Pre_finite_prep.Gen.facts,
  frame_attn, frame_attnIdeal, fun m g _ => frame_attnIdeal m g trivial, frame_attnRef, fun m g _ => frame_attnRef m g trivial,
  frame_inproj, frame_inprojIdeal, frame_inprojRef, frame_merge, frame_mergeIdeal, frame_mergeRef,
  frame_mergeCtx, frame_mergeCtxIdeal, frame_mergeCtxRef, frame_adaln, frame_adalnIdeal, frame_adalnRef,
  frame_prep, frame_prepIdeal, fun m g _ => frame_prepIdeal m g trivial, frame_prepRef, fun m g _ => frame_prepRef m g trivial,
  trivial, algebraic_attn, trivial, algebraic_inproj, trivial, algebraic_merge,
  trivial, algebraic_mergeCtx, trivial, algebraic_adaln, trivial, algebraic_prep⟩

end Cert.Proof

end
